-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_decaying [hPre_real_and_decaying : Cert.Pre_real_and_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_real_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_decaying [hPre_real_and_decaying : Cert.Pre_real_and_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_real_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_real_and_decaying [hKernelIdeal : Cert.KernelIdeal.Facts] [hPre_real_and_decaying : Cert.Pre_real_and_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_real_and_decaying [hReferenceIdeal : Cert.ReferenceIdeal.Facts] [hPre_real_and_decaying : Cert.Pre_real_and_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_grad" .f32 0x3E095D4F#32 ((26829 / 200000 : ℝ) : EReal)

def algebraic_KernelIdeal_ReferenceIdeal_pre_real_and_decaying [hKernelIdeal : Cert.KernelIdeal.Facts] [hReferenceIdeal : Cert.ReferenceIdeal.Facts] [hPre_real_and_decaying : Cert.Pre_real_and_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)) (v2 : (c : Dev Cert.KernelIdeal.nD) → Buf (Elt Ideal) ((c.tc : Thread Cert.KernelIdeal.nD Cert.KernelIdeal.τ).loc Cert.KernelIdeal.main_v92_2)) (v3 : (c : Dev Cert.KernelIdeal.nD) → Buf (Elt Ideal) ((c.tc : Thread Cert.KernelIdeal.nD Cert.KernelIdeal.τ).loc Cert.KernelIdeal.main_v92_3)) (v4 : (c : Dev Cert.KernelIdeal.nD) → Buf (Elt Ideal) ((c.tc : Thread Cert.KernelIdeal.nD Cert.KernelIdeal.τ).loc Cert.KernelIdeal.main_v92_4)) (v5 : (c : Dev Cert.KernelIdeal.nD) → Buf (Elt Ideal) ((c.tc : Thread Cert.KernelIdeal.nD Cert.KernelIdeal.τ).loc Cert.KernelIdeal.main_v92_5)) (v6 : (c : Dev Cert.KernelIdeal.nD) → Buf (Elt Ideal) ((c.tc : Thread Cert.KernelIdeal.nD Cert.KernelIdeal.τ).loc Cert.KernelIdeal.main_v92_6)) (v7 : (c : Dev Cert.KernelIdeal.nD) → Buf (Elt Ideal) ((c.tc : Thread Cert.KernelIdeal.nD Cert.KernelIdeal.τ).loc Cert.KernelIdeal.main_v92_7)) (v8 : (c : Dev Cert.KernelIdeal.nD) → Buf (Elt Ideal) ((c.tc : Thread Cert.KernelIdeal.nD Cert.KernelIdeal.τ).loc Cert.KernelIdeal.main_v92_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_v92_2) = v2 c
          ∧ r.2.mem ((c.tc : Thread Cert.KernelIdeal.nD Cert.KernelIdeal.τ).loc Cert.KernelIdeal.main_v92_3) = v3 c
          ∧ r.2.mem ((c.tc : Thread Cert.KernelIdeal.nD Cert.KernelIdeal.τ).loc Cert.KernelIdeal.main_v92_4) = v4 c
          ∧ r.2.mem ((c.tc : Thread Cert.KernelIdeal.nD Cert.KernelIdeal.τ).loc Cert.KernelIdeal.main_v92_5) = v5 c
          ∧ r.2.mem ((c.tc : Thread Cert.KernelIdeal.nD Cert.KernelIdeal.τ).loc Cert.KernelIdeal.main_v92_6) = v6 c
          ∧ r.2.mem ((c.tc : Thread Cert.KernelIdeal.nD Cert.KernelIdeal.τ).loc Cert.KernelIdeal.main_v92_7) = v7 c
          ∧ r.2.mem ((c.tc : Thread Cert.KernelIdeal.nD Cert.KernelIdeal.τ).loc Cert.KernelIdeal.main_v92_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_v252) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_v206) = v3 c
          ∧ r.2.mem ((c.tc : Thread Cert.ReferenceIdeal.nD Cert.ReferenceIdeal.τ).loc Cert.ReferenceIdeal.main_v195) = v4 c
          ∧ r.2.mem ((c.tc : Thread Cert.ReferenceIdeal.nD Cert.ReferenceIdeal.τ).loc Cert.ReferenceIdeal.main_v193) = v5 c
          ∧ r.2.mem ((c.tc : Thread Cert.ReferenceIdeal.nD Cert.ReferenceIdeal.τ).loc Cert.ReferenceIdeal.main_v202) = v6 c
          ∧ r.2.mem ((c.tc : Thread Cert.ReferenceIdeal.nD Cert.ReferenceIdeal.τ).loc Cert.ReferenceIdeal.main_v200) = v7 c
          ∧ r.2.mem ((c.tc : Thread Cert.ReferenceIdeal.nD Cert.ReferenceIdeal.τ).loc Cert.ReferenceIdeal.main_v188) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_real_and_decaying : Cert.Pre_real_and_decaying.Facts),
    quiescent_Kernel (hKernel := hKernel)
    ∧ quiescent_KernelIdeal (hKernelIdeal := hKernelIdeal)
    ∧ quiescent_KernelIdeal_pre_real_and_decaying (hKernelIdeal := hKernelIdeal) (hPre_real_and_decaying := hPre_real_and_decaying)
    ∧ quiescent_ReferenceIdeal (hReferenceIdeal := hReferenceIdeal)
    ∧ quiescent_ReferenceIdeal_pre_real_and_decaying (hReferenceIdeal := hReferenceIdeal) (hPre_real_and_decaying := hPre_real_and_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_real_and_decaying (hKernelIdeal := hKernelIdeal) (hReferenceIdeal := hReferenceIdeal) (hPre_real_and_decaying := hPre_real_and_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_real_and_decaying.lean ====
abbrev S8192x3840 : Shape := ⟨2, ![8192, 3840]⟩
abbrev S4x256 : Shape := ⟨2, ![4, 256]⟩
abbrev S1x256 : Shape := ⟨2, ![1, 256]⟩
abbrev S256x256 : Shape := ⟨2, ![256, 256]⟩
abbrev S8192x1024 : Shape := ⟨2, ![8192, 1024]⟩
abbrev S8192x256 : Shape := ⟨2, ![8192, 256]⟩
abbrev S_ : Shape := ⟨0, ![]⟩
abbrev S3x256 : Shape := ⟨2, ![3, 256]⟩
abbrev S8195x256 : Shape := ⟨2, ![8195, 256]⟩
abbrev S256 : Shape := ⟨1, ![256]⟩

class Facts : Prop where
  slices_S8192x3840_S8192x256_0_3072 : S8192x3840.Slices ![0, 3072] S8192x256
  bcast_S_S3x256 : S_.BroadcastsInDim S3x256 (![] : Fin 0 → Fin S3x256.rank)
  concatenates_S3x256_S8192x256_S8195x256_d0 : Shape.Concatenates [S3x256, S8192x256] S8195x256 0
  slices_S8195x256_S8192x256_0_0 : S8195x256.Slices ![0, 0] S8192x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S8195x256_S8192x256_1_0 : S8195x256.Slices ![1, 0] S8192x256
  slices_S4x256_S1x256_1_0 : S4x256.Slices ![1, 0] S1x256
  slices_S8195x256_S8192x256_2_0 : S8195x256.Slices ![2, 0] S8192x256
  slices_S4x256_S1x256_2_0 : S4x256.Slices ![2, 0] S1x256
  slices_S8195x256_S8192x256_3_0 : S8195x256.Slices ![3, 0] S8192x256
  slices_S4x256_S1x256_3_0 : S4x256.Slices ![3, 0] S1x256
  bcast_S_S8192x3840 : S_.BroadcastsInDim S8192x3840 (![] : Fin 0 → Fin S8192x3840.rank)
  bcast_S_S4x256 : S_.BroadcastsInDim S4x256 (![] : Fin 0 → Fin S4x256.rank)
  bcast_S_S1x256 : S_.BroadcastsInDim S1x256 (![] : Fin 0 → Fin S1x256.rank)
  bcast_S_S256x256 : S_.BroadcastsInDim S256x256 (![] : Fin 0 → Fin S256x256.rank)
  bcast_S_S8192x1024 : S_.BroadcastsInDim S8192x1024 (![] : Fin 0 → Fin S8192x1024.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []

variable [Facts]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def fn_softplus {F : FTy → Type} [FloatOps F] (arg0 : FVec F S1x256 .f32) : FVec F S1x256 .f32 :=
  let cst : FVec F S_ .f32 := constant S_ .f32 0x00000000#32
  let v0 : FVec F S1x256 .f32 := broadcastInDim S1x256 ![] bcast_S_S1x256 cst
  let v1 : FVec F S1x256 .f32 := maximumf arg0 v0
  let v2 : FVec F S1x256 .f32 := broadcastInDim S1x256 ![] bcast_S_S1x256 cst
  let v3 : FVec F S1x256 .f32 := subf arg0 v2
  let v4 : IVec S1x256 1 := cmpf .une v3 v3
  let v5 : FVec F S1x256 .f32 := broadcastInDim S1x256 ![] bcast_S_S1x256 cst
  let v6 : FVec F S1x256 .f32 := addf arg0 v5
  let v7 : FVec F S1x256 .f32 := Host.absf v3
  let v8 : FVec F S1x256 .f32 := Host.negf v7
  let v9 : FVec F S1x256 .f32 := Host.exp v8
  let v10 : FVec F S1x256 .f32 := Host.log1p v9
  let v11 : FVec F S1x256 .f32 := addf v1 v10
  let v12 : FVec F S1x256 .f32 := select v4 v6 v11
  v12

def fn_part3 {F : FTy → Type} [FloatOps F] (main_arg7 : FVec F S1x256 .f32) (main_v34 : IVec S8192x3840 1) (main_v37 : IVec S4x256 1) (main_v40 : IVec S1x256 1) (main_v43 : IVec S256x256 1) (main_v46 : IVec S1x256 1) (main_v49 : IVec S256x256 1) (main_v52 : IVec S1x256 1) (main_v55 : IVec S1x256 1) (main_v58 : IVec S8192x1024 1) (main_v61 : FVec F S8192x256 .f32) : IVec S8192x3840 1 × IVec S4x256 1 × IVec S1x256 1 × IVec S256x256 1 × IVec S1x256 1 × IVec S256x256 1 × IVec S1x256 1 × IVec S1x256 1 × IVec S8192x1024 1 × IVec S8192x256 1 :=
  let main_v62 : FVec F S8192x256 .f32 := Host.negf main_v61
  let main_v63 : FVec F S8192x256 .f32 := Host.exp main_v62
  let main_cst_9 : FVec F S_ .f32 := constant S_ .f32 0x3F800000#32
  let main_v64 : FVec F S8192x256 .f32 := broadcastInDim S8192x256 ![] bcast_S_S8192x256 main_cst_9
  let main_v65 : FVec F S8192x256 .f32 := addf main_v64 main_v63
  let main_cst_10 : FVec F S_ .f32 := constant S_ .f32 0x3F800000#32
  let main_v66 : FVec F S8192x256 .f32 := broadcastInDim S8192x256 ![] bcast_S_S8192x256 main_cst_10
  let main_v67 : FVec F S8192x256 .f32 := Host.divf main_v66 main_v65
  let main_cst_11 : FVec F S_ .f32 := constant S_ .f32 0xC1000000#32
  let main_v68 : FVec F S8192x256 .f32 := broadcastInDim S8192x256 ![] bcast_S_S8192x256 main_cst_11
  let main_v69 : FVec F S8192x256 .f32 := mulf main_v68 main_v67
  let main_v70 : FVec F S1x256 .f32 := Host.negf main_arg7
  let main_v71 : FVec F S1x256 .f32 := fn_softplus (F := F) main_v70
  let main_v72 : FVec F S8192x256 .f32 := broadcastInDim S8192x256 ![0, 1] bcast_S1x256_S8192x256_0_1 main_v71
  let main_v73 : FVec F S8192x256 .f32 := mulf main_v69 main_v72
  let main_cst_12 : FVec F S_ .f32 := constant S_ .f32 0x40000000#32
  let main_v74 : FVec F S8192x256 .f32 := broadcastInDim S8192x256 ![] bcast_S_S8192x256 main_cst_12
  let main_v75 : FVec F S8192x256 .f32 := mulf main_v74 main_v73
  let main_cst_13 : FVec F S_ .f32 := constant S_ .f32 0xBC23D70A#32
  let main_v76 : FVec F S8192x256 .f32 := broadcastInDim S8192x256 ![] bcast_S_S8192x256 main_cst_13
  let main_v77 : IVec S8192x256 1 := cmpf .ole main_v75 main_v76
  (main_v34, main_v37, main_v40, main_v43, main_v46, main_v49, main_v52, main_v55, main_v58, main_v77)

def fn_part2 {F : FTy → Type} [FloatOps F] (main_arg3 : FVec F S256x256 .f32) (main_arg4 : FVec F S1x256 .f32) (main_arg5 : FVec F S256x256 .f32) (main_arg6 : FVec F S1x256 .f32) (main_arg7 : FVec F S1x256 .f32) (main_arg8 : FVec F S8192x1024 .f32) (main_v31 : FVec F S8192x256 .f32) (main_v34 : IVec S8192x3840 1) (main_v37 : IVec S4x256 1) (main_v40 : IVec S1x256 1) (main_v41 : FVec F S256x256 .f32) (main_v42 : FVec F S256x256 .f32) : IVec S8192x3840 1 × IVec S4x256 1 × IVec S1x256 1 × IVec S256x256 1 × IVec S1x256 1 × IVec S256x256 1 × IVec S1x256 1 × IVec S1x256 1 × IVec S8192x1024 1 × IVec S8192x256 1 :=
  let main_v43 : IVec S256x256 1 := cmpf .olt main_v41 main_v42
  let main_v44 : FVec F S1x256 .f32 := Host.absf main_arg4
  let main_cst_4 : FVec F S_ .f32 := constant S_ .f32 0x7F800000#32
  let main_v45 : FVec F S1x256 .f32 := broadcastInDim S1x256 ![] bcast_S_S1x256 main_cst_4
  let main_v46 : IVec S1x256 1 := cmpf .olt main_v44 main_v45
  let main_v47 : FVec F S256x256 .f32 := Host.absf main_arg5
  let main_cst_5 : FVec F S_ .f32 := constant S_ .f32 0x7F800000#32
  let main_v48 : FVec F S256x256 .f32 := broadcastInDim S256x256 ![] bcast_S_S256x256 main_cst_5
  let main_v49 : IVec S256x256 1 := cmpf .olt main_v47 main_v48
  let main_v50 : FVec F S1x256 .f32 := Host.absf main_arg6
  let main_cst_6 : FVec F S_ .f32 := constant S_ .f32 0x7F800000#32
  let main_v51 : FVec F S1x256 .f32 := broadcastInDim S1x256 ![] bcast_S_S1x256 main_cst_6
  let main_v52 : IVec S1x256 1 := cmpf .olt main_v50 main_v51
  let main_v53 : FVec F S1x256 .f32 := Host.absf main_arg7
  let main_cst_7 : FVec F S_ .f32 := constant S_ .f32 0x7F800000#32
  let main_v54 : FVec F S1x256 .f32 := broadcastInDim S1x256 ![] bcast_S_S1x256 main_cst_7
  let main_v55 : IVec S1x256 1 := cmpf .olt main_v53 main_v54
  let main_v56 : FVec F S8192x1024 .f32 := Host.absf main_arg8
  let main_cst_8 : FVec F S_ .f32 := constant S_ .f32 0x7F800000#32
  let main_v57 : FVec F S8192x1024 .f32 := broadcastInDim S8192x1024 ![] bcast_S_S8192x1024 main_cst_8
  let main_v58 : IVec S8192x1024 1 := cmpf .olt main_v56 main_v57
  let main_v59 : FVec F S8192x256 .f32 := (fun l r => Host.dotGeneral dot_S8192x256_S256x256_S8192x256_1_0_0_1_n_n none l r) main_v31 main_arg3
  let main_v60 : FVec F S8192x256 .f32 := broadcastInDim S8192x256 ![0, 1] bcast_S1x256_S8192x256_0_1 main_arg4
  let main_v61 : FVec F S8192x256 .f32 := addf main_v59 main_v60
  fn_part3 (F := F) main_arg7 main_v34 main_v37 main_v40 main_v43 main_v46 main_v49 main_v52 main_v55 main_v58 main_v61

def fn_part1 {F : FTy → Type} [FloatOps F] (main_arg0 : FVec F S8192x3840 .f32) (main_arg1 : FVec F S4x256 .f32) (main_arg2 : FVec F S1x256 .f32) (main_arg3 : FVec F S256x256 .f32) (main_arg4 : FVec F S1x256 .f32) (main_arg5 : FVec F S256x256 .f32) (main_arg6 : FVec F S1x256 .f32) (main_arg7 : FVec F S1x256 .f32) (main_arg8 : FVec F S8192x1024 .f32) (main_v2 : FVec F S8195x256 .f32) (main_v22 : FVec F S8192x256 .f32) : IVec S8192x3840 1 × IVec S4x256 1 × IVec S1x256 1 × IVec S256x256 1 × IVec S1x256 1 × IVec S256x256 1 × IVec S1x256 1 × IVec S1x256 1 × IVec S8192x1024 1 × IVec S8192x256 1 :=
  let main_v23 : FVec F S8192x256 .f32 := (extractStridedSlice S8192x256 ![3, 0] · slices_S8195x256_S8192x256_3_0) main_v2
  let main_v24 : FVec F S1x256 .f32 := (extractStridedSlice S1x256 ![3, 0] · slices_S4x256_S1x256_3_0) main_arg1
  let main_v25 : FVec F S256 .f32 := shapeCast S256 main_v24 shapeCasts_S1x256_S256
  let main_v26 : FVec F S1x256 .f32 := broadcastInDim S1x256 ![1] bcast_S256_S1x256_1 main_v25
  let main_v27 : FVec F S8192x256 .f32 := broadcastInDim S8192x256 ![0, 1] bcast_S1x256_S8192x256_0_1 main_v26
  let main_v28 : FVec F S8192x256 .f32 := mulf main_v23 main_v27
  let main_v29 : FVec F S8192x256 .f32 := addf main_v22 main_v28
  let main_v30 : FVec F S8192x256 .f32 := broadcastInDim S8192x256 ![0, 1] bcast_S1x256_S8192x256_0_1 main_arg2
  let main_v31 : FVec F S8192x256 .f32 := addf main_v29 main_v30
  let main_v32 : FVec F S8192x3840 .f32 := Host.absf main_arg0
  let main_cst_0 : FVec F S_ .f32 := constant S_ .f32 0x7F800000#32
  let main_v33 : FVec F S8192x3840 .f32 := broadcastInDim S8192x3840 ![] bcast_S_S8192x3840 main_cst_0
  let main_v34 : IVec S8192x3840 1 := cmpf .olt main_v32 main_v33
  let main_v35 : FVec F S4x256 .f32 := Host.absf main_arg1
  let main_cst_1 : FVec F S_ .f32 := constant S_ .f32 0x7F800000#32
  let main_v36 : FVec F S4x256 .f32 := broadcastInDim S4x256 ![] bcast_S_S4x256 main_cst_1
  let main_v37 : IVec S4x256 1 := cmpf .olt main_v35 main_v36
  let main_v38 : FVec F S1x256 .f32 := Host.absf main_arg2
  let main_cst_2 : FVec F S_ .f32 := constant S_ .f32 0x7F800000#32
  let main_v39 : FVec F S1x256 .f32 := broadcastInDim S1x256 ![] bcast_S_S1x256 main_cst_2
  let main_v40 : IVec S1x256 1 := cmpf .olt main_v38 main_v39
  let main_v41 : FVec F S256x256 .f32 := Host.absf main_arg3
  let main_cst_3 : FVec F S_ .f32 := constant S_ .f32 0x7F800000#32
  let main_v42 : FVec F S256x256 .f32 := broadcastInDim S256x256 ![] bcast_S_S256x256 main_cst_3
  fn_part2 (F := F) main_arg3 main_arg4 main_arg5 main_arg6 main_arg7 main_arg8 main_v31 main_v34 main_v37 main_v40 main_v41 main_v42

def fn {F : FTy → Type} [FloatOps F] (main_arg0 : FVec F S8192x3840 .f32) (main_arg1 : FVec F S4x256 .f32) (main_arg2 : FVec F S1x256 .f32) (main_arg3 : FVec F S256x256 .f32) (main_arg4 : FVec F S1x256 .f32) (main_arg5 : FVec F S256x256 .f32) (main_arg6 : FVec F S1x256 .f32) (main_arg7 : FVec F S1x256 .f32) (main_arg8 : FVec F S8192x1024 .f32) : IVec S8192x3840 1 × IVec S4x256 1 × IVec S1x256 1 × IVec S256x256 1 × IVec S1x256 1 × IVec S256x256 1 × IVec S1x256 1 × IVec S1x256 1 × IVec S8192x1024 1 × IVec S8192x256 1 :=
  let main_v0 : FVec F S8192x256 .f32 := (extractStridedSlice S8192x256 ![0, 3072] · slices_S8192x3840_S8192x256_0_3072) main_arg0
  let main_cst : FVec F S_ .f32 := constant S_ .f32 0x00000000#32
  let main_v1 : FVec F S3x256 .f32 := broadcastInDim S3x256 ![] bcast_S_S3x256 main_cst
  let main_v2 : FVec F S8195x256 .f32 := (fun a b => concatenate S8195x256 0 [⟨S3x256, a⟩, ⟨S8192x256, b⟩] concatenates_S3x256_S8192x256_S8195x256_d0) main_v1 main_v0
  let main_v3 : FVec F S8192x256 .f32 := (extractStridedSlice S8192x256 ![0, 0] · slices_S8195x256_S8192x256_0_0) main_v2
  let main_v4 : FVec F S1x256 .f32 := (extractStridedSlice S1x256 ![0, 0] · slices_S4x256_S1x256_0_0) main_arg1
  let main_v5 : FVec F S256 .f32 := shapeCast S256 main_v4 shapeCasts_S1x256_S256
  let main_v6 : FVec F S1x256 .f32 := broadcastInDim S1x256 ![1] bcast_S256_S1x256_1 main_v5
  let main_v7 : FVec F S8192x256 .f32 := broadcastInDim S8192x256 ![0, 1] bcast_S1x256_S8192x256_0_1 main_v6
  let main_v8 : FVec F S8192x256 .f32 := mulf main_v3 main_v7
  let main_v9 : FVec F S8192x256 .f32 := (extractStridedSlice S8192x256 ![1, 0] · slices_S8195x256_S8192x256_1_0) main_v2
  let main_v10 : FVec F S1x256 .f32 := (extractStridedSlice S1x256 ![1, 0] · slices_S4x256_S1x256_1_0) main_arg1
  let main_v11 : FVec F S256 .f32 := shapeCast S256 main_v10 shapeCasts_S1x256_S256
  let main_v12 : FVec F S1x256 .f32 := broadcastInDim S1x256 ![1] bcast_S256_S1x256_1 main_v11
  let main_v13 : FVec F S8192x256 .f32 := broadcastInDim S8192x256 ![0, 1] bcast_S1x256_S8192x256_0_1 main_v12
  let main_v14 : FVec F S8192x256 .f32 := mulf main_v9 main_v13
  let main_v15 : FVec F S8192x256 .f32 := addf main_v8 main_v14
  let main_v16 : FVec F S8192x256 .f32 := (extractStridedSlice S8192x256 ![2, 0] · slices_S8195x256_S8192x256_2_0) main_v2
  let main_v17 : FVec F S1x256 .f32 := (extractStridedSlice S1x256 ![2, 0] · slices_S4x256_S1x256_2_0) main_arg1
  let main_v18 : FVec F S256 .f32 := shapeCast S256 main_v17 shapeCasts_S1x256_S256
  let main_v19 : FVec F S1x256 .f32 := broadcastInDim S1x256 ![1] bcast_S256_S1x256_1 main_v18
  let main_v20 : FVec F S8192x256 .f32 := broadcastInDim S8192x256 ![0, 1] bcast_S1x256_S8192x256_0_1 main_v19
  let main_v21 : FVec F S8192x256 .f32 := mulf main_v16 main_v20
  let main_v22 : FVec F S8192x256 .f32 := addf main_v15 main_v21
  fn_part1 (F := F) main_arg0 main_arg1 main_arg2 main_arg3 main_arg4 main_arg5 main_arg6 main_arg7 main_arg8 main_v2 main_v22
-- ==== Kernel.lean ====
abbrev S8192x3840 : Shape := ⟨2, ![8192, 3840]⟩
abbrev S4x256 : Shape := ⟨2, ![4, 256]⟩
abbrev S1x256 : Shape := ⟨2, ![1, 256]⟩
abbrev S256x256 : Shape := ⟨2, ![256, 256]⟩
abbrev S8192x1024 : Shape := ⟨2, ![8192, 1024]⟩
abbrev S8192x256 : Shape := ⟨2, ![8192, 256]⟩
abbrev S_ : Shape := ⟨0, ![]⟩
abbrev S3x256 : Shape := ⟨2, ![3, 256]⟩
abbrev S8195x256 : Shape := ⟨2, ![8195, 256]⟩
abbrev S256 : Shape := ⟨1, ![256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S1x8192x256 : Shape := ⟨3, ![1, 8192, 256]⟩
abbrev S8192x8192x256 : Shape := ⟨3, ![8192, 8192, 256]⟩
abbrev S8192x1x256 : Shape := ⟨3, ![8192, 1, 256]⟩
abbrev S512x256 : Shape := ⟨2, ![512, 256]⟩
abbrev S8x256 : Shape := ⟨2, ![8, 256]⟩
abbrev S504x256 : Shape := ⟨2, ![504, 256]⟩

abbrev nBuf : Space → Nat
  | .hbm => 147
  | .vmem => 35
  | .smem => 0
  | _ => 0

abbrev hbmTy0_0 (i : Nat) : BufTy := match i % 128 with
  | 0 => ⟨S8192x3840, .f32⟩
  | 1 => ⟨S4x256, .f32⟩
  | 2 => ⟨S1x256, .f32⟩
  | 3 => ⟨S256x256, .f32⟩
  | 4 => ⟨S1x256, .f32⟩
  | 5 => ⟨S256x256, .f32⟩
  | 6 => ⟨S1x256, .f32⟩
  | 7 => ⟨S1x256, .f32⟩
  | 8 => ⟨S8192x1024, .f32⟩
  | 9 => ⟨S8192x256, .f32⟩
  | 10 => ⟨S_, .f32⟩
  | 11 => ⟨S3x256, .f32⟩
  | 12 => ⟨S8195x256, .f32⟩
  | 13 => ⟨S8192x256, .f32⟩
  | 14 => ⟨S1x256, .f32⟩
  | 15 => ⟨S256, .f32⟩
  | 16 => ⟨S1x256, .f32⟩
  | 17 => ⟨S8192x256, .f32⟩
  | 18 => ⟨S8192x256, .f32⟩
  | 19 => ⟨S8192x256, .f32⟩
  | 20 => ⟨S1x256, .f32⟩
  | 21 => ⟨S256, .f32⟩
  | 22 => ⟨S1x256, .f32⟩
  | 23 => ⟨S8192x256, .f32⟩
  | 24 => ⟨S8192x256, .f32⟩
  | 25 => ⟨S8192x256, .f32⟩
  | 26 => ⟨S8192x256, .f32⟩
  | 27 => ⟨S1x256, .f32⟩
  | 28 => ⟨S256, .f32⟩
  | 29 => ⟨S1x256, .f32⟩
  | 30 => ⟨S8192x256, .f32⟩
  | 31 => ⟨S8192x256, .f32⟩
  | 32 => ⟨S8192x256, .f32⟩
  | 33 => ⟨S8192x256, .f32⟩
  | 34 => ⟨S1x256, .f32⟩
  | 35 => ⟨S256, .f32⟩
  | 36 => ⟨S1x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S_, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S_, .f32⟩
  | 65 => ⟨S8192x256, .f32⟩
  | 66 => ⟨S8192x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S1x256, .i1⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S8192x256, .f32⟩
  | 83 => ⟨S8192x256, .f32⟩
  | 84 => ⟨S8192, .i32⟩
  | 85 => ⟨S8192x1, .i32⟩
  | 86 => ⟨S_, .i32⟩
  | 87 => ⟨S8192x1, .i32⟩
  | 88 => ⟨S8192x1, .i1⟩
  | 89 => ⟨S_, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S8192x256, .f32⟩
  | 98 => ⟨S_, .f32⟩
  | 99 => ⟨S_, .f32⟩
  | 100 => ⟨S8192x256, .i1⟩
  | 101 => ⟨S8192x256, .f32⟩
  | 102 => ⟨S8192x256, .f32⟩
  | 103 => ⟨S8192x256, .f32⟩
  | 104 => ⟨S8192x256, .f32⟩
  | 105 => ⟨S8192, .i32⟩
  | 106 => ⟨S8192x1, .i32⟩
  | 107 => ⟨S8192, .i32⟩
  | 108 => ⟨S1x8192, .i32⟩
  | 109 => ⟨S8192x8192, .i32⟩
  | 110 => ⟨S8192x8192, .i32⟩
  | 111 => ⟨S8192x8192, .i1⟩
  | 112 => ⟨S8192x8192x1, .i1⟩
  | 113 => ⟨S1x8192x256, .f32⟩
  | 114 => ⟨S_, .f32⟩
  | 115 => ⟨S_, .f32⟩
  | 116 => ⟨S8192x8192x256, .i1⟩
  | 117 => ⟨S8192x8192x256, .f32⟩
  | 118 => ⟨S8192x8192x256, .f32⟩
  | 119 => ⟨S8192x8192x256, .f32⟩
  | 120 => ⟨S_, .f32⟩
  | 121 => ⟨S8192x256, .f32⟩
  | 122 => ⟨S8192x1x256, .f32⟩
  | 123 => ⟨S1x8192x256, .f32⟩
  | 124 => ⟨S8192x8192x256, .f32⟩
  | 125 => ⟨S8192x8192x256, .f32⟩
  | 126 => ⟨S8192x8192x256, .f32⟩
  | 127 => ⟨S_, .f32⟩
  | _ => ⟨S8192x3840, .f32⟩

abbrev hbmTy0_1 (i : Nat) : BufTy := match i % 128 with
  | 0 => ⟨S_, .f32⟩
  | 1 => ⟨S8192x8192x256, .i1⟩
  | 2 => ⟨S8192x8192x256, .f32⟩
  | 3 => ⟨S8192x8192x256, .f32⟩
  | 4 => ⟨S8192x8192x256, .f32⟩
  | 5 => ⟨S1x8192x256, .f32⟩
  | 6 => ⟨S8192x8192x256, .f32⟩
  | 7 => ⟨S8192x8192x256, .f32⟩
  | 8 => ⟨S_, .f32⟩
  | 9 => ⟨S8192x256, .f32⟩
  | 10 => ⟨S8192x256, .bf16⟩
  | 11 => ⟨S8192x256, .bf16⟩
  | 12 => ⟨S4x256, .f32⟩
  | 13 => ⟨S1x256, .f32⟩
  | 14 => ⟨S256x256, .f32⟩
  | 15 => ⟨S1x256, .f32⟩
  | 16 => ⟨S256x256, .f32⟩
  | 17 => ⟨S1x256, .f32⟩
  | 18 => ⟨S1x256, .f32⟩
  | _ => ⟨S8192x3840, .f32⟩

abbrev hbmTy (i : Nat) : BufTy := match i / 128 with
  | 0 => hbmTy0_0 i
  | 1 => hbmTy0_1 i
  | _ => ⟨S8192x3840, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S512x256, .f32⟩
  | .local _ .vmem, ⟨5, _⟩ => ⟨S512x256, .f32⟩
  | .local _ .vmem, ⟨6, _⟩ => ⟨S4x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S512x256, .f32⟩
  | .local _ .vmem, ⟨14, _⟩ => ⟨S512x256, .f32⟩
  | .local _ .vmem, ⟨15, _⟩ => ⟨S8x256, .f32⟩
  | .local _ .vmem, ⟨16, _⟩ => ⟨S8x256, .f32⟩
  | .local _ .vmem, ⟨17, _⟩ => ⟨S512x256, .f32⟩
  | .local _ .vmem, ⟨18, _⟩ => ⟨S512x256, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S4x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S1x256, .f32⟩
  | .local _ .vmem, ⟨34, _⟩ => ⟨S8x256, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c : Ref sig .tc := ⟨.hbm, 86, rfl⟩
abbrev main_v58 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_7 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_8 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_v79 : Ref sig .tc := ⟨.hbm, 119, rfl⟩
abbrev main_cst_9 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_10 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_11 : Ref sig .tc := ⟨.hbm, 136, rfl⟩
abbrev main_v91 : Ref sig .tc := ⟨.hbm, 137, rfl⟩
abbrev main_v92_0 : Ref sig .tc := ⟨.hbm, 138, rfl⟩
abbrev main_v92_1 : Ref sig .tc := ⟨.hbm, 139, rfl⟩
abbrev main_v92_2 : Ref sig .tc := ⟨.hbm, 140, rfl⟩
abbrev main_v92_3 : Ref sig .tc := ⟨.hbm, 141, rfl⟩
abbrev main_v92_4 : Ref sig .tc := ⟨.hbm, 142, rfl⟩
abbrev main_v92_5 : Ref sig .tc := ⟨.hbm, 143, rfl⟩
abbrev main_v92_6 : Ref sig .tc := ⟨.hbm, 144, rfl⟩
abbrev main_v92_7 : Ref sig .tc := ⟨.hbm, 145, rfl⟩
abbrev main_v92_8 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_92 : BitVec 32 := 0#32
  let c64_i32 : BitVec 32 := 64#32
  let v240 : BitVec 32 := Scalar.addi c0_i32_92 c64_i32
  let c1_i32_93 : BitVec 32 := 1#32
  ⟨c0_i32_92, v240, c1_i32_93⟩
def k0_mult1 (k0_t1 : Fin k0_t1_loop.trips) : BitVec 32 :=
  let c63_i32 : BitVec 32 := 63#32
  let c0_i32_92 : BitVec 32 := 0#32
  let c1_i32_93 : BitVec 32 := 1#32
  let arg28 : BitVec 32 := Scf.iv c0_i32_92 c1_i32_93 k0_t1
  let v439 : BitVec 32 := Scalar.subi c63_i32 arg28
  let c8_i32_183 : BitVec 32 := 8#32
  let v440 : BitVec 32 := Scalar.muli v439 c8_i32_183
  v440
def k0_off1 (k0_t1 : Fin k0_t1_loop.trips) : Fin 2 → Nat :=
  let c63_i32 : BitVec 32 := 63#32
  let c0_i32_92 : BitVec 32 := 0#32
  let c1_i32_93 : BitVec 32 := 1#32
  let arg28 : BitVec 32 := Scf.iv c0_i32_92 c1_i32_93 k0_t1
  let v439 : BitVec 32 := Scalar.subi c63_i32 arg28
  let c8_i32_183 : BitVec 32 := 8#32
  let v440 : BitVec 32 := Scalar.muli v439 c8_i32_183
  let v441 : BitVec 32 := v440
  let v444 : Index := Scalar.indexCast v441
  let c0_184 : Index := 0#32
  ![v444.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c12_i32 : BitVec 32 := 12#32
  let c0_i32 : BitVec 32 := 0#32
  ![v0.toNat, c12_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let c0_i32_0 : BitVec 32 := 0#32
  ![v3.toNat, c12_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c13_i32 : BitVec 32 := 13#32
  let c0_i32 : BitVec 32 := 0#32
  ![v0.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_grad" => some ((26829 / 200000 : ℝ) : EReal)
  | _ => none
-- ==== ReferenceIdeal.lean ====
abbrev S8192x3840 : Shape := ⟨2, ![8192, 3840]⟩
abbrev S4x256 : Shape := ⟨2, ![4, 256]⟩
abbrev S1x256 : Shape := ⟨2, ![1, 256]⟩
abbrev S256x256 : Shape := ⟨2, ![256, 256]⟩
abbrev S8192x1024 : Shape := ⟨2, ![8192, 1024]⟩
abbrev S8192x256 : Shape := ⟨2, ![8192, 256]⟩
abbrev S_ : Shape := ⟨0, ![]⟩
abbrev S3x256 : Shape := ⟨2, ![3, 256]⟩
abbrev S8195x256 : Shape := ⟨2, ![8195, 256]⟩
abbrev S256 : Shape := ⟨1, ![256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S1x8192x256 : Shape := ⟨3, ![1, 8192, 256]⟩
abbrev S8192x8192x256 : Shape := ⟨3, ![8192, 8192, 256]⟩
abbrev S8192x1x256 : Shape := ⟨3, ![8192, 1, 256]⟩

abbrev nBuf : Space → Nat
  | .hbm => 394
  | .vmem => 0
  | .smem => 0
  | _ => 0

abbrev hbmTy0_0 (i : Nat) : BufTy := match i % 128 with
  | 0 => ⟨S8192x3840, .f32⟩
  | 1 => ⟨S4x256, .f32⟩
  | 2 => ⟨S1x256, .f32⟩
  | 3 => ⟨S256x256, .f32⟩
  | 4 => ⟨S1x256, .f32⟩
  | 5 => ⟨S256x256, .f32⟩
  | 6 => ⟨S1x256, .f32⟩
  | 7 => ⟨S1x256, .f32⟩
  | 8 => ⟨S8192x1024, .f32⟩
  | 9 => ⟨S8192x256, .f32⟩
  | 10 => ⟨S8192x256, .f32⟩
  | 11 => ⟨S_, .f32⟩
  | 12 => ⟨S3x256, .f32⟩
  | 13 => ⟨S8195x256, .f32⟩
  | 14 => ⟨S_, .f32⟩
  | 15 => ⟨S3x256, .f32⟩
  | 16 => ⟨S8192x256, .f32⟩
  | 17 => ⟨S1x256, .f32⟩
  | 18 => ⟨S256, .f32⟩
  | 19 => ⟨S1x256, .f32⟩
  | 20 => ⟨S8192x256, .f32⟩
  | 21 => ⟨S8192x256, .f32⟩
  | 22 => ⟨S8192x256, .f32⟩
  | 23 => ⟨S1x256, .f32⟩
  | 24 => ⟨S256, .f32⟩
  | 25 => ⟨S1x256, .f32⟩
  | 26 => ⟨S8192x256, .f32⟩
  | 27 => ⟨S8192x256, .f32⟩
  | 28 => ⟨S8192x256, .f32⟩
  | 29 => ⟨S8192x256, .f32⟩
  | 30 => ⟨S1x256, .f32⟩
  | 31 => ⟨S256, .f32⟩
  | 32 => ⟨S1x256, .f32⟩
  | 33 => ⟨S8192x256, .f32⟩
  | 34 => ⟨S8192x256, .f32⟩
  | 35 => ⟨S8192x256, .f32⟩
  | 36 => ⟨S8192x256, .f32⟩
  | 37 => ⟨S1x256, .f32⟩
  | 38 => ⟨S256, .f32⟩
  | 39 => ⟨S1x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S_, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S_, .f32⟩
  | 72 => ⟨S8192x256, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S1x256, .f32⟩
  | 79 => ⟨S_, .f32⟩
  | 80 => ⟨S1x256, .f32⟩
  | 81 => ⟨S1x256, .f32⟩
  | 82 => ⟨S1x256, .f32⟩
  | 83 => ⟨S1x256, .f32⟩
  | 84 => ⟨S1x256, .i1⟩
  | 85 => ⟨S1x256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S_, .f32⟩
  | 94 => ⟨S1x256, .f32⟩
  | 95 => ⟨S1x256, .i1⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .i1⟩
  | 102 => ⟨S_, .f32⟩
  | 103 => ⟨S1x256, .f32⟩
  | 104 => ⟨S1x256, .f32⟩
  | 105 => ⟨S1x256, .f32⟩
  | 106 => ⟨S1x256, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S1x256, .f32⟩
  | 115 => ⟨S1x256, .i1⟩
  | 116 => ⟨S_, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S8192x256, .f32⟩
  | 126 => ⟨S8192x256, .f32⟩
  | 127 => ⟨S8192, .i32⟩
  | _ => ⟨S8192x3840, .f32⟩

abbrev hbmTy0_1 (i : Nat) : BufTy := match i % 128 with
  | 0 => ⟨S8192x1, .i32⟩
  | 1 => ⟨S_, .i32⟩
  | 2 => ⟨S8192x1, .i32⟩
  | 3 => ⟨S8192x1, .i1⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .i1⟩
  | 16 => ⟨S_, .f32⟩
  | 17 => ⟨S8192x256, .f32⟩
  | 18 => ⟨S8192x256, .i1⟩
  | 19 => ⟨S_, .f32⟩
  | 20 => ⟨S8192x256, .f32⟩
  | 21 => ⟨S_, .f32⟩
  | 22 => ⟨S8192x256, .f32⟩
  | 23 => ⟨S_, .f32⟩
  | 24 => ⟨S8192x256, .f32⟩
  | 25 => ⟨S8192x256, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S_, .f32⟩
  | 32 => ⟨S_, .f32⟩
  | 33 => ⟨S8192x256, .i1⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S8192x256, .f32⟩
  | 40 => ⟨S8192, .i32⟩
  | 41 => ⟨S8192x1, .i32⟩
  | 42 => ⟨S8192, .i32⟩
  | 43 => ⟨S1x8192, .i32⟩
  | 44 => ⟨S8192x8192, .i32⟩
  | 45 => ⟨S8192x8192, .i32⟩
  | 46 => ⟨S8192x8192, .i1⟩
  | 47 => ⟨S8192x8192x1, .i1⟩
  | 48 => ⟨S1x8192x256, .f32⟩
  | 49 => ⟨S_, .f32⟩
  | 50 => ⟨S_, .f32⟩
  | 51 => ⟨S8192x8192x256, .i1⟩
  | 52 => ⟨S8192x8192x256, .f32⟩
  | 53 => ⟨S8192x8192x256, .f32⟩
  | 54 => ⟨S8192x8192x256, .f32⟩
  | 55 => ⟨S_, .f32⟩
  | 56 => ⟨S8192x8192x256, .f32⟩
  | 57 => ⟨S_, .f32⟩
  | 58 => ⟨S8192x256, .f32⟩
  | 59 => ⟨S8192x1x256, .f32⟩
  | 60 => ⟨S1x8192x256, .f32⟩
  | 61 => ⟨S8192x8192x256, .f32⟩
  | 62 => ⟨S8192x8192x256, .f32⟩
  | 63 => ⟨S8192x8192x256, .f32⟩
  | 64 => ⟨S_, .f32⟩
  | 65 => ⟨S_, .f32⟩
  | 66 => ⟨S8192x8192x256, .i1⟩
  | 67 => ⟨S8192x8192x256, .f32⟩
  | 68 => ⟨S8192x8192x256, .f32⟩
  | 69 => ⟨S_, .f32⟩
  | 70 => ⟨S8192x8192x256, .f32⟩
  | 71 => ⟨S8192x8192x256, .f32⟩
  | 72 => ⟨S1x8192x256, .f32⟩
  | 73 => ⟨S8192x8192x256, .f32⟩
  | 74 => ⟨S8192x8192x256, .f32⟩
  | 75 => ⟨S_, .f32⟩
  | 76 => ⟨S8192x256, .f32⟩
  | 77 => ⟨S_, .f32⟩
  | 78 => ⟨S_, .f32⟩
  | 79 => ⟨S_, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S8192x256, .f32⟩
  | 93 => ⟨S_, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x8192x256, .f32⟩
  | 126 => ⟨S8192x8192x256, .f32⟩
  | 127 => ⟨S_, .f32⟩
  | _ => ⟨S8192x3840, .f32⟩

abbrev hbmTy0_2 (i : Nat) : BufTy := match i % 128 with
  | 0 => ⟨S8192x256, .f32⟩
  | 1 => ⟨S1x8192x256, .f32⟩
  | 2 => ⟨S8192x8192x256, .f32⟩
  | 3 => ⟨S8192x8192x256, .f32⟩
  | 4 => ⟨S_, .f32⟩
  | 5 => ⟨S8192x256, .f32⟩
  | 6 => ⟨S8192x8192x256, .f32⟩
  | 7 => ⟨S_, .f32⟩
  | 8 => ⟨S8192x8192x256, .f32⟩
  | 9 => ⟨S8192x8192x256, .f32⟩
  | 10 => ⟨S_, .f32⟩
  | 11 => ⟨S8192x256, .f32⟩
  | 12 => ⟨S8192x1x256, .f32⟩
  | 13 => ⟨S8192x8192x256, .f32⟩
  | 14 => ⟨S_, .f32⟩
  | 15 => ⟨S8192x256, .f32⟩
  | 16 => ⟨S1x8192x256, .f32⟩
  | 17 => ⟨S_, .f32⟩
  | 18 => ⟨S8192x256, .f32⟩
  | 19 => ⟨S_, .f32⟩
  | 20 => ⟨S8192x256, .f32⟩
  | 21 => ⟨S8192x256, .f32⟩
  | 22 => ⟨S8192x8192x256, .f32⟩
  | 23 => ⟨S_, .f32⟩
  | 24 => ⟨S8192x8192x256, .f32⟩
  | 25 => ⟨S8192x8192x256, .f32⟩
  | 26 => ⟨S_, .f32⟩
  | 27 => ⟨S8192x256, .f32⟩
  | 28 => ⟨S1x8192x256, .f32⟩
  | 29 => ⟨S_, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S256, .f32⟩
  | 49 => ⟨S1x256, .f32⟩
  | 50 => ⟨S8192x256, .f32⟩
  | 51 => ⟨S8192x256, .f32⟩
  | 52 => ⟨S1x256, .f32⟩
  | 53 => ⟨S1x256, .f32⟩
  | 54 => ⟨S_, .f32⟩
  | 55 => ⟨S8192x256, .f32⟩
  | 56 => ⟨S8192x256, .f32⟩
  | 57 => ⟨S8192x256, .f32⟩
  | 58 => ⟨S_, .f32⟩
  | 59 => ⟨S256, .f32⟩
  | 60 => ⟨S1x256, .f32⟩
  | 61 => ⟨S256x256, .f32⟩
  | 62 => ⟨S256x256, .f32⟩
  | 63 => ⟨S8192x256, .f32⟩
  | 64 => ⟨S8192x256, .f32⟩
  | 65 => ⟨S8192x256, .f32⟩
  | 66 => ⟨S_, .f32⟩
  | 67 => ⟨S256, .f32⟩
  | 68 => ⟨S1x256, .f32⟩
  | 69 => ⟨S256x256, .f32⟩
  | 70 => ⟨S256x256, .f32⟩
  | 71 => ⟨S8192x256, .f32⟩
  | 72 => ⟨S8192x256, .f32⟩
  | 73 => ⟨S_, .f32⟩
  | 74 => ⟨S256, .f32⟩
  | 75 => ⟨S1x256, .f32⟩
  | 76 => ⟨S8192x256, .f32⟩
  | 77 => ⟨S_, .f32⟩
  | 78 => ⟨S256, .f32⟩
  | 79 => ⟨S1x256, .f32⟩
  | 80 => ⟨S8192x256, .f32⟩
  | 81 => ⟨S8192x256, .f32⟩
  | 82 => ⟨S_, .f32⟩
  | 83 => ⟨S256, .f32⟩
  | 84 => ⟨S1x256, .f32⟩
  | 85 => ⟨S_, .f32⟩
  | 86 => ⟨S4x256, .f32⟩
  | 87 => ⟨S_, .f32⟩
  | 88 => ⟨S8195x256, .f32⟩
  | 89 => ⟨S8192x256, .f32⟩
  | 90 => ⟨S_, .f32⟩
  | 91 => ⟨S256, .f32⟩
  | 92 => ⟨S1x256, .f32⟩
  | 93 => ⟨S8192x256, .f32⟩
  | 94 => ⟨S8192x256, .f32⟩
  | 95 => ⟨S_, .f32⟩
  | 96 => ⟨S256, .f32⟩
  | 97 => ⟨S1x256, .f32⟩
  | 98 => ⟨S_, .f32⟩
  | 99 => ⟨S4x256, .f32⟩
  | 100 => ⟨S4x256, .f32⟩
  | 101 => ⟨S_, .f32⟩
  | 102 => ⟨S8195x256, .f32⟩
  | 103 => ⟨S8195x256, .f32⟩
  | 104 => ⟨S8192x256, .f32⟩
  | 105 => ⟨S_, .f32⟩
  | 106 => ⟨S256, .f32⟩
  | 107 => ⟨S1x256, .f32⟩
  | 108 => ⟨S8192x256, .f32⟩
  | 109 => ⟨S8192x256, .f32⟩
  | 110 => ⟨S_, .f32⟩
  | 111 => ⟨S256, .f32⟩
  | 112 => ⟨S1x256, .f32⟩
  | 113 => ⟨S_, .f32⟩
  | 114 => ⟨S4x256, .f32⟩
  | 115 => ⟨S4x256, .f32⟩
  | 116 => ⟨S_, .f32⟩
  | 117 => ⟨S8195x256, .f32⟩
  | 118 => ⟨S8195x256, .f32⟩
  | 119 => ⟨S8192x256, .f32⟩
  | 120 => ⟨S_, .f32⟩
  | 121 => ⟨S256, .f32⟩
  | 122 => ⟨S1x256, .f32⟩
  | 123 => ⟨S8192x256, .f32⟩
  | 124 => ⟨S8192x256, .f32⟩
  | 125 => ⟨S_, .f32⟩
  | 126 => ⟨S256, .f32⟩
  | 127 => ⟨S1x256, .f32⟩
  | _ => ⟨S8192x3840, .f32⟩

abbrev hbmTy0_3 (i : Nat) : BufTy := match i % 128 with
  | 0 => ⟨S_, .f32⟩
  | 1 => ⟨S4x256, .f32⟩
  | 2 => ⟨S4x256, .f32⟩
  | 3 => ⟨S_, .f32⟩
  | 4 => ⟨S8195x256, .f32⟩
  | 5 => ⟨S8195x256, .f32⟩
  | 6 => ⟨S3x256, .f32⟩
  | 7 => ⟨S8192x256, .f32⟩
  | 8 => ⟨S8192x256, .bf16⟩
  | 9 => ⟨S8192x256, .bf16⟩
  | _ => ⟨S8192x3840, .f32⟩

abbrev hbmTy (i : Nat) : BufTy := match i / 128 with
  | 0 => hbmTy0_0 i
  | 1 => hbmTy0_1 i
  | 2 => hbmTy0_2 i
  | 3 => hbmTy0_3 i
  | _ => ⟨S8192x3840, .f32⟩

abbrev bufTy : (tb : Table) → Fin (tcTables nBuf tb) → BufTy
  | .hbm, ⟨i, _⟩ => hbmTy i
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v61_0 : Ref sig .tc := ⟨.hbm, 92, rfl⟩
abbrev main_call0_cst_0 : Ref sig .tc := ⟨.hbm, 93, rfl⟩
abbrev main_call0_v13 : Ref sig .tc := ⟨.hbm, 94, rfl⟩
abbrev main_call0_v14 : Ref sig .tc := ⟨.hbm, 95, rfl⟩
abbrev main_call0_cst_1 : Ref sig .tc := ⟨.hbm, 96, rfl⟩
abbrev main_call0_v15 : Ref sig .tc := ⟨.hbm, 97, rfl⟩
abbrev main_call0_v16 : Ref sig .tc := ⟨.hbm, 98, rfl⟩
abbrev main_call0_cst_2 : Ref sig .tc := ⟨.hbm, 99, rfl⟩
abbrev main_call0_v17 : Ref sig .tc := ⟨.hbm, 100, rfl⟩
abbrev main_call0_v18 : Ref sig .tc := ⟨.hbm, 101, rfl⟩
abbrev main_call0_cst_3 : Ref sig .tc := ⟨.hbm, 102, rfl⟩
abbrev main_call0_v19 : Ref sig .tc := ⟨.hbm, 103, rfl⟩
abbrev main_call0_v20 : Ref sig .tc := ⟨.hbm, 104, rfl⟩
abbrev main_call0_v21 : Ref sig .tc := ⟨.hbm, 105, rfl⟩
abbrev main_v61_1 : Ref sig .tc := ⟨.hbm, 106, rfl⟩
abbrev main_call0_cst_4 : Ref sig .tc := ⟨.hbm, 107, rfl⟩
abbrev main_call0_cst_5 : Ref sig .tc := ⟨.hbm, 108, rfl⟩
abbrev main_call0_v23 : Ref sig .tc := ⟨.hbm, 109, rfl⟩
abbrev main_call0_cst_6 : Ref sig .tc := ⟨.hbm, 110, rfl⟩
abbrev main_call0_cst_7 : Ref sig .tc := ⟨.hbm, 111, rfl⟩
abbrev main_call0_v24 : Ref sig .tc := ⟨.hbm, 112, rfl⟩
abbrev main_call0_cst_8 : Ref sig .tc := ⟨.hbm, 113, rfl⟩
abbrev main_call0_v25 : Ref sig .tc := ⟨.hbm, 114, rfl⟩
abbrev main_call0_v26 : Ref sig .tc := ⟨.hbm, 115, rfl⟩
abbrev main_call0_cst_9 : Ref sig .tc := ⟨.hbm, 116, rfl⟩
abbrev main_call0_v27 : Ref sig .tc := ⟨.hbm, 117, rfl⟩
abbrev main_call0_v28 : Ref sig .tc := ⟨.hbm, 118, rfl⟩
abbrev main_call0_v29 : Ref sig .tc := ⟨.hbm, 119, rfl⟩
abbrev main_call0_v30 : Ref sig .tc := ⟨.hbm, 120, rfl⟩
abbrev main_call0_v31 : Ref sig .tc := ⟨.hbm, 121, rfl⟩
abbrev main_call0_cst_10 : Ref sig .tc := ⟨.hbm, 122, rfl⟩
abbrev main_call0_v32 : Ref sig .tc := ⟨.hbm, 123, rfl⟩
abbrev main_v61_2 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_c : Ref sig .tc := ⟨.hbm, 129, rfl⟩
abbrev main_v66 : Ref sig .tc := ⟨.hbm, 130, rfl⟩
abbrev main_v67 : Ref sig .tc := ⟨.hbm, 131, rfl⟩
abbrev main_cst_8 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_9 : Ref sig .tc := ⟨.hbm, 138, rfl⟩
abbrev main_v73 : Ref sig .tc := ⟨.hbm, 139, rfl⟩
abbrev main_v74 : Ref sig .tc := ⟨.hbm, 140, rfl⟩
abbrev main_cst_10 : Ref sig .tc := ⟨.hbm, 141, rfl⟩
abbrev main_v75 : Ref sig .tc := ⟨.hbm, 142, rfl⟩
abbrev main_v76 : Ref sig .tc := ⟨.hbm, 143, rfl⟩
abbrev main_cst_11 : Ref sig .tc := ⟨.hbm, 144, rfl⟩
abbrev main_v77 : Ref sig .tc := ⟨.hbm, 145, rfl⟩
abbrev main_v78 : Ref sig .tc := ⟨.hbm, 146, rfl⟩
abbrev main_cst_12 : Ref sig .tc := ⟨.hbm, 147, rfl⟩
abbrev main_v79 : Ref sig .tc := ⟨.hbm, 148, rfl⟩
abbrev main_cst_13 : Ref sig .tc := ⟨.hbm, 149, rfl⟩
abbrev main_v80 : Ref sig .tc := ⟨.hbm, 150, rfl⟩
abbrev main_cst_14 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_cst_15 : Ref sig .tc := ⟨.hbm, 156, rfl⟩
abbrev main_v85 : Ref sig .tc := ⟨.hbm, 157, rfl⟩
abbrev main_v86 : Ref sig .tc := ⟨.hbm, 158, rfl⟩
abbrev main_cst_16 : Ref sig .tc := ⟨.hbm, 159, rfl⟩
abbrev main_call1_v0 : Ref sig .tc := ⟨.hbm, 160, rfl⟩
abbrev main_v87_1 : Ref sig .tc := ⟨.hbm, 161, rfl⟩
abbrev main_call1_v2 : Ref sig .tc := ⟨.hbm, 162, rfl⟩
abbrev main_v87_0 : Ref sig .tc := ⟨.hbm, 163, rfl⟩
abbrev main_call1_cst : Ref sig .tc := ⟨.hbm, 164, rfl⟩
abbrev main_v87_2 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_17 : Ref sig .tc := ⟨.hbm, 177, rfl⟩
abbrev main_call2_v0 : Ref sig .tc := ⟨.hbm, 178, rfl⟩
abbrev main_v99_1 : Ref sig .tc := ⟨.hbm, 179, rfl⟩
abbrev main_call2_v2 : Ref sig .tc := ⟨.hbm, 180, rfl⟩
abbrev main_call2_v3 : Ref sig .tc := ⟨.hbm, 181, rfl⟩
abbrev main_v99_0 : Ref sig .tc := ⟨.hbm, 182, rfl⟩
abbrev main_call2_cst : Ref sig .tc := ⟨.hbm, 183, rfl⟩
abbrev main_v99_2 : Ref sig .tc := ⟨.hbm, 184, rfl⟩
abbrev main_cst_18 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_19 : Ref sig .tc := ⟨.hbm, 192, rfl⟩
abbrev main_call3_v0 : Ref sig .tc := ⟨.hbm, 193, rfl⟩
abbrev main_v106_1 : Ref sig .tc := ⟨.hbm, 194, rfl⟩
abbrev main_call3_v2 : Ref sig .tc := ⟨.hbm, 195, rfl⟩
abbrev main_v106_0 : Ref sig .tc := ⟨.hbm, 196, rfl⟩
abbrev main_call3_cst : Ref sig .tc := ⟨.hbm, 197, rfl⟩
abbrev main_v106_2 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_cst_20 : Ref sig .tc := ⟨.hbm, 203, rfl⟩
abbrev main_v111 : Ref sig .tc := ⟨.hbm, 204, rfl⟩
abbrev main_cst_21 : Ref sig .tc := ⟨.hbm, 205, rfl⟩
abbrev main_cst_22 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_cst_23 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_cst_24 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_cst_25 : Ref sig .tc := ⟨.hbm, 221, rfl⟩
abbrev main_v124 : Ref sig .tc := ⟨.hbm, 222, rfl⟩
abbrev main_v125 : Ref sig .tc := ⟨.hbm, 223, rfl⟩
abbrev main_cst_26 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_cst_27 : Ref sig .tc := ⟨.hbm, 228, rfl⟩
abbrev main_v129 : Ref sig .tc := ⟨.hbm, 229, rfl⟩
abbrev main_v130 : Ref sig .tc := ⟨.hbm, 230, rfl⟩
abbrev main_cst_28 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_cst_29 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_cst_30 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_cst_31 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_cst_32 : Ref sig .tc := ⟨.hbm, 260, rfl⟩
abbrev main_v156 : Ref sig .tc := ⟨.hbm, 261, rfl⟩
abbrev main_v157 : Ref sig .tc := ⟨.hbm, 262, rfl⟩
abbrev main_call4_cst : Ref sig .tc := ⟨.hbm, 263, rfl⟩
abbrev main_call4_v0 : Ref sig .tc := ⟨.hbm, 264, rfl⟩
abbrev main_v158 : Ref sig .tc := ⟨.hbm, 265, rfl⟩
abbrev main_cst_33 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_cst_34 : Ref sig .tc := ⟨.hbm, 270, rfl⟩
abbrev main_v162 : Ref sig .tc := ⟨.hbm, 271, rfl⟩
abbrev main_v163 : Ref sig .tc := ⟨.hbm, 272, rfl⟩
abbrev main_cst_35 : Ref sig .tc := ⟨.hbm, 273, rfl⟩
abbrev main_v164 : Ref sig .tc := ⟨.hbm, 274, rfl⟩
abbrev main_cst_36 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_call5_cst : Ref sig .tc := ⟨.hbm, 279, rfl⟩
abbrev main_call5_v0 : Ref sig .tc := ⟨.hbm, 280, rfl⟩
abbrev main_call5_v1 : Ref sig .tc := ⟨.hbm, 281, rfl⟩
abbrev main_call5_cst_0 : Ref sig .tc := ⟨.hbm, 282, rfl⟩
abbrev main_call5_v2 : Ref sig .tc := ⟨.hbm, 283, rfl⟩
abbrev main_v168 : Ref sig .tc := ⟨.hbm, 284, rfl⟩
abbrev main_cst_37 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_call6_cst : Ref sig .tc := ⟨.hbm, 291, rfl⟩
abbrev main_call6_v0 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_38 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_cst_39 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_cst_40 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_cst_41 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_cst_42 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_v204 : Ref sig .tc := ⟨.hbm, 328, rfl⟩
abbrev main_cst_43 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_cst_44 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_cst_45 : Ref sig .tc := ⟨.hbm, 338, rfl⟩
abbrev main_v212 : Ref sig .tc := ⟨.hbm, 339, rfl⟩
abbrev main_v213 : Ref sig .tc := ⟨.hbm, 340, rfl⟩
abbrev main_cst_46 : Ref sig .tc := ⟨.hbm, 341, rfl⟩
abbrev main_v214 : Ref sig .tc := ⟨.hbm, 342, rfl⟩
abbrev main_cst_47 : Ref sig .tc := ⟨.hbm, 343, rfl⟩
abbrev main_v215 : Ref sig .tc := ⟨.hbm, 344, rfl⟩
abbrev main_v216 : Ref sig .tc := ⟨.hbm, 345, rfl⟩
abbrev main_cst_48 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_cst_49 : Ref sig .tc := ⟨.hbm, 351, rfl⟩
abbrev main_v221 : Ref sig .tc := ⟨.hbm, 352, rfl⟩
abbrev main_v222 : Ref sig .tc := ⟨.hbm, 353, rfl⟩
abbrev main_cst_50 : Ref sig .tc := ⟨.hbm, 354, rfl⟩
abbrev main_v223 : Ref sig .tc := ⟨.hbm, 355, rfl⟩
abbrev main_v224 : Ref sig .tc := ⟨.hbm, 356, rfl⟩
abbrev main_cst_51 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_cst_52 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_cst_53 : Ref sig .tc := ⟨.hbm, 366, rfl⟩
abbrev main_v232 : Ref sig .tc := ⟨.hbm, 367, rfl⟩
abbrev main_v233 : Ref sig .tc := ⟨.hbm, 368, rfl⟩
abbrev main_cst_54 : Ref sig .tc := ⟨.hbm, 369, rfl⟩
abbrev main_v234 : Ref sig .tc := ⟨.hbm, 370, rfl⟩
abbrev main_v235 : Ref sig .tc := ⟨.hbm, 371, rfl⟩
abbrev main_cst_55 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_cst_56 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_cst_57 : Ref sig .tc := ⟨.hbm, 381, rfl⟩
abbrev main_v243 : Ref sig .tc := ⟨.hbm, 382, rfl⟩
abbrev main_v244 : Ref sig .tc := ⟨.hbm, 383, rfl⟩
abbrev main_cst_58 : Ref sig .tc := ⟨.hbm, 384, rfl⟩
abbrev main_v245 : Ref sig .tc := ⟨.hbm, 385, rfl⟩
abbrev main_v246 : Ref sig .tc := ⟨.hbm, 386, rfl⟩
abbrev main_cst_59 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .bf16⟩
  | .hbm, ⟨4, _⟩ => ⟨S8192x1024, .f32⟩
  | .hbm, ⟨5, _⟩ => ⟨S1024x4096, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024x512 : Shape := ⟨3, ![8, 1024, 512]⟩
abbrev S1024x1024 : Shape := ⟨2, ![1024, 1024]⟩
abbrev S1024x4096 : Shape := ⟨2, ![1024, 4096]⟩
abbrev S1024x512 : Shape := ⟨2, ![1024, 512]⟩
abbrev S1x1024x512 : Shape := ⟨3, ![1, 1024, 512]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S8x1024x512, .bf16⟩
  | .local _ .vmem, ⟨5, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S1024 : Shape := ⟨1, ![1024]⟩
abbrev S8192x4096 : Shape := ⟨2, ![8192, 4096]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4096, .bf16⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x8x512, .f32⟩
  | .hbm, ⟨26, _⟩ => ⟨S8x1024x512, .f32⟩
  | .hbm, ⟨27, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S4096x1024, .bf16⟩
  | .local _ .vmem, ⟨5, _⟩ => ⟨S4096x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x4096, .bf16⟩
  | .hbm, ⟨21, _⟩ => ⟨S8192x4096, .bf16⟩
  | .hbm, ⟨22, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .bf16⟩
  | .hbm, ⟨25, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S4096x1024 : Shape := ⟨2, ![4096, 1024]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4096x1024, .f32⟩
  | .hbm, ⟨3, _⟩ => ⟨S8192x4096, .bf16⟩
  | .hbm, ⟨4, _⟩ => ⟨S4096x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S1024 : Shape := ⟨1, ![1024]⟩
abbrev S4096x1024 : Shape := ⟨2, ![4096, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4096x1024, .f32⟩
  | .hbm, ⟨3, _⟩ => ⟨S8192x4096, .bf16⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Point.lean ====
/- What one grid point of the backward pass of the gated recurrence computes: the contents of every buffer the
   body stores into, as functions of the blocks it reads and of what the point before left. -/
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton
public import Idealize.ShloMosaic.Lib.Exec
public import Idealize.ShloMosaic.Lib.WritesUnit
public import Idealize.ShloMosaic.Lib.Pipeline.Value

@[expose] public section

set_option maxRecDepth 16384

noncomputable section

namespace Cert.KernelIdeal.Point

open Idealize.ShloMosaic Cert.KernelIdeal.Gen

variable {F : FTy → Type} [FloatOps F] [Named F]

/-- The blocks a grid point reads: the rows of the branch, the eight rows before them, the gate's rows, the
    convolution's weights and offset, the two gates' matrices and offsets, the decay's parameter, the states, the eight
    states before them and the incoming gradient. -/
structure Blocks (F : FTy → Type) where
  x : Vec F S512x256 .f32
  xp : Vec F S8x256 .f32
  y : Vec F S512x256 .f32
  w : Vec F S4x256 .f32
  cb : Vec F S1x256 .f32
  wa : Vec F S256x256 .f32
  ba : Vec F S1x256 .f32
  wx : Vec F S256x256 .f32
  bx : Vec F S1x256 .f32
  lam : Vec F S1x256 .f32
  h : Vec F S512x256 .f32
  hp : Vec F S8x256 .f32
  dm : Vec F S512x256 .f32

/-- Whether the point holds the first rows of the sequence. -/
abbrev isTop (i : grid0.Coords) : BitVec 1 := Scalar.cmpi .eq (BitVec.ofNat 32 (i 0).val) 15#32

/-- Of a grid point: the rows three before. -/
abbrev sh3 (i : grid0.Coords) (B : Blocks F) : FVec F S512x256 .f32 :=
  k0_pay10 i B.x B.xp

/-- Of a grid point: the rows two before. -/
abbrev sh2 (i : grid0.Coords) (B : Blocks F) : FVec F S512x256 .f32 :=
  k0_pay11 i B.x B.xp

/-- Of a grid point: the rows one before. -/
abbrev sh1 (i : grid0.Coords) (B : Blocks F) : FVec F S512x256 .f32 :=
  k0_pay12 i B.x B.xp

/-- Of a grid point: the convolved rows. -/
abbrev xc (i : grid0.Coords) (B : Blocks F) : FVec F S512x256 .f32 :=
  k0_pay14 B.x B.w (sh2 i B) (sh1 i B) (k0_pay13 i B.x B.xp B.w) B.cb

/-- Of a grid point: which row is the first of the sequence. -/
abbrev top (i : grid0.Coords) : IVec S512x256 1 :=
  k0_pay15 (isTop i)

/-- Of a grid point: the recurrence gate. -/
abbrev rg (i : grid0.Coords) (B : Blocks F) : FVec F S512x256 .f32 :=
  k0_pay16 B.x B.w (sh2 i B) (sh1 i B) (k0_pay13 i B.x B.xp B.w) B.cb B.wa B.ba

/-- Of a grid point: the input gate. -/
abbrev ig (i : grid0.Coords) (B : Blocks F) : FVec F S512x256 .f32 :=
  k0_pay18 (k0_pay17 B.x B.w (sh2 i B) (sh1 i B) (k0_pay13 i B.x B.xp B.w) B.cb B.wx B.bx)

/-- Of a grid point: the decay. -/
abbrev dec (i : grid0.Coords) (B : Blocks F) : FVec F S512x256 .f32 :=
  k0_pay21 (rg i B) B.lam

/-- Of a grid point: one minus the squared decay. -/
abbrev sq (i : grid0.Coords) (B : Blocks F) : FVec F S512x256 .f32 :=
  k0_pay22 (rg i B) B.lam

/-- Of a grid point: the input multiplier. -/
abbrev mlt (i : grid0.Coords) (B : Blocks F) : FVec F S512x256 .f32 :=
  k0_pay24 (top i) (k0_pay23 (rg i B) B.lam)

/-- Of a grid point: the states one row before. -/
abbrev hprev (i : grid0.Coords) (B : Blocks F) : FVec F S512x256 .f32 :=
  k0_pay26 (isTop i) B.h B.hp

/-- Of a grid point: the gradient of the states from the output. -/
abbrev dh (B : Blocks F) : FVec F S512x256 .f32 :=
  k0_pay33 (k0_pay28 B.y) B.dm

/-- Of a grid point: the decayed gradient of the states. -/
abbrev adh (i : grid0.Coords) (B : Blocks F) : FVec F S512x256 .f32 :=
  k0_pay34 (dec i B) (k0_pay28 B.y) B.dm

/-- Of a grid point: the affine maps of the rows of a tile from a row on: their offsets. -/
abbrev tg (i : grid0.Coords) (B : Blocks F) : FVec F S512x256 .f32 :=
  k0_pay44 (dec i B) (adh i B) k0_pay35 k0_pay36 (k0_pay37 (dec i B)) (k0_pay38 (dec i B) (k0_pay28 B.y) B.dm) (k0_pay39 (F := F))

/-- Of a grid point: the affine maps of the rows of a tile from a row on: their factors. -/
abbrev ta (i : grid0.Coords) (B : Blocks F) : FVec F S512x256 .f32 :=
  k0_pay45 (dec i B) k0_pay35 (k0_pay37 (dec i B))

/-- Of a grid point: the offsets as stored. -/
abbrev gS (i : grid0.Coords) (B : Blocks F) : FVec F S512x256 .f32 :=
  k0_pay47 (dec i B) (adh i B) k0_pay35 k0_pay36 (k0_pay37 (dec i B)) (k0_pay38 (dec i B) (k0_pay28 B.y) B.dm) (k0_pay39 (F := F))

/-- Of a grid point: the factors as stored. -/
abbrev aS (i : grid0.Coords) (B : Blocks F) : FVec F S512x256 .f32 :=
  k0_pay46 (dec i B) k0_pay35 (k0_pay37 (dec i B))

/-- The rows of one tile of eight, as a trip of the loop reads them. -/
def tileOf (k : Fin k0_t1_loop.trips) (v : Vec F S512x256 .f32) : Vec F S8x256 .f32 :=
  View.ld v (Rect.unit (s := S512x256) (k0_off1 k) S8x256.size (k0_off1_inb k))

/-- The gradient handed from tile to tile, before trip `k`: the loop goes through the tiles from the last one up. -/
def carry (g a : Vec F S512x256 .f32) (c : Vec F S1x256 .f32) : ℕ → Vec F S1x256 .f32
  | 0 => c
  | k + 1 => if h : k < k0_t1_loop.trips then k0_pay49 (carry g a c k) (tileOf ⟨k, h⟩ a) (tileOf ⟨k, h⟩ g) else carry g a c k

/-- What a row's tile received from the tile after it. -/
def recv (g a : Vec F S512x256 .f32) (c : Vec F S1x256 .f32) : Vec F S512x256 .f32 :=
  fun j => carry g a c (63 - (j 0).val / 8) (fun | ⟨0, _⟩ => ⟨0, Nat.one_pos⟩ | ⟨1, _⟩ => j 1)

/-- The tiles the loop has stored before trip `k`, the last one first. -/
def tiles (g a : Vec F S512x256 .f32) (c : Vec F S1x256 .f32) : ℕ → List (View.Piece (Elt F) S512x256 .f32)
  | 0 => []
  | k + 1 => if h : k < k0_t1_loop.trips then
      ⟨Rect.unit (s := S512x256) (k0_off1 ⟨k, h⟩) S8x256.size (k0_off1_inb ⟨k, h⟩), k0_pay48 (carry g a c k)⟩ :: tiles g a c k
      else tiles g a c k

theorem carry_succ (g a : Vec F S512x256 .f32) (c : Vec F S1x256 .f32) (k : Fin k0_t1_loop.trips) :
    carry g a c (k.val + 1) = k0_pay49 (carry g a c k.val) (tileOf k a) (tileOf k g) := by
  rw [carry]; exact dif_pos k.isLt

theorem tiles_succ (g a : Vec F S512x256 .f32) (c : Vec F S1x256 .f32) (k : Fin k0_t1_loop.trips) :
    tiles g a c (k.val + 1)
      = ⟨Rect.unit (s := S512x256) (k0_off1 k) S8x256.size (k0_off1_inb k), k0_pay48 (carry g a c k.val)⟩ :: tiles g a c k.val := by
  rw [tiles]; exact dif_pos k.isLt

theorem trips_eq : k0_t1_loop.trips = 64 := by decide +kernel

/-- Storing one row in all eight rows of a tile. -/
theorem pay48_apply (v : Vec F S1x256 .f32) (j : S8x256.Idx) :
    k0_pay48 v j = v (fun | ⟨0, _⟩ => ⟨0, Nat.one_pos⟩ | ⟨1, _⟩ => j 1) := by
  unfold k0_pay48
  dsimp only
  rw [shapeCast_self, shapeCast_self]
  refine congrArg v (funext fun a => ?_)
  match a with
  | ⟨0, _⟩ => rfl
  | ⟨1, _⟩ => rfl

/-- After `k` trips the last `8 k` rows hold what their tiles received. -/
theorem read_tiles {sig : RefSig} {κ : Kind} {sp : Space} (v : View sig κ sp S512x256 .f32) (f : v.ty.Contents (Elt F))
    (g a : Vec F S512x256 .f32) (c : Vec F S1x256 .f32) (k : ℕ) (hk : k ≤ 64) (j : S512x256.Idx)
    (hj : 512 ≤ (j 0).val + 8 * k) : v.read (Elt F) (v.writes (Elt F) f (tiles g a c k)) j = recv g a c j := by
  have hj0 : (j 0).val < 512 := (j 0).isLt
  induction k with
  | zero => omega
  | succ k ih =>
    have hk' : k < k0_t1_loop.trips := by rw [trips_eq]; omega
    rw [tiles_succ g a c ⟨k, hk'⟩]
    by_cases h : 504 - 8 * k ≤ (j 0).val ∧ (j 0).val < 504 - 8 * k + 8
    · rw [View.read_writes_cons_rows_of_mem v f (k0_off1_inb ⟨k, hk'⟩) _ _ j
        (fun | ⟨0, _⟩ => ⟨(j 0).val - (504 - 8 * k), by show _ < 8; omega⟩ | ⟨1, _⟩ => j 1)
        (k0_off1_eq ⟨k, hk'⟩) (by show (j 0).val = (504 - 8 * k) + ((j 0).val - (504 - 8 * k)); omega) rfl]
      refine (pay48_apply _ _).trans ?_
      unfold recv
      have e : 63 - (j 0).val / 8 = k := by omega
      rw [e]
    · rw [View.read_writes_cons_rows_of_not_mem v f (k0_off1_inb ⟨k, hk'⟩) _ _ j (k0_off1_eq ⟨k, hk'⟩) rfl (.inr (by show 504 - 8 * k + 8 ≤ (j 0).val; omega))]
      exact ih (by omega) (by omega)

/-- After the loop every row holds what its tile received. -/
theorem read_tiles_all {sig : RefSig} {κ : Kind} {sp : Space} (v : View sig κ sp S512x256 .f32) (f : v.ty.Contents (Elt F))
    (g a : Vec F S512x256 .f32) (c : Vec F S1x256 .f32) :
    v.read (Elt F) (v.writes (Elt F) f (tiles g a c k0_t1_loop.trips)) = recv g a c :=
  funext fun j => read_tiles v f g a c _ (trips_eq ▸ le_refl _) j (by rw [trips_eq]; omega)

/-- Of a grid point: what each row's tile received from the tile after it. -/
abbrev cin (i : grid0.Coords) (B : Blocks F) (c : Vec F S1x256 .f32) : FVec F S512x256 .f32 :=
  recv (gS i B) (aS i B) c

/-- Of a grid point: the gradient handed to the rows before. -/
abbrev cout (i : grid0.Coords) (B : Blocks F) (c : Vec F S1x256 .f32) : FVec F S1x256 .f32 :=
  k0_pay50 (carry (gS i B) (aS i B) c k0_t1_loop.trips)

/-- Of a grid point: the gradient of the states. -/
abbrev grad (i : grid0.Coords) (B : Blocks F) (c : Vec F S1x256 .f32) : FVec F S512x256 .f32 :=
  k0_pay51 (dh B) (tg i B) (ta i B) (cin i B c)

/-- Of a grid point: the gradient of the input gate. -/
abbrev gmx (i : grid0.Coords) (B : Blocks F) (c : Vec F S1x256 .f32) : FVec F S512x256 .f32 :=
  k0_pay52 (xc i B) (mlt i B) (dh B) (tg i B) (ta i B) (cin i B c)

/-- Of a grid point: the gradient of the convolved rows through the gated input. -/
abbrev gmi (i : grid0.Coords) (B : Blocks F) (c : Vec F S1x256 .f32) : FVec F S512x256 .f32 :=
  k0_pay53 (ig i B) (mlt i B) (dh B) (tg i B) (ta i B) (cin i B c)

/-- Of a grid point: the gradient of one minus the squared decay. -/
abbrev gsq (i : grid0.Coords) (B : Blocks F) (c : Vec F S1x256 .f32) : FVec F S512x256 .f32 :=
  k0_pay54 (xc i B) (top i) (ig i B) (sq i B) (mlt i B) (dh B) (tg i B) (ta i B) (cin i B c)

/-- Of a grid point: the gradient of the decay's logarithm through the recurrence. -/
abbrev gdec (i : grid0.Coords) (B : Blocks F) (c : Vec F S1x256 .f32) : FVec F S512x256 .f32 :=
  k0_pay55 (dec i B) (hprev i B) (dh B) (tg i B) (ta i B) (cin i B c)

/-- Of a grid point: the gradient under the recurrence gate. -/
abbrev dpa (i : grid0.Coords) (B : Blocks F) (c : Vec F S1x256 .f32) : FVec F S512x256 .f32 :=
  k0_pay58 (rg i B) (k0_pay19 B.lam) (dec i B) (gsq i B c) (gdec i B c) (Scalar.ofBits .f32 0x40000000#32)

/-- Of a grid point: the gradient under the input gate. -/
abbrev dpx (i : grid0.Coords) (B : Blocks F) (c : Vec F S1x256 .f32) : FVec F S512x256 .f32 :=
  k0_pay59 (ig i B) (gmx i B c)

/-- Of a grid point: the gradient of the convolved rows without the input gate's product. -/
abbrev part (i : grid0.Coords) (B : Blocks F) (c : Vec F S1x256 .f32) : FVec F S512x256 .f32 :=
  k0_pay65 (gmi i B c) (dpa i B c) B.wa

/-- Of a grid point: the gradient of the convolved rows. -/
abbrev dxc (i : grid0.Coords) (B : Blocks F) (c : Vec F S1x256 .f32) : FVec F S512x256 .f32 :=
  k0_pay68 (part i B c) (k0_pay66 (dpx i B c)) (k0_pay67 B.wx) (constant S512x256 .f32 0x00000000#32)

/-- Of a grid point: the gradient of the branch's rows. -/
abbrev dx (i : grid0.Coords) (B : Blocks F) (c : Vec F S1x256 .f32) (n : Vec F S8x256 .f32) : FVec F S512x256 .bf16 :=
  k0_pay70 B.w (dxc i B c) (k0_pay69 (BitVec.ofNat 32 (i 0).val) B.w (part i B c) (k0_pay66 (dpx i B c)) (k0_pay67 B.wx) (constant S512x256 .f32 0x00000000#32) n)

/-- Of a grid point: the gradient of the gate's rows. -/
abbrev dyg (B : Blocks F) : FVec F S512x256 .bf16 :=
  k0_pay32 (k0_pay25 B.h) B.y (k0_pay29 B.y) (k0_pay30 B.y) (k0_pay31 B.y) B.dm

/-- Of a grid point: the first eight rows of the gradient of the convolved rows. -/
abbrev nout (i : grid0.Coords) (B : Blocks F) (c : Vec F S1x256 .f32) : FVec F S8x256 .f32 :=
  k0_pay71 (dxc i B c)

/-- Of a grid point: the convolution weights' gradient added. -/
abbrev dw (i : grid0.Coords) (B : Blocks F) (c : Vec F S1x256 .f32) (o : Vec F S4x256 .f32) : FVec F S4x256 .f32 :=
  k0_pay73 B.x (sh3 i B) (sh2 i B) (sh1 i B) (dxc i B c) o

/-- Of a grid point: the convolution offset's gradient added. -/
abbrev dcb (i : grid0.Coords) (B : Blocks F) (c : Vec F S1x256 .f32) (o : Vec F S1x256 .f32) : FVec F S1x256 .f32 :=
  k0_pay72 (dxc i B c) o

/-- Of a grid point: the recurrence gate's matrix gradient added. -/
abbrev dwa (i : grid0.Coords) (B : Blocks F) (c : Vec F S1x256 .f32) (o : Vec F S256x256 .f32) : FVec F S256x256 .f32 :=
  k0_pay63 (xc i B) (dpa i B c) o

/-- Of a grid point: the recurrence gate's offset gradient added. -/
abbrev dba (i : grid0.Coords) (B : Blocks F) (c : Vec F S1x256 .f32) (o : Vec F S1x256 .f32) : FVec F S1x256 .f32 :=
  k0_pay61 (dpa i B c) (k0_pay60 o)

/-- Of a grid point: the input gate's matrix gradient added. -/
abbrev dwx (i : grid0.Coords) (B : Blocks F) (c : Vec F S1x256 .f32) (o : Vec F S256x256 .f32) : FVec F S256x256 .f32 :=
  k0_pay64 (xc i B) (dpx i B c) o

/-- Of a grid point: the input gate's offset gradient added. -/
abbrev dbx (i : grid0.Coords) (B : Blocks F) (c : Vec F S1x256 .f32) (o : Vec F S1x256 .f32) : FVec F S1x256 .f32 :=
  k0_pay62 (dpx i B c) o

/-- Of a grid point: the decay parameter's gradient added. -/
abbrev dlam (i : grid0.Coords) (B : Blocks F) (c : Vec F S1x256 .f32) (o : Vec F S1x256 .f32) : FVec F S1x256 .f32 :=
  k0_pay57 (rg i B) (dec i B) (gsq i B c) (gdec i B c) (Scalar.ofBits .f32 0x40000000#32) o B.lam

end Cert.KernelIdeal.Point

end
-- ==== Proof.Body.lean ====
/- The body of the kernel at one grid point: the run of its loop and of the whole body, from any contents of the
   buffers it writes, with the contents it leaves stated by `Cert.KernelIdeal.Point`. -/
module

public import proofs.«01_k».proof.Proof.Point
public import proofs.«01_k».proof.Proof.Gen.KernelIdeal.Loops
public import Idealize.ShloMosaic.Lib.VecWindow
public meta import Idealize.ShloMosaic.Lib.Tactic.Stretches

@[expose] public section

set_option maxRecDepth 16384

noncomputable section

namespace Cert.KernelIdeal.Point

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the tiles by its invariant: before trip `k` the tiles from the last one up hold what they received,
    and the value handed on is `carry … k`. -/
@[sl_loop] def tileLoop (𝒱 : Variants) (c : Dev nD) (bd : Option 𝒱.V) (E : Set ℕ) (i : grid0.Coords) (arg1 : Memref sig .tc .vmem S512x256 .f32) (harg1 : arg1.IsWhole) (arg2 : Memref sig .tc .vmem S8x256 .f32) (harg2 : arg2.IsWhole) (arg3 : Memref sig .tc .vmem S512x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S512x256 .f32) (harg11 : arg11.IsWhole) (arg12 : Memref sig .tc .vmem S8x256 .f32) (harg12 : arg12.IsWhole) (arg13 : Memref sig .tc .vmem S512x256 .f32) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S1x256 .f32) (harg26 : arg26.IsWhole) (arg27 : Memref sig .tc .vmem S8x256 .f32) (harg27 : arg27.IsWhole) (v104 : FVec F S512x256 .f32) (v182 : FVec F S512x256 .f32) (v199 : IVec S512x256 32) (v201 : IVec S512x256 1) (v204 : FVec F S512x256 .f32) (v205 : FVec F S512x256 .f32) (v206 : FVec F S512x256 .f32)
    (X23 : BufTy.Contents (Elt F) arg23.view.ty) (X24 : BufTy.Contents (Elt F) arg24.view.ty) (G25 : BufTy.Contents (Elt F) arg25.view.ty)
    (init : Vec F S1x256 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v182 v199 v201 v204 v205 v206 init where
  inv k acc := iprop((arg23.view.loc (c : Thread nD τ) ↦[arg23.view.set]{fullShare} X23)
    ∗ (arg24.view.loc (c : Thread nD τ) ↦[arg24.view.set]{fullShare} X24)
    ∗ (∃ f, (arg25.view.loc (c : Thread nD τ) ↦[arg25.view.set]{fullShare} f)
        ∗ ⌜f = arg25.view.writes (Elt F) G25 (tiles (arg23.view.read (Elt F) X23) (arg24.view.read (Elt F) X24) init k)⌝)
    ∗ ⌜acc = carry (arg23.view.read (Elt F) X23) (arg24.view.read (Elt F) X24) init k⌝)
  step k acc := by
    iintro ⟨H23, H24, ⟨%f, H25, %hf⟩, %hacc⟩
    subst hacc hf
    have hk : k.val < 64 := Nat.lt_of_lt_of_le k.isLt k0_t1_abs.2.1
    unfold k0_t1_body
    sl_exec
    sl_step
    isplitl [H23]; · iexact H23
    isplitl [H24]; · iexact H24
    isplitl [H25]
    · iexists _; isplitl [H25]; · iexact H25
      ipureintro
      rw [tiles_succ, View.writes_cons]
    ipureintro
    rw [carry_succ]
    rfl

/-- A load of the whole buffer after the loop reads what every row's tile received. -/
theorem readCov_tiles (v : View sig .tc .vmem S512x256 .f32) (g a : Vec F S512x256 .f32) (c : Vec F S1x256 .f32) {off : Fin S512x256.rank → ℕ}
    (inb : ∀ x, off x + S512x256.size x ≤ S512x256.size x) :
    v.readCov (tiles g a c (Scf.trips k0_t1_loop.lb k0_t1_loop.ub k0_t1_loop.st)) (Rect.unit off S512x256.size inb).toLoadRect = recv g a c :=
  (View.readAt_full v _ inb).trans (read_tiles_all v _ g a c)

set_option maxHeartbeats 2000000 in
/-- The body at the first grid point, which zeroes the sums and the handed gradient: from the blocks it reads and any contents of what it only writes, it ends with every buffer
    holding what `Point` says. -/
theorem run_first (c : Dev nD) (i : grid0.Coords) (arg1 : Memref sig .tc .vmem S512x256 .f32) (harg1 : arg1.IsWhole) (arg2 : Memref sig .tc .vmem S8x256 .f32) (harg2 : arg2.IsWhole) (arg3 : Memref sig .tc .vmem S512x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S512x256 .f32) (harg11 : arg11.IsWhole) (arg12 : Memref sig .tc .vmem S8x256 .f32) (harg12 : arg12.IsWhole) (arg13 : Memref sig .tc .vmem S512x256 .f32) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S1x256 .f32) (harg26 : arg26.IsWhole) (arg27 : Memref sig .tc .vmem S8x256 .f32) (harg27 : arg27.IsWhole)
    (hc : (Scalar.cmpi .ne (Scalar.extui (Scalar.cmpi .eq (BitVec.ofNat 32 (i 0).val) 0#32)) 0#32) = 1#1) (B : Blocks F) (nn : Vec F S8x256 .f32) (E : Set ℕ) (K : PUnit → sProp 𝕄) :
    iprop(owns (c : Thread nD τ) arg1 fullShare B.x
          ∗ owns (c : Thread nD τ) arg2 fullShare B.xp
          ∗ owns (c : Thread nD τ) arg3 fullShare B.y
          ∗ owns (c : Thread nD τ) arg4 fullShare B.w
          ∗ owns (c : Thread nD τ) arg5 fullShare B.cb
          ∗ owns (c : Thread nD τ) arg6 fullShare B.wa
          ∗ owns (c : Thread nD τ) arg7 fullShare B.ba
          ∗ owns (c : Thread nD τ) arg8 fullShare B.wx
          ∗ owns (c : Thread nD τ) arg9 fullShare B.bx
          ∗ owns (c : Thread nD τ) arg10 fullShare B.lam
          ∗ owns (c : Thread nD τ) arg11 fullShare B.h
          ∗ owns (c : Thread nD τ) arg12 fullShare B.hp
          ∗ owns (c : Thread nD τ) arg13 fullShare B.dm
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ owns (c : Thread nD τ) arg27 fullShare nn
          ∗ (iprop(owns (c : Thread nD τ) arg1 fullShare B.x
          ∗ owns (c : Thread nD τ) arg2 fullShare B.xp
          ∗ owns (c : Thread nD τ) arg3 fullShare B.y
          ∗ owns (c : Thread nD τ) arg4 fullShare B.w
          ∗ owns (c : Thread nD τ) arg5 fullShare B.cb
          ∗ owns (c : Thread nD τ) arg6 fullShare B.wa
          ∗ owns (c : Thread nD τ) arg7 fullShare B.ba
          ∗ owns (c : Thread nD τ) arg8 fullShare B.wx
          ∗ owns (c : Thread nD τ) arg9 fullShare B.bx
          ∗ owns (c : Thread nD τ) arg10 fullShare B.lam
          ∗ owns (c : Thread nD τ) arg11 fullShare B.h
          ∗ owns (c : Thread nD τ) arg12 fullShare B.hp
          ∗ owns (c : Thread nD τ) arg13 fullShare B.dm
          ∗ owns (c : Thread nD τ) arg14 fullShare (dx i B (k0_pay1 (F := F)) nn)
          ∗ owns (c : Thread nD τ) arg15 fullShare (dyg B)
          ∗ owns (c : Thread nD τ) arg16 fullShare (dw i B (k0_pay1 (F := F)) (k0_pay2 (F := F)))
          ∗ owns (c : Thread nD τ) arg17 fullShare (dcb i B (k0_pay1 (F := F)) (k0_pay3 (F := F)))
          ∗ owns (c : Thread nD τ) arg18 fullShare (dwa i B (k0_pay1 (F := F)) (k0_pay4 (F := F)))
          ∗ owns (c : Thread nD τ) arg19 fullShare (dba i B (k0_pay1 (F := F)) (k0_pay5 (F := F)))
          ∗ owns (c : Thread nD τ) arg20 fullShare (dwx i B (k0_pay1 (F := F)) (k0_pay6 (F := F)))
          ∗ owns (c : Thread nD τ) arg21 fullShare (dbx i B (k0_pay1 (F := F)) (k0_pay7 (F := F)))
          ∗ owns (c : Thread nD τ) arg22 fullShare (dlam i B (k0_pay1 (F := F)) (k0_pay8 (F := F)))
          ∗ (∃ d, owns (c : Thread nD τ) arg23 fullShare d)
          ∗ (∃ d, owns (c : Thread nD τ) arg24 fullShare d)
          ∗ (∃ d, owns (c : Thread nD τ) arg25 fullShare d)
          ∗ owns (c : Thread nD τ) arg26 fullShare (cout i B (k0_pay1 (F := F)))
          ∗ owns (c : Thread nD τ) arg27 fullShare (nout i B (k0_pay1 (F := F)))) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_lru_bwd_eq_skeleton]; unfold cc0_lru_bwd_skel
  simp only [k0_part11_eq_skeleton]; unfold k0_part11_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg27.eq_unread hf27
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro; refine (View.read_writes_full _ _ _ _ _).trans ?_
    sl_unfold_run_names
    simp -proj only [View.readAt_full, View.read_writes_full, View.readCov_full, Memref.IsWhole.read_unread, readCov_tiles]; all_goals rfl
  isplitl [H15]
  · iexists _; isplitr
    swap; · iexact H15
    ipureintro; refine (View.read_writes_full _ _ _ _ _).trans ?_
    sl_unfold_run_names
    simp -proj only [View.readAt_full, View.read_writes_full, View.readCov_full, Memref.IsWhole.read_unread, readCov_tiles]; all_goals rfl
  isplitl [H16]
  · iexists _; isplitr
    swap; · iexact H16
    ipureintro; refine (View.read_writes_full _ _ _ _ _).trans ?_
    sl_unfold_run_names
    simp -proj only [View.readAt_full, View.read_writes_full, View.readCov_full, Memref.IsWhole.read_unread, readCov_tiles]; exact congrArg (k0_pay73 B.x (sh3 i B) (sh2 i B) (sh1 i B) (dxc i B (k0_pay1 (F := F)))) (View.readCov_full _ _ _ _ _)
  isplitl [H17]
  · iexists _; isplitr
    swap; · iexact H17
    ipureintro; refine (View.read_writes_full _ _ _ _ _).trans ?_
    sl_unfold_run_names
    simp -proj only [View.readAt_full, View.read_writes_full, View.readCov_full, Memref.IsWhole.read_unread, readCov_tiles]; exact congrArg (k0_pay72 (dxc i B (k0_pay1 (F := F)))) (View.readCov_full _ _ _ _ _)
  isplitl [H18]
  · iexists _; isplitr
    swap; · iexact H18
    ipureintro; refine (View.read_writes_full _ _ _ _ _).trans ?_
    sl_unfold_run_names
    simp -proj only [View.readAt_full, View.read_writes_full, View.readCov_full, Memref.IsWhole.read_unread, readCov_tiles]; all_goals rfl
  isplitl [H19]
  · iexists _; isplitr
    swap; · iexact H19
    ipureintro; refine (View.read_writes_full _ _ _ _ _).trans ?_
    sl_unfold_run_names
    simp -proj only [View.readAt_full, View.read_writes_full, View.readCov_full, Memref.IsWhole.read_unread, readCov_tiles]; all_goals rfl
  isplitl [H20]
  · iexists _; isplitr
    swap; · iexact H20
    ipureintro; refine (View.read_writes_full _ _ _ _ _).trans ?_
    sl_unfold_run_names
    simp -proj only [View.readAt_full, View.read_writes_full, View.readCov_full, Memref.IsWhole.read_unread, readCov_tiles]; all_goals rfl
  isplitl [H21]
  · iexists _; isplitr
    swap; · iexact H21
    ipureintro; refine (View.read_writes_full _ _ _ _ _).trans ?_
    sl_unfold_run_names
    simp -proj only [View.readAt_full, View.read_writes_full, View.readCov_full, Memref.IsWhole.read_unread, readCov_tiles]; all_goals rfl
  isplitl [H22]
  · iexists _; isplitr
    swap; · iexact H22
    ipureintro; refine (View.read_writes_full _ _ _ _ _).trans ?_
    sl_unfold_run_names
    simp -proj only [View.readAt_full, View.read_writes_full, View.readCov_full, Memref.IsWhole.read_unread, readCov_tiles]; all_goals rfl
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  isplitl [H26]
  · iexists _; isplitr
    swap; · iexact H26
    ipureintro; refine (View.read_writes_full _ _ _ _ _).trans ?_
    sl_unfold_run_names
    simp -proj only [View.readAt_full, View.read_writes_full, View.readCov_full, Memref.IsWhole.read_unread, readCov_tiles]; all_goals rfl
  iexists _; isplitr
  swap; · iexact H27
  ipureintro; refine (View.read_writes_full _ _ _ _ _).trans ?_
  sl_unfold_run_names
  simp -proj only [View.readAt_full, View.read_writes_full, View.readCov_full, Memref.IsWhole.read_unread, readCov_tiles]

set_option maxHeartbeats 2000000 in
/-- The body at a later grid point: from the blocks it reads and any contents of what it only writes, it ends with every buffer
    holding what `Point` says. -/
theorem run_later (c : Dev nD) (i : grid0.Coords) (arg1 : Memref sig .tc .vmem S512x256 .f32) (harg1 : arg1.IsWhole) (arg2 : Memref sig .tc .vmem S8x256 .f32) (harg2 : arg2.IsWhole) (arg3 : Memref sig .tc .vmem S512x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S512x256 .f32) (harg11 : arg11.IsWhole) (arg12 : Memref sig .tc .vmem S8x256 .f32) (harg12 : arg12.IsWhole) (arg13 : Memref sig .tc .vmem S512x256 .f32) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x256 .f32) (harg16 : arg16.IsWhole) (arg17 : Memref sig .tc .vmem S1x256 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S1x256 .f32) (harg26 : arg26.IsWhole) (arg27 : Memref sig .tc .vmem S8x256 .f32) (harg27 : arg27.IsWhole)
    (hc : ¬(Scalar.cmpi .ne (Scalar.extui (Scalar.cmpi .eq (BitVec.ofNat 32 (i 0).val) 0#32)) 0#32) = 1#1) (B : Blocks F) (cc : Vec F S1x256 .f32) (nn : Vec F S8x256 .f32) (o16 : Vec F S4x256 .f32) (o17 : Vec F S1x256 .f32) (o18 : Vec F S256x256 .f32) (o19 : Vec F S1x256 .f32) (o20 : Vec F S256x256 .f32) (o21 : Vec F S1x256 .f32) (o22 : Vec F S1x256 .f32) (E : Set ℕ) (K : PUnit → sProp 𝕄) :
    iprop(owns (c : Thread nD τ) arg1 fullShare B.x
          ∗ owns (c : Thread nD τ) arg2 fullShare B.xp
          ∗ owns (c : Thread nD τ) arg3 fullShare B.y
          ∗ owns (c : Thread nD τ) arg4 fullShare B.w
          ∗ owns (c : Thread nD τ) arg5 fullShare B.cb
          ∗ owns (c : Thread nD τ) arg6 fullShare B.wa
          ∗ owns (c : Thread nD τ) arg7 fullShare B.ba
          ∗ owns (c : Thread nD τ) arg8 fullShare B.wx
          ∗ owns (c : Thread nD τ) arg9 fullShare B.bx
          ∗ owns (c : Thread nD τ) arg10 fullShare B.lam
          ∗ owns (c : Thread nD τ) arg11 fullShare B.h
          ∗ owns (c : Thread nD τ) arg12 fullShare B.hp
          ∗ owns (c : Thread nD τ) arg13 fullShare B.dm
          ∗ (∃ d, owns (c : Thread nD τ) arg14 fullShare d)
          ∗ (∃ d, owns (c : Thread nD τ) arg15 fullShare d)
          ∗ owns (c : Thread nD τ) arg16 fullShare o16
          ∗ owns (c : Thread nD τ) arg17 fullShare o17
          ∗ owns (c : Thread nD τ) arg18 fullShare o18
          ∗ owns (c : Thread nD τ) arg19 fullShare o19
          ∗ owns (c : Thread nD τ) arg20 fullShare o20
          ∗ owns (c : Thread nD τ) arg21 fullShare o21
          ∗ owns (c : Thread nD τ) arg22 fullShare o22
          ∗ (∃ d, owns (c : Thread nD τ) arg23 fullShare d)
          ∗ (∃ d, owns (c : Thread nD τ) arg24 fullShare d)
          ∗ (∃ d, owns (c : Thread nD τ) arg25 fullShare d)
          ∗ owns (c : Thread nD τ) arg26 fullShare cc
          ∗ owns (c : Thread nD τ) arg27 fullShare nn
          ∗ (iprop(owns (c : Thread nD τ) arg1 fullShare B.x
          ∗ owns (c : Thread nD τ) arg2 fullShare B.xp
          ∗ owns (c : Thread nD τ) arg3 fullShare B.y
          ∗ owns (c : Thread nD τ) arg4 fullShare B.w
          ∗ owns (c : Thread nD τ) arg5 fullShare B.cb
          ∗ owns (c : Thread nD τ) arg6 fullShare B.wa
          ∗ owns (c : Thread nD τ) arg7 fullShare B.ba
          ∗ owns (c : Thread nD τ) arg8 fullShare B.wx
          ∗ owns (c : Thread nD τ) arg9 fullShare B.bx
          ∗ owns (c : Thread nD τ) arg10 fullShare B.lam
          ∗ owns (c : Thread nD τ) arg11 fullShare B.h
          ∗ owns (c : Thread nD τ) arg12 fullShare B.hp
          ∗ owns (c : Thread nD τ) arg13 fullShare B.dm
          ∗ owns (c : Thread nD τ) arg14 fullShare (dx i B cc nn)
          ∗ owns (c : Thread nD τ) arg15 fullShare (dyg B)
          ∗ owns (c : Thread nD τ) arg16 fullShare (dw i B cc o16)
          ∗ owns (c : Thread nD τ) arg17 fullShare (dcb i B cc o17)
          ∗ owns (c : Thread nD τ) arg18 fullShare (dwa i B cc o18)
          ∗ owns (c : Thread nD τ) arg19 fullShare (dba i B cc o19)
          ∗ owns (c : Thread nD τ) arg20 fullShare (dwx i B cc o20)
          ∗ owns (c : Thread nD τ) arg21 fullShare (dbx i B cc o21)
          ∗ owns (c : Thread nD τ) arg22 fullShare (dlam i B cc o22)
          ∗ (∃ d, owns (c : Thread nD τ) arg23 fullShare d)
          ∗ (∃ d, owns (c : Thread nD τ) arg24 fullShare d)
          ∗ (∃ d, owns (c : Thread nD τ) arg25 fullShare d)
          ∗ owns (c : Thread nD τ) arg26 fullShare (cout i B cc)
          ∗ owns (c : Thread nD τ) arg27 fullShare (nout i B cc)) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_lru_bwd_eq_skeleton]; unfold cc0_lru_bwd_skel
  simp only [k0_part11_eq_skeleton]; unfold k0_part11_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%f26, %hf26, H26⟩, ⟨%f27, %hf27, H27⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg26.eq_unread hf26; obtain rfl := harg27.eq_unread hf27
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro; refine (View.read_writes_full _ _ _ _ _).trans ?_
    sl_unfold_run_names
    simp -proj only [View.readAt_full, View.read_writes_full, View.readCov_full, Memref.IsWhole.read_unread, readCov_tiles]; all_goals rfl
  isplitl [H15]
  · iexists _; isplitr
    swap; · iexact H15
    ipureintro; refine (View.read_writes_full _ _ _ _ _).trans ?_
    sl_unfold_run_names
    simp -proj only [View.readAt_full, View.read_writes_full, View.readCov_full, Memref.IsWhole.read_unread, readCov_tiles]; all_goals rfl
  isplitl [H16]
  · iexists _; isplitr
    swap; · iexact H16
    ipureintro; refine (View.read_writes_full _ _ _ _ _).trans ?_
    sl_unfold_run_names
    simp -proj only [View.readAt_full, View.read_writes_full, View.readCov_full, Memref.IsWhole.read_unread, readCov_tiles]; exact congrArg (k0_pay73 B.x (sh3 i B) (sh2 i B) (sh1 i B) (dxc i B cc)) ((View.readAt_full _ _ _).trans (harg16.read_unread _))
  isplitl [H17]
  · iexists _; isplitr
    swap; · iexact H17
    ipureintro; refine (View.read_writes_full _ _ _ _ _).trans ?_
    sl_unfold_run_names
    simp -proj only [View.readAt_full, View.read_writes_full, View.readCov_full, Memref.IsWhole.read_unread, readCov_tiles]; exact congrArg (k0_pay72 (dxc i B cc)) ((View.readAt_full _ _ _).trans (harg17.read_unread _))
  isplitl [H18]
  · iexists _; isplitr
    swap; · iexact H18
    ipureintro; refine (View.read_writes_full _ _ _ _ _).trans ?_
    sl_unfold_run_names
    simp -proj only [View.readAt_full, View.read_writes_full, View.readCov_full, Memref.IsWhole.read_unread, readCov_tiles]; all_goals rfl
  isplitl [H19]
  · iexists _; isplitr
    swap; · iexact H19
    ipureintro; refine (View.read_writes_full _ _ _ _ _).trans ?_
    sl_unfold_run_names
    simp -proj only [View.readAt_full, View.read_writes_full, View.readCov_full, Memref.IsWhole.read_unread, readCov_tiles]; all_goals rfl
  isplitl [H20]
  · iexists _; isplitr
    swap; · iexact H20
    ipureintro; refine (View.read_writes_full _ _ _ _ _).trans ?_
    sl_unfold_run_names
    simp -proj only [View.readAt_full, View.read_writes_full, View.readCov_full, Memref.IsWhole.read_unread, readCov_tiles]; all_goals rfl
  isplitl [H21]
  · iexists _; isplitr
    swap; · iexact H21
    ipureintro; refine (View.read_writes_full _ _ _ _ _).trans ?_
    sl_unfold_run_names
    simp -proj only [View.readAt_full, View.read_writes_full, View.readCov_full, Memref.IsWhole.read_unread, readCov_tiles]; all_goals rfl
  isplitl [H22]
  · iexists _; isplitr
    swap; · iexact H22
    ipureintro; refine (View.read_writes_full _ _ _ _ _).trans ?_
    sl_unfold_run_names
    simp -proj only [View.readAt_full, View.read_writes_full, View.readCov_full, Memref.IsWhole.read_unread, readCov_tiles]; all_goals rfl
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  isplitl [H26]
  · iexists _; isplitr
    swap; · iexact H26
    ipureintro; refine (View.read_writes_full _ _ _ _ _).trans ?_
    sl_unfold_run_names
    simp -proj only [View.readAt_full, View.read_writes_full, View.readCov_full, Memref.IsWhole.read_unread, readCov_tiles]; all_goals rfl
  iexists _; isplitr
  swap; · iexact H27
  ipureintro; refine (View.read_writes_full _ _ _ _ _).trans ?_
  sl_unfold_run_names
  simp -proj only [View.readAt_full, View.read_writes_full, View.readCov_full, Memref.IsWhole.read_unread, readCov_tiles]

end Cert.KernelIdeal.Point

end
-- ==== Proof.Sweep.lean ====
/- The sweep of the kernel over its grid: what the buffers carried from point to point hold before each point, the proof
   data of the pipeline, and the run of the whole program, at any values. -/
module

public import proofs.«01_k».proof.Proof.Body
public import proofs.«01_k».proof.Proof.Gen.KernelIdeal.Frame
public import Idealize.ShloMosaic.Lib.WordCmp
public import Idealize.ShloMosaic.Lib.Claim

@[expose] public section

set_option maxRecDepth 16384

noncomputable section

namespace Cert.KernelIdeal.Point

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What is carried from one grid point to the next: the gradient handed to the block before in the sequence, the first
    rows of the convolved rows' gradient, and the seven sums. -/
structure Carried (F : FTy → Type) where
  c : Vec F S1x256 .f32
  n : Vec F S8x256 .f32
  dw : Vec F S4x256 .f32
  dcb : Vec F S1x256 .f32
  dwa : Vec F S256x256 .f32
  dba : Vec F S1x256 .f32
  dwx : Vec F S256x256 .f32
  dbx : Vec F S1x256 .f32
  dlam : Vec F S1x256 .f32

/-- What the first point sets before it adds to it. -/
def Carried.zero : Carried F :=
  ⟨k0_pay1, constant S8x256 .f32 0x00000000#32, k0_pay2, k0_pay3, k0_pay4, k0_pay5, k0_pay6, k0_pay7, k0_pay8⟩

/-- What a point leaves to the next. -/
def Carried.next (i : grid0.Coords) (B : Blocks F) (s : Carried F) : Carried F :=
  ⟨cout i B s.c, nout i B s.c, Point.dw i B s.c s.dw, Point.dcb i B s.c s.dcb, Point.dwa i B s.c s.dwa, Point.dba i B s.c s.dba, Point.dwx i B s.c s.dwx, Point.dbx i B s.c s.dbx, Point.dlam i B s.c s.dlam⟩

/-- At the first point the rows handed over by no block do not matter. -/
theorem dx_first (i : grid0.Coords) (hi : (i 0).val = 0) (B : Blocks F) (c : Vec F S1x256 .f32) (n n' : Vec F S8x256 .f32) :
    dx i B c n = dx i B c n' := by
  unfold dx
  refine congrArg (k0_pay70 _ _) ?_
  rw [hi]
  generalize part i B c = p1
  generalize k0_pay66 (dpx i B c) = p2
  generalize k0_pay67 B.wx = p3
  generalize (constant S512x256 .f32 0x00000000#32 : FVec F S512x256 .f32) = p4
  rfl

variable (m : (ℓ : Loc nD τ sig) → Buf (Elt F) ℓ) (ρ : Dev nD → PrngReg)

/-- The blocks point `t` reads. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- What is carried into point `n`. -/
def carried (c : Dev nD) : (n : ℕ) → n ≤ cfg0.N → Carried F
  | 0, _ => Carried.zero
  | n + 1, h => Carried.next (grid0.coords ⟨n, h⟩) (blocks m c ⟨n, h⟩) (carried c n (Nat.le_of_lt h))

/-- What is carried into point `t`. -/
abbrev enter (c : Dev nD) (t : Fin cfg0.N) : Carried F := carried m c t.val (Nat.le_of_lt t.isLt)

/-- What point `t` leaves. -/
abbrev leave (c : Dev nD) (t : Fin cfg0.N) : Carried F := Carried.next (grid0.coords t) (blocks m c t) (enter m c t)

theorem leave_c (c : Dev nD) (t : Fin cfg0.N) : (leave m c t).c = cout (grid0.coords t) (blocks m c t) (enter m c t).c := by
  unfold leave Carried.next; rfl

theorem leave_n (c : Dev nD) (t : Fin cfg0.N) : (leave m c t).n = nout (grid0.coords t) (blocks m c t) (enter m c t).c := by
  unfold leave Carried.next; rfl

theorem carried_pos (c : Dev nD) (n : ℕ) (h : n ≤ cfg0.N) (hz : n ≠ 0) :
    carried m c n h = leave m c ⟨n - 1, by omega⟩ := by
  cases n with
  | zero => exact absurd rfl hz
  | succ n => rfl

theorem enter_zero (c : Dev nD) (t : Fin cfg0.N) (hz : t.val = 0) : enter m c t = Carried.zero := by
  obtain ⟨n, hn⟩ := t
  cases n with
  | zero => rfl
  | succ n => exact absurd hz (Nat.succ_ne_zero n)

theorem coords_zero (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The body's own test holds at the first point alone. -/
theorem first_iff (t : Fin cfg0.N) :
    (Scalar.cmpi .ne (Scalar.extui (Scalar.cmpi .eq (BitVec.ofNat 32 (grid0.coords t 0).val) 0#32)) 0#32) = 1#1 ↔ t.val = 0 := by
  have ht : t.val < 16 := Nat.lt_of_lt_of_eq t.isLt N_0
  simp only [coords_zero t]
  word_cmp

/-- Scratch buffer 0. -/
abbrev scr0 : Memref sig .tc .vmem S512x256 .f32 := Memref.whole cc0_scratch0
/-- Scratch buffer 1. -/
abbrev scr1 : Memref sig .tc .vmem S512x256 .f32 := Memref.whole cc0_scratch1
/-- Scratch buffer 2. -/
abbrev scr2 : Memref sig .tc .vmem S512x256 .f32 := Memref.whole cc0_scratch2
/-- Scratch buffer 3. -/
abbrev scr3 : Memref sig .tc .vmem S1x256 .f32 := Memref.whole cc0_scratch3
/-- Scratch buffer 4. -/
abbrev scr4 : Memref sig .tc .vmem S8x256 .f32 := Memref.whole cc0_scratch4
/-- Window 0's staging buffer at point `t`. -/
abbrev st0 (t : Fin cfg0.N) : Memref sig .tc .vmem S512x256 .f32 := win0_0.stage (cfg0.slots t 0)
/-- Window 1's staging buffer at point `t`. -/
abbrev st1 (t : Fin cfg0.N) : Memref sig .tc .vmem S8x256 .f32 := win0_1.stage (cfg0.slots t 1)
/-- Window 2's staging buffer at point `t`. -/
abbrev st2 (t : Fin cfg0.N) : Memref sig .tc .vmem S512x256 .f32 := win0_2.stage (cfg0.slots t 2)
/-- Window 3's staging buffer at point `t`. -/
abbrev st3 (t : Fin cfg0.N) : Memref sig .tc .vmem S4x256 .f32 := win0_3.stage (cfg0.slots t 3)
/-- Window 4's staging buffer at point `t`. -/
abbrev st4 (t : Fin cfg0.N) : Memref sig .tc .vmem S1x256 .f32 := win0_4.stage (cfg0.slots t 4)
/-- Window 5's staging buffer at point `t`. -/
abbrev st5 (t : Fin cfg0.N) : Memref sig .tc .vmem S256x256 .f32 := win0_5.stage (cfg0.slots t 5)
/-- Window 6's staging buffer at point `t`. -/
abbrev st6 (t : Fin cfg0.N) : Memref sig .tc .vmem S1x256 .f32 := win0_6.stage (cfg0.slots t 6)
/-- Window 7's staging buffer at point `t`. -/
abbrev st7 (t : Fin cfg0.N) : Memref sig .tc .vmem S256x256 .f32 := win0_7.stage (cfg0.slots t 7)
/-- Window 8's staging buffer at point `t`. -/
abbrev st8 (t : Fin cfg0.N) : Memref sig .tc .vmem S1x256 .f32 := win0_8.stage (cfg0.slots t 8)
/-- Window 9's staging buffer at point `t`. -/
abbrev st9 (t : Fin cfg0.N) : Memref sig .tc .vmem S1x256 .f32 := win0_9.stage (cfg0.slots t 9)
/-- Window 10's staging buffer at point `t`. -/
abbrev st10 (t : Fin cfg0.N) : Memref sig .tc .vmem S512x256 .f32 := win0_10.stage (cfg0.slots t 10)
/-- Window 11's staging buffer at point `t`. -/
abbrev st11 (t : Fin cfg0.N) : Memref sig .tc .vmem S8x256 .f32 := win0_11.stage (cfg0.slots t 11)
/-- Window 12's staging buffer at point `t`. -/
abbrev st12 (t : Fin cfg0.N) : Memref sig .tc .vmem S512x256 .f32 := win0_12.stage (cfg0.slots t 12)
/-- Window 13's staging buffer at point `t`. -/
abbrev st13 (t : Fin cfg0.N) : Memref sig .tc .vmem S512x256 .bf16 := win0_13.stage (cfg0.slots t 13)
/-- Window 14's staging buffer at point `t`. -/
abbrev st14 (t : Fin cfg0.N) : Memref sig .tc .vmem S512x256 .bf16 := win0_14.stage (cfg0.slots t 14)
/-- Window 15's staging buffer at point `t`. -/
abbrev st15 (t : Fin cfg0.N) : Memref sig .tc .vmem S4x256 .f32 := win0_15.stage (cfg0.slots t 15)
/-- Window 16's staging buffer at point `t`. -/
abbrev st16 (t : Fin cfg0.N) : Memref sig .tc .vmem S1x256 .f32 := win0_16.stage (cfg0.slots t 16)
/-- Window 17's staging buffer at point `t`. -/
abbrev st17 (t : Fin cfg0.N) : Memref sig .tc .vmem S256x256 .f32 := win0_17.stage (cfg0.slots t 17)
/-- Window 18's staging buffer at point `t`. -/
abbrev st18 (t : Fin cfg0.N) : Memref sig .tc .vmem S1x256 .f32 := win0_18.stage (cfg0.slots t 18)
/-- Window 19's staging buffer at point `t`. -/
abbrev st19 (t : Fin cfg0.N) : Memref sig .tc .vmem S256x256 .f32 := win0_19.stage (cfg0.slots t 19)
/-- Window 20's staging buffer at point `t`. -/
abbrev st20 (t : Fin cfg0.N) : Memref sig .tc .vmem S1x256 .f32 := win0_20.stage (cfg0.slots t 20)
/-- Window 21's staging buffer at point `t`. -/
abbrev st21 (t : Fin cfg0.N) : Memref sig .tc .vmem S1x256 .f32 := win0_21.stage (cfg0.slots t 21)

/-- What the launch hands the sweep: every scratch buffer at anything. -/
theorem launched_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- Before point `n`: at the first every scratch buffer at anything; later the two carried ones at what is carried. -/
def between (c : Dev nD) : (n : ℕ) → n ≤ cfg0.N → sProp 𝕄
  | 0, _ => Pipeline.ΦA spec0 c
  | n + 1, h => iprop(iprop((∃ d, owns (c : Thread nD τ) scr0 fullShare d) ∗ (∃ d, owns (c : Thread nD τ) scr1 fullShare d) ∗ (∃ d, owns (c : Thread nD τ) scr2 fullShare d)
      ∗ owns (c : Thread nD τ) scr3 fullShare (carried m c (n + 1) h).c ∗ owns (c : Thread nD τ) scr4 fullShare (carried m c (n + 1) h).n)
      ∗ (∃ r, prngReg c r))

theorem between_pos (c : Dev nD) (n : ℕ) (h : n ≤ cfg0.N) (hz : n ≠ 0) :
    between m c n h = iprop(iprop((∃ d, owns (c : Thread nD τ) scr0 fullShare d) ∗ (∃ d, owns (c : Thread nD τ) scr1 fullShare d) ∗ (∃ d, owns (c : Thread nD τ) scr2 fullShare d)
      ∗ owns (c : Thread nD τ) scr3 fullShare (carried m c n h).c ∗ owns (c : Thread nD τ) scr4 fullShare (carried m c n h).n)
      ∗ (∃ r, prngReg c r)) := by
  cases n with
  | zero => exact absurd rfl hz
  | succ n => rfl

/-- The proof data of the pipeline: the arrays as the call finds them, and after each point the inputs' buffers at their
    blocks and the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Point.dx (grid0.coords t) (blocks m c t) (enter m c t).c (enter m c t).n
    | ⟨14, _⟩ => Point.dyg (blocks m c t)
    | ⟨15, _⟩ => (leave m c t).dw
    | ⟨16, _⟩ => (leave m c t).dcb
    | ⟨17, _⟩ => (leave m c t).dwa
    | ⟨18, _⟩ => (leave m c t).dba
    | ⟨19, _⟩ => (leave m c t).dwx
    | ⟨20, _⟩ => (leave m c t).dbx
    | ⟨21, _⟩ => (leave m c t).dlam
    | ⟨_ + 22, h⟩ => absurd h (Nat.not_lt.2 (Nat.le_add_left _ _))
  Φ t := between m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem blocks_0 (c : Dev nD) (t : Fin cfg0.N) : iblk m c 0 t = (blocks m c t).x := by unfold blocks; rfl
theorem after_0 (c : Dev nD) (t : Fin cfg0.N) : (dats m 0 c).after 0 t = iblk m c 0 t := by dsimp only [dats]
theorem blocks_1 (c : Dev nD) (t : Fin cfg0.N) : iblk m c 1 t = (blocks m c t).xp := by unfold blocks; rfl
theorem after_1 (c : Dev nD) (t : Fin cfg0.N) : (dats m 0 c).after 1 t = iblk m c 1 t := by dsimp only [dats]
theorem blocks_2 (c : Dev nD) (t : Fin cfg0.N) : iblk m c 2 t = (blocks m c t).y := by unfold blocks; rfl
theorem after_2 (c : Dev nD) (t : Fin cfg0.N) : (dats m 0 c).after 2 t = iblk m c 2 t := by dsimp only [dats]
theorem blocks_3 (c : Dev nD) (t : Fin cfg0.N) : iblk m c 3 t = (blocks m c t).w := by unfold blocks; rfl
theorem after_3 (c : Dev nD) (t : Fin cfg0.N) : (dats m 0 c).after 3 t = iblk m c 3 t := by dsimp only [dats]
theorem blocks_4 (c : Dev nD) (t : Fin cfg0.N) : iblk m c 4 t = (blocks m c t).cb := by unfold blocks; rfl
theorem after_4 (c : Dev nD) (t : Fin cfg0.N) : (dats m 0 c).after 4 t = iblk m c 4 t := by dsimp only [dats]
theorem blocks_5 (c : Dev nD) (t : Fin cfg0.N) : iblk m c 5 t = (blocks m c t).wa := by unfold blocks; rfl
theorem after_5 (c : Dev nD) (t : Fin cfg0.N) : (dats m 0 c).after 5 t = iblk m c 5 t := by dsimp only [dats]
theorem blocks_6 (c : Dev nD) (t : Fin cfg0.N) : iblk m c 6 t = (blocks m c t).ba := by unfold blocks; rfl
theorem after_6 (c : Dev nD) (t : Fin cfg0.N) : (dats m 0 c).after 6 t = iblk m c 6 t := by dsimp only [dats]
theorem blocks_7 (c : Dev nD) (t : Fin cfg0.N) : iblk m c 7 t = (blocks m c t).wx := by unfold blocks; rfl
theorem after_7 (c : Dev nD) (t : Fin cfg0.N) : (dats m 0 c).after 7 t = iblk m c 7 t := by dsimp only [dats]
theorem blocks_8 (c : Dev nD) (t : Fin cfg0.N) : iblk m c 8 t = (blocks m c t).bx := by unfold blocks; rfl
theorem after_8 (c : Dev nD) (t : Fin cfg0.N) : (dats m 0 c).after 8 t = iblk m c 8 t := by dsimp only [dats]
theorem blocks_9 (c : Dev nD) (t : Fin cfg0.N) : iblk m c 9 t = (blocks m c t).lam := by unfold blocks; rfl
theorem after_9 (c : Dev nD) (t : Fin cfg0.N) : (dats m 0 c).after 9 t = iblk m c 9 t := by dsimp only [dats]
theorem blocks_10 (c : Dev nD) (t : Fin cfg0.N) : iblk m c 10 t = (blocks m c t).h := by unfold blocks; rfl
theorem after_10 (c : Dev nD) (t : Fin cfg0.N) : (dats m 0 c).after 10 t = iblk m c 10 t := by dsimp only [dats]
theorem blocks_11 (c : Dev nD) (t : Fin cfg0.N) : iblk m c 11 t = (blocks m c t).hp := by unfold blocks; rfl
theorem after_11 (c : Dev nD) (t : Fin cfg0.N) : (dats m 0 c).after 11 t = iblk m c 11 t := by dsimp only [dats]
theorem blocks_12 (c : Dev nD) (t : Fin cfg0.N) : iblk m c 12 t = (blocks m c t).dm := by unfold blocks; rfl
theorem after_12 (c : Dev nD) (t : Fin cfg0.N) : (dats m 0 c).after 12 t = iblk m c 12 t := by dsimp only [dats]
theorem after_13 (c : Dev nD) (t : Fin cfg0.N) : (dats m 0 c).after 13 t = Point.dx (grid0.coords t) (blocks m c t) (enter m c t).c (enter m c t).n := by dsimp only [dats]
theorem after_14 (c : Dev nD) (t : Fin cfg0.N) : (dats m 0 c).after 14 t = Point.dyg (blocks m c t) := by dsimp only [dats]
theorem leave_15 (c : Dev nD) (t : Fin cfg0.N) : (leave m c t).dw = Point.dw (grid0.coords t) (blocks m c t) (enter m c t).c (enter m c t).dw := by unfold leave Carried.next; rfl
theorem after_15 (c : Dev nD) (t : Fin cfg0.N) : (dats m 0 c).after 15 t = (leave m c t).dw := by dsimp only [dats]
theorem leave_16 (c : Dev nD) (t : Fin cfg0.N) : (leave m c t).dcb = Point.dcb (grid0.coords t) (blocks m c t) (enter m c t).c (enter m c t).dcb := by unfold leave Carried.next; rfl
theorem after_16 (c : Dev nD) (t : Fin cfg0.N) : (dats m 0 c).after 16 t = (leave m c t).dcb := by dsimp only [dats]
theorem leave_17 (c : Dev nD) (t : Fin cfg0.N) : (leave m c t).dwa = Point.dwa (grid0.coords t) (blocks m c t) (enter m c t).c (enter m c t).dwa := by unfold leave Carried.next; rfl
theorem after_17 (c : Dev nD) (t : Fin cfg0.N) : (dats m 0 c).after 17 t = (leave m c t).dwa := by dsimp only [dats]
theorem leave_18 (c : Dev nD) (t : Fin cfg0.N) : (leave m c t).dba = Point.dba (grid0.coords t) (blocks m c t) (enter m c t).c (enter m c t).dba := by unfold leave Carried.next; rfl
theorem after_18 (c : Dev nD) (t : Fin cfg0.N) : (dats m 0 c).after 18 t = (leave m c t).dba := by dsimp only [dats]
theorem leave_19 (c : Dev nD) (t : Fin cfg0.N) : (leave m c t).dwx = Point.dwx (grid0.coords t) (blocks m c t) (enter m c t).c (enter m c t).dwx := by unfold leave Carried.next; rfl
theorem after_19 (c : Dev nD) (t : Fin cfg0.N) : (dats m 0 c).after 19 t = (leave m c t).dwx := by dsimp only [dats]
theorem leave_20 (c : Dev nD) (t : Fin cfg0.N) : (leave m c t).dbx = Point.dbx (grid0.coords t) (blocks m c t) (enter m c t).c (enter m c t).dbx := by unfold leave Carried.next; rfl
theorem after_20 (c : Dev nD) (t : Fin cfg0.N) : (dats m 0 c).after 20 t = (leave m c t).dbx := by dsimp only [dats]
theorem leave_21 (c : Dev nD) (t : Fin cfg0.N) : (leave m c t).dlam = Point.dlam (grid0.coords t) (blocks m c t) (enter m c t).c (enter m c t).dlam := by unfold leave Carried.next; rfl
theorem after_21 (c : Dev nD) (t : Fin cfg0.N) : (dats m 0 c).after 21 t = (leave m c t).dlam := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d
theorem before_10 (c : Dev nD) (t : Fin cfg0.N) (d) : (dats m 0 c).before 10 t d = iblk m c 10 t :=
  before0_10_of m (dats m 0 c) (dats_A m c 10) (after_10 m c) t d
theorem before_11 (c : Dev nD) (t : Fin cfg0.N) (d) : (dats m 0 c).before 11 t d = iblk m c 11 t :=
  before0_11_of m (dats m 0 c) (dats_A m c 11) (after_11 m c) t d
theorem before_12 (c : Dev nD) (t : Fin cfg0.N) (d) : (dats m 0 c).before 12 t d = iblk m c 12 t :=
  before0_12_of m (dats m 0 c) (dats_A m c 12) (after_12 m c) t d
/-- After the first point sum 1's buffer holds what is carried. -/
theorem before_15 (c : Dev nD) (t : Fin cfg0.N) (h0 : t.val ≠ 0) (d) :
    (dats m 0 c).before 15 t d = (enter m c t).dw := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl), show enter m c t = _ from carried_pos m c t.val _ h0]
  dsimp only [dats]
/-- After the first point sum 2's buffer holds what is carried. -/
theorem before_16 (c : Dev nD) (t : Fin cfg0.N) (h0 : t.val ≠ 0) (d) :
    (dats m 0 c).before 16 t d = (enter m c t).dcb := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl), show enter m c t = _ from carried_pos m c t.val _ h0]
  dsimp only [dats]
/-- After the first point sum 3's buffer holds what is carried. -/
theorem before_17 (c : Dev nD) (t : Fin cfg0.N) (h0 : t.val ≠ 0) (d) :
    (dats m 0 c).before 17 t d = (enter m c t).dwa := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl), show enter m c t = _ from carried_pos m c t.val _ h0]
  dsimp only [dats]
/-- After the first point sum 4's buffer holds what is carried. -/
theorem before_18 (c : Dev nD) (t : Fin cfg0.N) (h0 : t.val ≠ 0) (d) :
    (dats m 0 c).before 18 t d = (enter m c t).dba := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl), show enter m c t = _ from carried_pos m c t.val _ h0]
  dsimp only [dats]
/-- After the first point sum 5's buffer holds what is carried. -/
theorem before_19 (c : Dev nD) (t : Fin cfg0.N) (h0 : t.val ≠ 0) (d) :
    (dats m 0 c).before 19 t d = (enter m c t).dwx := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl), show enter m c t = _ from carried_pos m c t.val _ h0]
  dsimp only [dats]
/-- After the first point sum 6's buffer holds what is carried. -/
theorem before_20 (c : Dev nD) (t : Fin cfg0.N) (h0 : t.val ≠ 0) (d) :
    (dats m 0 c).before 20 t d = (enter m c t).dbx := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl), show enter m c t = _ from carried_pos m c t.val _ h0]
  dsimp only [dats]
/-- After the first point sum 7's buffer holds what is carried. -/
theorem before_21 (c : Dev nD) (t : Fin cfg0.N) (h0 : t.val ≠ 0) (d) :
    (dats m 0 c).before 21 t d = (enter m c t).dlam := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl), show enter m c t = _ from carried_pos m c t.val _ h0]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d))
    ∗ (∃ d, owns (c : Thread nD τ) (st19 t) fullShare ((dats m 0 c).before 19 t d))
    ∗ (∃ d, owns (c : Thread nD τ) (st20 t) fullShare ((dats m 0 c).before 20 t d))
    ∗ (∃ d, owns (c : Thread nD τ) (st21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t)
    ∗ owns (c : Thread nD τ) (st14 t) fullShare ((dats m 0 c).after 14 t)
    ∗ owns (c : Thread nD τ) (st15 t) fullShare ((dats m 0 c).after 15 t)
    ∗ owns (c : Thread nD τ) (st16 t) fullShare ((dats m 0 c).after 16 t)
    ∗ owns (c : Thread nD τ) (st17 t) fullShare ((dats m 0 c).after 17 t)
    ∗ owns (c : Thread nD τ) (st18 t) fullShare ((dats m 0 c).after 18 t)
    ∗ owns (c : Thread nD τ) (st19 t) fullShare ((dats m 0 c).after 19 t)
    ∗ owns (c : Thread nD τ) (st20 t) fullShare ((dats m 0 c).after 20 t)
    ∗ owns (c : Thread nD τ) (st21 t) fullShare ((dats m 0 c).after 21 t))

set_option maxHeartbeats 4000000 in
/-- The body at any point, from what it is called with to what it returns. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21]
  rw [show (dats m 0 c).Φ t.succ = between m c (t.val + 1) t.isLt from rfl, between_pos m c (t.val + 1) t.isLt (Nat.succ_ne_zero _),
    show carried m c (t.val + 1) t.isLt = leave m c t from rfl, leave_c, leave_n, leave_15, leave_16, leave_17, leave_18, leave_19, leave_20, leave_21,
    blocks_0, blocks_1, blocks_2, blocks_3, blocks_4, blocks_5, blocks_6, blocks_7, blocks_8, blocks_9, blocks_10, blocks_11, blocks_12]
  by_cases h0 : t.val = 0
  ·
    rw [between_castSucc m c t, show between m c t.val _ = Pipeline.ΦA spec0 c from (by obtain ⟨n, hn⟩ := t; cases (show n = 0 from h0); rfl), launched_eq]
    iintro ⟨⟨⟨S0, S1, S2, S3, ⟨%n, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    rw [enter_zero m c t h0, dx_first _ ((coords_zero t).trans h0) (blocks m c t) _ _ n]
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ ((first_iff t).mpr h0) (blocks m c t) n Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, H12, H13, H14, H15, H16, H17, H18, H19, H20, H21, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  ·
    rw [between_castSucc m c t, between_pos m c t.val _ h0]
    simp only [before_15 m c t h0, before_16 m c t h0, before_17 m c t h0, before_18 m c t h0, before_19 m c t h0, before_20 m c t h0, before_21 m c t h0]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_later c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((first_iff t).mp h)) (blocks m c t) (enter m c t).c (enter m c t).n (enter m c t).dw (enter m c t).dcb (enter m c t).dwa (enter m c t).dba (enter m c t).dwx (enter m c t).dbx (enter m c t).dlam Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, H12, H13, H14, H15, H16, H17, H18, H19, H20, H21, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body's row in the table of bodies is the body itself. -/
theorem row_eq (t : Fin cfg0.N) :
    defs₀ (F := F) .tc cfg0.body (cfg0.bodyArgs t (cfg0.slots t)) = bodyAt0 t := by
  unfold defs₀; rw [Defs.onTc_tc]

/-- What the pipeline asks of the body, at every point. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- What the launch hands over is what the first point asks. -/
theorem enter_first (c : Dev nD) : Pipeline.ΦA spec0 c ⊢ (dats m 0 c).Φ 0 := by
  rw [show (dats m 0 c).Φ 0 = Pipeline.ΦA spec0 c from rfl]
  try exact Idealize.SL.BI.Entails.refl _

/-- What the last point leaves is what the launch takes back. -/
theorem leave_last (c : Dev nD) : (dats m 0 c).Φ (Fin.last cfg0.N) ⊢ Pipeline.ΦA spec0 c := by
  rw [show (dats m 0 c).Φ (Fin.last cfg0.N) = between m c cfg0.N (le_refl _) from rfl,
    between_pos m c _ _ (by have : cfg0.N = 16 := N_0; omega), launched_eq]
  iintro ⟨⟨S0, S1, S2, S3, S4⟩, Hg⟩
  isplitl [S0 S1 S2 S3 S4]
  · isplitl [S0]; · iexact S0
    isplitl [S1]; · iexact S1
    isplitl [S2]; · iexact S2
    isplitl [S3]; · iexists _; iexact S3
    iexists _; iexact S4
  iexact Hg

set_option backward.isDefEq.respectTransparency.types false in
/-- Every execution of the program ends with each array of the call at what the sweep makes of it, everything else as it
    was found, and every counter at zero. -/
theorem run_program : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := enter_first m) (hout := leave_last m)

/-- The frame at any values: every execution ends, with the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_A m) ((θ_run defs _ _).mono (fun _ h => h.1) (run_program m ρ)))
    ((θ_run defs _ _).mono (fun _ h => h.2) (run_program m ρ))

end Cert.KernelIdeal.Point

end
-- ==== Proof.Frames.lean ====
/- The frames of the three programs: each runs to its end, leaves its arguments as they were and every counter at zero. -/
module

public import proofs.«01_k».proof.Defs
public import proofs.«01_k».proof.Proof.Sweep
public import proofs.«01_k».proof.Proof.SweepWritten
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

/-- The kernel as written, on the floats' bits, runs to its end from every state, leaving the arguments and every
    semaphore at zero. -/
theorem frame_kernel : Cert.quiescent_Kernel := fun m ρ _ => Cert.Kernel.Point.frame_any (F := Bits) m ρ

/-- The kernel over the extended reals keeps its frame. -/
theorem frame_ideal : Cert.quiescent_KernelIdeal := fun m ρ _ =>
  Cert.KernelIdeal.Point.frame_any (F := Ideal) m ρ

/-- The reference over the extended reals keeps its frame. -/
theorem frame_reference : Cert.quiescent_ReferenceIdeal := fun m ρ _ =>
  (θ_run Cert.ReferenceIdeal.defs _ _).mono
    (fun r h => ⟨fun c => (h c).2.2.2.2.2.2.2.2.2, Idealize.ShloMosaic.sem_eq_zero_of_no_sems (by decide) r.2⟩)
    (Cert.ReferenceIdeal.Value.run (F := Ideal) m ρ)

/-- The two numbers that are named differ from the machine's literals by its rounding only. -/
theorem preserves : Cert.preserves_Kernel_KernelIdeal :=
  ⟨IdealRules.named_const.statement Cert.KernelIdeal.κ "gelu_cubic" .f32 0x3D372713#32 ((8943 / 200000 : ℝ) : EReal) rfl,
   IdealRules.named_const.statement Cert.KernelIdeal.κ "gelu_cubic_grad" .f32 0x3E095D4F#32 ((26829 / 200000 : ℝ) : EReal) rfl⟩

end Cert.Proof

end
-- ==== Proof.FeedForward.lean ====
/- The frames of the feed-forward block's six calls, as written and over the extended reals, and of their references;
   and that each call over the extended reals is the call as written, no operation replaced. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import Idealize.ShloMosaic.Adequacy
public import Idealize.ShloMosaic.Init

@[expose] public section

set_option maxRecDepth 16384

noncomputable section

namespace Cert.Proof

open Idealize.ShloMosaic Idealize.SL.Sem

/-- `mm_dh2` as written runs to its end and keeps its arguments. -/
theorem frame_kernel2 : Cert.quiescent_Kernel2 := fun m ρ _ => Cert.Kernel2.Gen.frame (F := Bits) m ρ

/-- `mm_dh2` over the extended reals does the same. -/
theorem frame_ideal2 : Cert.quiescent_Kernel2Ideal := fun m ρ _ => Cert.Kernel2Ideal.Gen.frame (F := Ideal) m ρ

/-- So does its reference. -/
theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- No operation is replaced. -/
theorem preserves2 : Cert.preserves_Kernel2_Kernel2Ideal := trivial

/-- `mm_dact` as written runs to its end and keeps its arguments. -/
theorem frame_kernel3 : Cert.quiescent_Kernel3 := fun m ρ _ => Cert.Kernel3.Gen.frame (F := Bits) m ρ

/-- `mm_dact` over the extended reals does the same. -/
theorem frame_ideal3 : Cert.quiescent_Kernel3Ideal := fun m ρ _ => Cert.Kernel3Ideal.Gen.frame (F := Ideal) m ρ

/-- So does its reference. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- No operation is replaced. -/
theorem preserves3 : Cert.preserves_Kernel3_Kernel3Ideal := trivial

/-- `mm_dw_up` as written runs to its end and keeps its arguments. -/
theorem frame_kernel4 : Cert.quiescent_Kernel4 := fun m ρ _ => Cert.Kernel4.Gen.frame (F := Bits) m ρ

/-- `mm_dw_up` over the extended reals does the same. -/
theorem frame_ideal4 : Cert.quiescent_Kernel4Ideal := fun m ρ _ => Cert.Kernel4Ideal.Gen.frame (F := Ideal) m ρ

/-- So does its reference. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- No operation is replaced. -/
theorem preserves4 : Cert.preserves_Kernel4_Kernel4Ideal := trivial

/-- `mm_dw_down` as written runs to its end and keeps its arguments. -/
theorem frame_kernel5 : Cert.quiescent_Kernel5 := fun m ρ _ => Cert.Kernel5.Gen.frame (F := Bits) m ρ

/-- `mm_dw_down` over the extended reals does the same. -/
theorem frame_ideal5 : Cert.quiescent_Kernel5Ideal := fun m ρ _ => Cert.Kernel5Ideal.Gen.frame (F := Ideal) m ρ

/-- So does its reference. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- No operation is replaced. -/
theorem preserves5 : Cert.preserves_Kernel5_Kernel5Ideal := trivial

/-- `mm_up` as written runs to its end and keeps its arguments. -/
theorem frame_kernel6 : Cert.quiescent_Kernel6 := fun m ρ _ => Cert.Kernel6.Gen.frame (F := Bits) m ρ

/-- `mm_up` over the extended reals does the same. -/
theorem frame_ideal6 : Cert.quiescent_Kernel6Ideal := fun m ρ _ => Cert.Kernel6Ideal.Gen.frame (F := Ideal) m ρ

/-- So does its reference. -/
theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- No operation is replaced. -/
theorem preserves6 : Cert.preserves_Kernel6_Kernel6Ideal := trivial

/-- `mm_down` as written runs to its end and keeps its arguments. -/
theorem frame_kernel7 : Cert.quiescent_Kernel7 := fun m ρ _ => Cert.Kernel7.Gen.frame (F := Bits) m ρ

/-- `mm_down` over the extended reals does the same. -/
theorem frame_ideal7 : Cert.quiescent_Kernel7Ideal := fun m ρ _ => Cert.Kernel7Ideal.Gen.frame (F := Ideal) m ρ

/-- So does its reference. -/
theorem frame_reference7 : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

/-- No operation is replaced. -/
theorem preserves7 : Cert.preserves_Kernel7_Kernel7Ideal := trivial

end Cert.Proof

end
-- ==== Proof.Math.lean ====
/- The mixer's backward pass over the real numbers: the forward values, the gradients as sums over the sequence, and the
   two identities that connect the recurrence's gradient computed backwards row by row with the sums. -/
module

public import Idealize.ShloMosaic.PureOps.Ideal

@[expose] public section

noncomputable section

namespace Cert.Mixer

/-- What the mixer is given: the branch's rows, the gate's rows, the incoming gradient, the weights. -/
structure Inputs where
  X : ℕ → ℕ → ℝ
  Y : ℕ → ℕ → ℝ
  DM : ℕ → ℕ → ℝ
  W : ℕ → ℕ → ℝ
  cb : ℕ → ℝ
  wa : ℕ → ℕ → ℝ
  ba : ℕ → ℝ
  wx : ℕ → ℕ → ℝ
  bx : ℕ → ℝ
  lam : ℕ → ℝ

/-- The floor under one minus the squared decay. -/
def eps : ℝ := 8796093 / 2 ^ 43

theorem eps_pos : 0 < eps := by unfold eps; positivity

/-- The square root of two over pi, as rounded in the programs. -/
def c0 : ℝ := 13386282 / 2 ^ 24

/-- The logistic function. -/
def sig (x : ℝ) : ℝ := 1 / (1 + Real.exp (-x))

/-- The inner hyperbolic tangent of the gate. -/
def th (y : ℝ) : ℝ := Real.tanh (c0 * (y + 8943 / 200000 * y * y * y))

/-- The gate. -/
def gl (y : ℝ) : ℝ := 1 / 2 * y * (1 + th y)

/-- The gate's derivative. -/
def dgl (y : ℝ) : ℝ := 1 / 2 * (1 + th y) + 1 / 2 * y * (1 - th y * th y) * c0 * (1 + 26829 / 200000 * y * y)

namespace Inputs

variable (D : Inputs)

/-- The branch's rows, `s` rows earlier, zero before the sequence. -/
def sh (s t k : ℕ) : ℝ := if t < s then 0 else D.X (t - s) k

/-- The convolved rows. -/
def xc (t k : ℕ) : ℝ :=
  D.sh 3 t k * D.W 0 k + D.sh 2 t k * D.W 1 k + D.sh 1 t k * D.W 2 k + D.X t k * D.W 3 k + D.cb k

/-- The recurrence gate. -/
def r (t k : ℕ) : ℝ := sig (∑ x : Fin 256, D.xc t x * D.wa x k + D.ba k)

/-- The input gate. -/
def ig (t k : ℕ) : ℝ := sig (∑ x : Fin 256, D.xc t x * D.wx x k + D.bx k)

/-- The softplus of the negated decay parameter. -/
def sp (k : ℕ) : ℝ := max (-D.lam k) 0 + Real.log (1 + Real.exp (-|-D.lam k|))

/-- The decay's logarithm. -/
def la (t k : ℕ) : ℝ := -8 * D.r t k * D.sp k

/-- The decay. -/
def a (t k : ℕ) : ℝ := Real.exp (D.la t k)

/-- One minus the squared decay. -/
def sq (t k : ℕ) : ℝ := 1 - Real.exp (2 * D.la t k)

/-- The input's multiplier. -/
def mu (t k : ℕ) : ℝ := if t = 0 then 1 else Real.sqrt (max (D.sq t k) eps)

/-- The recurrence's input. -/
def u (t k : ℕ) : ℝ := D.mu t k * D.ig t k * D.xc t k

/-- The decays' logarithms up to a row. -/
def L (t k : ℕ) : ℝ := ∑ s : Fin 8192, if s.val ≤ t then D.la s k else 0

/-- The decay from row `s` to row `t`. -/
def E (t s k : ℕ) : ℝ := Real.exp (D.L t k - D.L s k)

/-- The states. -/
def h (t k : ℕ) : ℝ := ∑ s : Fin 8192, if s.val ≤ t then D.E t s k * D.u s k else 0

/-- The state one row before. -/
def hp (t k : ℕ) : ℝ := if t = 0 then 0 else D.h (t - 1) k

/-- The states' gradient from the output of the same row. -/
def d (t k : ℕ) : ℝ := D.DM t k * gl (D.Y t k)

/-- The states' gradient. -/
def G (t k : ℕ) : ℝ := ∑ t' : Fin 8192, if t ≤ t'.val then D.E t' t k * D.d t' k else 0

/-- What a row hands to the row before. -/
def C (t k : ℕ) : ℝ := D.a t k * D.G t k

/-- The gate's gradient. -/
def dy (t k : ℕ) : ℝ := D.DM t k * D.h t k * dgl (D.Y t k)

def gmx (t k : ℕ) : ℝ := D.G t k * D.mu t k * D.xc t k
def gmi (t k : ℕ) : ℝ := D.G t k * D.mu t k * D.ig t k
def gsq (t k : ℕ) : ℝ :=
  if eps < D.sq t k then (if t = 0 then 0 else D.G t k * D.ig t k * D.xc t k) * (1 / 2) / D.mu t k else 0
def gdec (t k : ℕ) : ℝ := D.G t k * D.hp t k * D.a t k

/-- The gradient of the decay's logarithm. -/
def dla (t k : ℕ) : ℝ := D.gdec t k - 2 * D.a t k * D.a t k * D.gsq t k

/-- The gradient under the recurrence gate. -/
def dpa (t k : ℕ) : ℝ := D.dla t k * -8 * D.sp k * D.r t k * (1 - D.r t k)

/-- The gradient under the input gate. -/
def dpx (t k : ℕ) : ℝ := D.gmx t k * D.ig t k * (1 - D.ig t k)

/-- The convolved rows' gradient. -/
def dxc (t k : ℕ) : ℝ :=
  D.gmi t k + ∑ x : Fin 256, D.dpa t x * D.wa k x + ∑ x : Fin 256, D.dpx t x * D.wx k x

/-- The convolved rows' gradient, `s` rows later, zero after the sequence. -/
def later (s t k : ℕ) : ℝ := if t + s < 8192 then D.dxc (t + s) k else 0

/-- The branch's gradient. -/
def dx (t k : ℕ) : ℝ :=
  0 + D.later 3 t k * D.W 0 k + D.later 2 t k * D.W 1 k + D.later 1 t k * D.W 2 k + D.dxc t k * D.W 3 k

/-- The decay parameter's gradient, one row's part without the outer derivative. -/
def dl (t k : ℕ) : ℝ := D.dla t k * -8 * D.r t k

/-- The affine maps of `n` rows from row `t` on, one after the other, at `c`. -/
def run : ℕ → ℕ → ℕ → ℝ → ℝ
  | 0, _, _, c => c
  | n + 1, t, k, c => D.a t k * D.d t k + D.a t k * run n (t + 1) k c

theorem run_add (n m t k : ℕ) (c : ℝ) : D.run (n + m) t k c = D.run n t k (D.run m (t + n) k c) := by
  induction n generalizing t with
  | zero => simp [run]
  | succ n ih =>
    rw [show n + 1 + m = (n + m) + 1 by omega]
    simp only [run]
    rw [ih (t + 1), show t + 1 + n = t + (n + 1) by omega]

theorem L_succ (t k : ℕ) (ht : t + 1 < 8192) : D.L (t + 1) k = D.L t k + D.la (t + 1) k := by
  have e : D.la (t + 1) k = ∑ s : Fin 8192, if s = ⟨t + 1, ht⟩ then D.la s k else 0 := by
    rw [Finset.sum_ite_eq' Finset.univ (⟨t + 1, ht⟩ : Fin 8192) (fun s : Fin 8192 => D.la s k)]; simp
  rw [e]
  unfold L
  rw [← Finset.sum_add_distrib]
  refine Finset.sum_congr rfl fun s _ => ?_
  by_cases h1 : s.val ≤ t
  · have : s ≠ ⟨t + 1, ht⟩ := fun h => by rw [h] at h1; simp at h1
    rw [if_pos h1, if_pos (by omega), if_neg this, add_zero]
  · by_cases h2 : s.val = t + 1
    · rw [if_pos (by omega), if_neg h1, if_pos (Fin.ext h2), zero_add]
    · rw [if_neg (by omega), if_neg h1, if_neg (fun h => h2 (congrArg Fin.val h)), add_zero]

theorem E_self (t k : ℕ) : D.E t t k = 1 := by simp [E]

theorem E_succ (t s k : ℕ) (hs : s + 1 < 8192) : D.E t s k = D.a (s + 1) k * D.E t (s + 1) k := by
  unfold E a
  rw [← Real.exp_add, D.L_succ s k hs]
  exact congrArg Real.exp (by ring)

theorem E_trans (t v s k : ℕ) : D.E t s k = D.E t v k * D.E v s k := by
  unfold E
  rw [← Real.exp_add]
  exact congrArg Real.exp (by ring)

theorem G_end (k : ℕ) (t : ℕ) (ht : 8192 ≤ t) : D.G t k = 0 := by
  unfold G
  exact Finset.sum_eq_zero fun t' _ => if_neg (by have := t'.isLt; omega)

/-- A row's gradient is what its output gives it and what the row after it hands back. -/
theorem G_step (t k : ℕ) (ht : t < 8192) : D.G t k = D.d t k + D.C (t + 1) k := by
  have e : D.d t k = ∑ t' : Fin 8192, if t' = ⟨t, ht⟩ then D.d t' k else 0 := by
    rw [Finset.sum_ite_eq' Finset.univ (⟨t, ht⟩ : Fin 8192) (fun s : Fin 8192 => D.d s k)]; simp
  rw [e]
  unfold C
  unfold G
  rw [Finset.mul_sum, ← Finset.sum_add_distrib]
  refine Finset.sum_congr rfl fun t' _ => ?_
  have hl := t'.isLt
  by_cases h1 : t' = ⟨t, ht⟩
  · have h2 : t'.val = t := congrArg Fin.val h1
    rw [if_pos h1, if_pos (by omega), if_neg (by omega), h2, E_self, one_mul, mul_zero, add_zero]
  · have h2 : t'.val ≠ t := fun h => h1 (Fin.ext h)
    rw [if_neg h1, zero_add]
    by_cases h3 : t ≤ t'.val
    · rw [if_pos h3, if_pos (by omega), D.E_succ t' t k (by omega), mul_assoc]
    · rw [if_neg h3, if_neg (by omega), mul_zero]

/-- The maps of `n` rows take what is handed to the last to what the first hands on. -/
theorem run_C (n t k : ℕ) (ht : t + n ≤ 8192) : D.run n t k (D.C (t + n) k) = D.C t k := by
  induction n generalizing t with
  | zero => rfl
  | succ n ih =>
    simp only [run]
    rw [show t + (n + 1) = (t + 1) + n by omega, ih (t + 1) (by omega)]
    rw [← mul_add, ← D.G_step t k (by omega), C]

theorem C_end (k : ℕ) : D.C 8192 k = 0 := by rw [C, D.G_end k 8192 (by omega), mul_zero]

/-- One pair's part of the output's gradient through the decay from `s` to `t`. -/
def V (t s k : ℕ) : ℝ := if s ≤ t then D.d t k * D.u s k * D.E t s k else 0

/-- The gradient of the decays' logarithms through the sums of pairs is the one the rows compute. -/
theorem gdec_eq (v k : ℕ) (hv : v < 8192) :
    (∑ t : Fin 8192, if v ≤ t.val then (∑ t' : Fin 8192, -D.V t' t k) + ∑ s : Fin 8192, D.V t s k else 0) = D.gdec v k := by
  have e1 : (∑ t : Fin 8192, if v ≤ t.val then (∑ t' : Fin 8192, -D.V t' t k) + ∑ s : Fin 8192, D.V t s k else 0)
      = ∑ t : Fin 8192, ∑ s : Fin 8192, if v ≤ t.val ∧ s.val < v then D.V t s k else 0 := by
    have e2 : ∀ t : Fin 8192, (if v ≤ t.val then (∑ t' : Fin 8192, -D.V t' t k) + ∑ s : Fin 8192, D.V t s k else 0)
        = (∑ t' : Fin 8192, if v ≤ t.val then -D.V t' t k else 0) + ∑ s : Fin 8192, if v ≤ t.val then D.V t s k else 0 := by
      intro t
      by_cases h : v ≤ t.val
      · simp only [if_pos h]
      · simp only [if_neg h, Finset.sum_const_zero, add_zero]
    rw [Finset.sum_congr rfl fun t _ => e2 t, Finset.sum_add_distrib, Finset.sum_comm, ← Finset.sum_add_distrib]
    refine Finset.sum_congr rfl fun t _ => ?_
    rw [← Finset.sum_add_distrib]
    refine Finset.sum_congr rfl fun s _ => ?_
    by_cases h1 : v ≤ s.val
    · by_cases h2 : v ≤ t.val
      · rw [if_pos h1, if_pos h2, if_neg (by omega)]; ring
      · have : D.V t s k = 0 := if_neg (by omega)
        rw [this]; simp
    · by_cases h2 : v ≤ t.val
      · rw [if_neg h1, if_pos h2, if_pos ⟨h2, by omega⟩]; ring
      · rw [if_neg h1, if_neg h2, if_neg (by omega), add_zero]
  rw [e1]
  unfold gdec
  rcases Nat.eq_zero_or_pos v with h0 | h0
  · subst h0
    rw [Finset.sum_eq_zero fun t _ => Finset.sum_eq_zero fun s _ => if_neg (by omega)]
    simp [hp]
  · have hh : D.hp v k = D.h (v - 1) k := if_neg (by omega)
    rw [hh]
    unfold G h
    rw [Finset.sum_mul_sum, Finset.sum_mul]
    refine Finset.sum_congr rfl fun t _ => ?_
    rw [Finset.sum_mul]
    refine Finset.sum_congr rfl fun s _ => ?_
    by_cases h1 : v ≤ t.val
    · by_cases h2 : s.val < v
      · rw [if_pos ⟨h1, h2⟩, if_pos h1, if_pos (by omega)]
        unfold V
        rw [if_pos (by omega), D.E_trans t (v - 1) s k, D.E_succ t (v - 1) k (by omega), Nat.sub_add_cancel h0]
        ring
      · rw [if_neg (by omega), if_neg (by omega : ¬ s.val ≤ v - 1)]; simp
    · rw [if_neg (by omega), if_neg h1]; simp

end Inputs

end Cert.Mixer

end
-- ==== Proof.Words.lean ====
/- Numbers of the extended reals that are real, carried through the programs' operations. -/
module

public import proofs.«01_k».proof.Proof.Math
public import Idealize.ShloMosaic.Lib.Pointwise
public import Idealize.ShloMosaic.Lib.ValueIdx
public import Idealize.ShloMosaic.Lib.IdealHost

@[expose] public section

set_option maxRecDepth 16384

noncomputable section

namespace Cert.Mixer

open Idealize.ShloMosaic

theorem ofBits_two : Ideal.ofBits .f32 0x40000000#32 = ((2 : ℝ) : EReal) := by
  simp [Ideal.ofBits, Ideal.ieee, -EReal.coe_mul, -EReal.coe_neg]; norm_num

theorem ofBits_three : Ideal.ofBits .f32 0x40400000#32 = ((3 : ℝ) : EReal) := by
  simp [Ideal.ofBits, Ideal.ieee, -EReal.coe_mul, -EReal.coe_neg]; norm_num

theorem ofBits_half : Ideal.ofBits .f32 0x3F000000#32 = ((1 / 2 : ℝ) : EReal) := by
  simp [Ideal.ofBits, Ideal.ieee, -EReal.coe_mul, -EReal.coe_neg]; norm_num

theorem ofBits_neg_eight : Ideal.ofBits .f32 0xC1000000#32 = ((-8 : ℝ) : EReal) := by
  simp [Ideal.ofBits, Ideal.ieee, -EReal.coe_mul, -EReal.coe_neg]; norm_num

theorem ofBits_eps : Ideal.ofBits .f32 0x358637BD#32 = ((eps : ℝ) : EReal) := by
  unfold eps; simp [Ideal.ofBits, Ideal.ieee, -EReal.coe_mul]; norm_num

theorem ofBits_c0 : Ideal.ofBits .f32 0x3F4C422A#32 = ((c0 : ℝ) : EReal) := by
  unfold c0; simp [Ideal.ofBits, Ideal.ieee, -EReal.coe_mul]; norm_num

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

/-- The quotient that the reference writes for the gate's cubic coefficient. -/
theorem ofBits_44715 : Ideal.ofBits .f32 0x472EAB00#32 = ((44715 : ℝ) : EReal) := by
  simp [Ideal.ofBits, Ideal.ieee, -EReal.coe_mul, -EReal.coe_neg]; norm_num

theorem ofBits_million : Ideal.ofBits .f32 0x49742400#32 = ((1000000 : ℝ) : EReal) := by
  simp [Ideal.ofBits, Ideal.ieee, -EReal.coe_mul, -EReal.coe_neg]; norm_num

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max (a := x) (b := y)).symm

theorem div_real (x y : ℝ) (h : y ≠ 0) : Ideal.div (x : EReal) (y : EReal) = ((x / y : ℝ) : EReal) := by
  rw [Ideal.div_coe h, ← EReal.coe_mul]; exact congrArg _ (by ring)

theorem sig_real (x : ℝ) : Ideal.div 1 (1 + Ideal.exp (-(x : EReal))) = ((sig x : ℝ) : EReal) := by
  have h : (1 : ℝ) + Real.exp (-x) ≠ 0 := by positivity
  rw [← EReal.coe_neg, Ideal.exp_coe, ← EReal.coe_one, ← EReal.coe_add, div_real 1 _ h]; rfl

theorem sq_real (x : ℝ) : -(Ideal.expm1 (x : EReal)) = ((1 - Real.exp x : ℝ) : EReal) := by
  rw [Ideal.expm1, Ideal.exp_coe, ← EReal.coe_one, ← EReal.coe_sub, ← EReal.coe_neg]
  exact congrArg _ (by ring)

theorem sqrt_real (x : ℝ) (h : 0 ≤ x) : Ideal.sqrt (x : EReal) = ((Real.sqrt x : ℝ) : EReal) := by
  rw [Ideal.sqrt_coe, if_neg (not_lt.mpr h)]

theorem softplus_real (x : ℝ) :
    max (x : EReal) 0 + Ideal.log1p (Ideal.exp (-(max (x : EReal) (-(x : EReal)))))
      = ((max x 0 + Real.log (1 + Real.exp (-|x|)) : ℝ) : EReal) := by
  have h : ¬ (1 : ℝ) + Real.exp (-|x|) ≤ 0 := not_le.mpr (by positivity)
  rw [← EReal.coe_neg, coe_max, ← EReal.coe_neg, Ideal.exp_coe, Ideal.log1p, ← EReal.coe_zero, coe_max, ← EReal.coe_one,
    ← EReal.coe_add]
  show _ + Ideal.log ((1 + Real.exp (-|x|) : ℝ) : EReal) = _
  rw [Ideal.log_coe, if_neg h, ← EReal.coe_add]

theorem ite_real (p : Prop) [Decidable p] (x y : ℝ) : (if p then (x : EReal) else (y : EReal)) = ((if p then x else y : ℝ) : EReal) := by
  split <;> rfl

theorem toInt_word (t : ℕ) (ht : t < 8192) : (BitVec.ofNat 32 t).toInt = t := by
  have h : (BitVec.ofNat 32 t).toNat = t := by
    rw [BitVec.toNat_ofNat, Nat.mod_eq_of_lt (show t < 2 ^ 32 by omega)]
  rw [BitVec.toInt_eq_toNat_of_lt (by rw [h]; omega), h]

theorem cmpi_sge (t s : ℕ) (ht : t < 8192) (hs : s < 8192) :
    IntOp.cmpi .sge (BitVec.ofNat 32 t) (BitVec.ofNat 32 s) = BitVec.ofBool (decide (s ≤ t)) := by
  have h1 : (BitVec.ofNat 32 t).toInt = t := toInt_word t ht
  have h2 : (BitVec.ofNat 32 s).toInt = s := toInt_word s hs
  unfold IntOp.cmpi
  simp only [BitVec.sle, h1, h2, Nat.cast_le]

theorem cmpi_slt (t s : ℕ) (ht : t < 8192) (hs : s < 8192) :
    IntOp.cmpi .slt (BitVec.ofNat 32 t) (BitVec.ofNat 32 s) = BitVec.ofBool (decide (t < s)) := by
  have h1 : (BitVec.ofNat 32 t).toInt = t := toInt_word t ht
  have h2 : (BitVec.ofNat 32 s).toInt = s := toInt_word s hs
  unfold IntOp.cmpi
  simp only [BitVec.slt, h1, h2, Nat.cast_lt]

theorem cmpi_eq_zero (t : ℕ) (ht : t < 8192) :
    IntOp.cmpi .eq (BitVec.ofNat 32 t) 0#32 = BitVec.ofBool (decide (t = 0)) := by
  unfold IntOp.cmpi
  refine congrArg BitVec.ofBool ?_
  rw [Bool.eq_iff_iff]
  simp only [beq_iff_eq, decide_eq_true_eq]
  constructor
  · intro h
    have h1 : t % 2 ^ 32 = 0 := by simpa using congrArg BitVec.toNat h
    omega
  · rintro rfl; rfl

theorem select_decide (p : Prop) [Decidable p] {α : Type} (x y : α) :
    Scalar.select (BitVec.ofBool (decide p)) x y = if p then x else y := by
  unfold Scalar.select
  by_cases h : p <;> simp [h]

/-- The arrays hold the numbers `D`. -/
structure Given (D : Inputs) (a0 : Fin 8192 → Fin 3840 → EReal) (a1 : Fin 4 → Fin 256 → EReal) (a2 : Fin 256 → EReal)
    (a3 : Fin 256 → Fin 256 → EReal) (a4 : Fin 256 → EReal) (a5 : Fin 256 → Fin 256 → EReal) (a6 a7 : Fin 256 → EReal)
    (a8 : Fin 8192 → Fin 1024 → EReal) : Prop where
  x : ∀ (t : Fin 8192) (k : Fin 256), a0 t ⟨3072 + k, by omega⟩ = (D.X t k : EReal)
  y : ∀ (t : Fin 8192) (k : Fin 256), a0 t ⟨3328 + k, by omega⟩ = (D.Y t k : EReal)
  w : ∀ (j : Fin 4) (k : Fin 256), a1 j k = (D.W j k : EReal)
  cb : ∀ k : Fin 256, a2 k = (D.cb k : EReal)
  wa : ∀ x k : Fin 256, a3 x k = (D.wa x k : EReal)
  ba : ∀ k : Fin 256, a4 k = (D.ba k : EReal)
  wx : ∀ x k : Fin 256, a5 x k = (D.wx x k : EReal)
  bx : ∀ k : Fin 256, a6 k = (D.bx k : EReal)
  lam : ∀ k : Fin 256, a7 k = (D.lam k : EReal)
  dm : ∀ (t : Fin 8192) (k : Fin 256), a8 t ⟨768 + k, by omega⟩ = (D.DM t k : EReal)

/-- Finite arrays hold real numbers. -/
theorem exists_given (a0 : Fin 8192 → Fin 3840 → EReal) (a1 : Fin 4 → Fin 256 → EReal) (a2 : Fin 256 → EReal)
    (a3 : Fin 256 → Fin 256 → EReal) (a4 : Fin 256 → EReal) (a5 : Fin 256 → Fin 256 → EReal) (a6 a7 : Fin 256 → EReal)
    (a8 : Fin 8192 → Fin 1024 → EReal)
    (h0 : ∀ t k, a0 t k = ((a0 t k).toReal : EReal)) (h1 : ∀ t k, a1 t k = ((a1 t k).toReal : EReal))
    (h2 : ∀ k, a2 k = ((a2 k).toReal : EReal)) (h3 : ∀ t k, a3 t k = ((a3 t k).toReal : EReal))
    (h4 : ∀ k, a4 k = ((a4 k).toReal : EReal)) (h5 : ∀ t k, a5 t k = ((a5 t k).toReal : EReal))
    (h6 : ∀ k, a6 k = ((a6 k).toReal : EReal)) (h7 : ∀ k, a7 k = ((a7 k).toReal : EReal))
    (h8 : ∀ t k, a8 t k = ((a8 t k).toReal : EReal)) : ∃ D, Given D a0 a1 a2 a3 a4 a5 a6 a7 a8 := by
  have e : ∀ (n : ℕ) [NeZero n] (t : ℕ) (h : t < n), Fin.ofNat n t = ⟨t, h⟩ := fun n _ t h =>
    Fin.ext (Nat.mod_eq_of_lt h)
  refine ⟨{
    X := fun t k => (a0 (Fin.ofNat 8192 t) (Fin.ofNat 3840 (3072 + k))).toReal
    Y := fun t k => (a0 (Fin.ofNat 8192 t) (Fin.ofNat 3840 (3328 + k))).toReal
    DM := fun t k => (a8 (Fin.ofNat 8192 t) (Fin.ofNat 1024 (768 + k))).toReal
    W := fun j k => (a1 (Fin.ofNat 4 j) (Fin.ofNat 256 k)).toReal
    cb := fun k => (a2 (Fin.ofNat 256 k)).toReal
    wa := fun x k => (a3 (Fin.ofNat 256 x) (Fin.ofNat 256 k)).toReal
    ba := fun k => (a4 (Fin.ofNat 256 k)).toReal
    wx := fun x k => (a5 (Fin.ofNat 256 x) (Fin.ofNat 256 k)).toReal
    bx := fun k => (a6 (Fin.ofNat 256 k)).toReal
    lam := fun k => (a7 (Fin.ofNat 256 k)).toReal }, ?_⟩
  constructor
  · intro t k; simp only [e 8192 t t.isLt, e 3840 (3072 + k) (by omega)]; exact h0 _ _
  · intro t k; simp only [e 8192 t t.isLt, e 3840 (3328 + k) (by omega)]; exact h0 _ _
  · intro t k; simp only [e 4 t t.isLt, e 256 k k.isLt]; exact h1 _ _
  · intro k; simp only [e 256 k k.isLt]; exact h2 _
  · intro t k; simp only [e 256 t t.isLt, e 256 k k.isLt]; exact h3 _ _
  · intro k; simp only [e 256 k k.isLt]; exact h4 _
  · intro t k; simp only [e 256 t t.isLt, e 256 k k.isLt]; exact h5 _ _
  · intro k; simp only [e 256 k k.isLt]; exact h6 _
  · intro k; simp only [e 256 k k.isLt]; exact h7 _
  · intro t k; simp only [e 8192 t t.isLt, e 1024 (768 + k) (by omega)]; exact h8 _ _

end Cert.Mixer

end
-- ==== Proof.Dh2.lean ====
/- The feed-forward block's input's gradient: the kernel `mm_dh2`, the product of the hidden rows' gradient with the
   transposed weights, handed through the RMS norm, against the derivative of the norm and of the product. -/
module

public import proofs.«01_k».proof.Defs
public import proofs.«01_k».proof.Proof.Words
public import proofs.«01_k».proof.Proof.Gen.Kernel2Ideal.Frame
public import proofs.«01_k».proof.Proof.Gen.Reference2Ideal.Run
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Dh2

open Idealize.ShloMosaic

/-! ## A row -/

/-- The row's length, 1024, as both programs write it. -/
abbrev len : EReal := Ideal.ofBits .f32 0x44800000#32

/-- A row's mean square, with the norm's small constant. -/
def var (x : Fin 1024 → EReal) : EReal := Ideal.div (∑ j : Fin 1024, x j * x j) len + Ideal.ofBits .f32 0x358637BD#32

/-- The reciprocal of its root. -/
def inv (x : Fin 1024 → EReal) : EReal := Ideal.rsqrt (var x)

/-- A row of the hidden rows' gradient by the transposed weights. -/
def dot (u : Fin 4096 → EReal) (w : Fin 1024 → Fin 4096 → EReal) (k : Fin 1024) : EReal := ∑ q : Fin 4096, u q * w k q

/-- The input's gradient as the kernel puts it. -/
def input (y g x : Fin 1024 → EReal) (e : EReal) (k : Fin 1024) : EReal :=
  e + inv x * (y k * g k - x k * inv x * Ideal.div (∑ j : Fin 1024, y j * g j * (x j * inv x)) len)

/-- A row's part of the gain's gradient. -/
def gain (y x : Fin 1024 → EReal) (k : Fin 1024) : EReal := y k * (x k * inv x)

theorem len_eq : len = ((1024 : ℝ) : EReal) := by
  simp [len, Ideal.ofBits, Ideal.ieee, -EReal.coe_mul, -EReal.coe_neg]; norm_num

theorem neg_half : Ideal.ofBits .f32 0xBF000000#32 = ((-(1 / 2) : ℝ) : EReal) := by
  simp [Ideal.ofBits, Ideal.ieee, -EReal.coe_mul, -EReal.coe_neg]; norm_num

theorem eps_pos : (0 : ℝ) < Cert.Mixer.eps := by
  unfold Cert.Mixer.eps; norm_num

theorem square_nonneg (a : EReal) : 0 ≤ a * a := by
  induction a with
  | bot => simp
  | top => simp
  | coe a => exact_mod_cast mul_self_nonneg a

theorem twice (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul]; exact congrArg _ (by ring)

/-- Either the row's mean square is a positive number, or it is infinite and its root's reciprocal is zero. -/
theorem cases (x : Fin 1024 → EReal) :
    (∃ v r : ℝ, 0 < v ∧ 0 ≤ r ∧ r * (1 / v) = r * r * r ∧ var x = (v : EReal) ∧ inv x = (r : EReal)) ∨ (var x = ⊤ ∧ inv x = 0) := by
  have hq : 0 ≤ ∑ j : Fin 1024, x j * x j := Finset.sum_nonneg fun j _ => square_nonneg (x j)
  unfold inv var
  rw [Cert.Mixer.ofBits_eps, len_eq, Ideal.div_coe (by norm_num)]
  generalize (∑ j : Fin 1024, x j * x j) = q at hq ⊢
  induction q with
  | bot => exact absurd hq (by simp)
  | top =>
    right
    rw [EReal.top_mul_coe_of_pos (by norm_num), EReal.top_add_coe]
    exact ⟨rfl, rfl⟩
  | coe q =>
    left
    have h0 : 0 ≤ q := by exact_mod_cast hq
    have hv : 0 < q * (1 / 1024) + Cert.Mixer.eps := by have := eps_pos; positivity
    rw [← EReal.coe_mul, ← EReal.coe_add]
    refine ⟨_, (Real.sqrt (q * (1 / 1024) + Cert.Mixer.eps))⁻¹, hv, by positivity, ?_, rfl, ?_⟩
    · generalize q * (1 / 1024) + Cert.Mixer.eps = v at hv
      have hs : 0 < Real.sqrt v := Real.sqrt_pos.mpr hv
      have e : v = Real.sqrt v * Real.sqrt v := (Real.mul_self_sqrt hv.le).symm
      have e2 : 1 / v = (Real.sqrt v)⁻¹ * (Real.sqrt v)⁻¹ := by rw [one_div, ← mul_inv, ← e]
      rw [e2, mul_assoc]
    · rw [Ideal.rsqrt_coe, if_neg (not_lt.mpr hv.le), if_neg hv.ne']

/-- A number that is not negative can be taken out of a sum. -/
theorem sum_scale (r : ℝ) (hr : 0 ≤ r) (f : Fin 1024 → EReal) (s : Finset (Fin 1024)) : ∑ j ∈ s, (r : EReal) * f j = (r : EReal) * ∑ j ∈ s, f j := by
  classical
  induction s using Finset.induction_on with
  | empty => simp
  | insert a s ha ih =>
    rw [Finset.sum_insert ha, Finset.sum_insert ha, ih]
    exact (EReal.left_distrib_of_nonneg_of_ne_top (by exact_mod_cast hr) (EReal.coe_ne_top r) _ _).symm

/-- The kernel's form of the norm's derivative is the derivative as it is taken. -/
theorem norm_bwd (x d : Fin 1024 → EReal) (e : EReal) (k : Fin 1024) :
    e + inv x * (d k - x k * inv x * Ideal.div (∑ j : Fin 1024, d j * (x j * inv x)) len)
      = e + d k * inv x + x k * Ideal.div ((∑ j : Fin 1024, x j * d j) * (Ideal.ofBits .f32 0xBF000000#32 * Ideal.div (inv x) (var x))) len
          + Ideal.div ((∑ j : Fin 1024, x j * d j) * (Ideal.ofBits .f32 0xBF000000#32 * Ideal.div (inv x) (var x))) len * x k := by
  rw [len_eq, neg_half, Ideal.div_coe (by norm_num), Ideal.div_coe (by norm_num)]
  obtain ⟨v, r, hv, hr, e3, ev, er⟩ | ⟨ev, er⟩ := cases x
  · rw [ev, er, Ideal.div_coe hv.ne']
    have es : ∑ j : Fin 1024, d j * (x j * (r : EReal)) = (r : EReal) * ∑ j : Fin 1024, x j * d j := by
      rw [← sum_scale r hr]
      refine Finset.sum_congr rfl fun j _ => ?_
      rw [mul_comm (d j), mul_comm (x j) (r : EReal), mul_assoc]
    rw [es]
    generalize (∑ j : Fin 1024, x j * d j) = S
    have ea : ∀ p : EReal, p * (S * (((-(1 / 2) : ℝ) : EReal) * ((r : EReal) * ((1 / v : ℝ) : EReal))) * ((1 / 1024 : ℝ) : EReal))
        = (p * S) * ((-(r * r * r) / 2048 : ℝ) : EReal) := fun p => by
      rw [← EReal.coe_mul, e3, ← EReal.coe_mul, mul_assoc S, ← EReal.coe_mul, ← mul_assoc]
      exact congrArg _ (congrArg _ (by ring))
    have eb : x k * (r : EReal) * ((r : EReal) * S * ((1 / 1024 : ℝ) : EReal)) = (x k * S) * ((r * r / 1024 : ℝ) : EReal) := by
      have : (r * r / 1024 : ℝ) = r * (r * (1 / 1024)) := by ring
      rw [this, EReal.coe_mul, EReal.coe_mul]
      ac_rfl
    rw [mul_comm _ (x k), ea, eb, sub_eq_add_neg, EReal.left_distrib_of_nonneg_of_ne_top (by exact_mod_cast hr) (EReal.coe_ne_top r),
      add_assoc (e + _), twice, mul_comm (r : EReal) (d k), ← add_assoc]
    refine congrArg (e + d k * (r : EReal) + ·) ?_
    generalize x k * S = p
    rw [mul_neg, mul_left_comm, mul_left_comm ((2 : ℝ) : EReal), ← EReal.coe_mul, ← EReal.coe_mul, ← mul_neg, ← EReal.coe_neg]
    exact congrArg _ (congrArg _ (by ring))
  · rw [ev, er]
    have ed : Ideal.div 0 ⊤ = 0 := by simp [Ideal.div]
    rw [ed]
    simp

end Cert.Dh2

namespace Cert.Dh2

open Idealize.ShloMosaic Idealize.ShloMosaic.StableHlo Idealize.SL.Sem Cert.Kernel2Ideal Cert.Kernel2Ideal.Gen

/-! ## A block of 512 rows, in two halves -/

/-- The hidden rows' gradient's product at a row of a block. -/
abbrev blockDot (x0 : Vec Ideal S512x4096 .bf16) (x1 : Vec Ideal S1024x4096 .bf16) (r : Fin 512) : Fin 1024 → EReal :=
  dot (fun q => x0 (ix2 r q)) fun k q => x1 (ix2 k q)

/-- The upper half of a block stored in two halves. -/
theorem upper (w2 w1 : Vec Ideal S256x1024 .f32) (r : Fin 256) (k : Fin 1024) :
    View.canon (Val := Elt Ideal) [⟨(Rect.unit (s := S512x1024) ![256, 0] S256x1024.size inb_S512x1024_S256x1024_256_0), w2⟩, ⟨(Rect.unit (s := S512x1024) ![0, 0] S256x1024.size inb_S512x1024_S256x1024_0_0), w1⟩] (ix2 (⟨256 + r.val, by omega⟩ : Fin 512) k) = w2 (ix2 r k) := by
  have e : (ix2 (⟨256 + r.val, by omega⟩ : Fin 512) k : S512x1024.Idx) = (Rect.unit (s := S512x1024) ![256, 0] S256x1024.size inb_S512x1024_S256x1024_256_0).emb (ix2 r k) := by
    blk_ext []
  rw [e]
  exact View.canon_cons_emb _ _ _ _

/-- The lower half. -/
theorem lower (w2 w1 : Vec Ideal S256x1024 .f32) (r : Fin 256) (k : Fin 1024) :
    View.canon (Val := Elt Ideal) [⟨(Rect.unit (s := S512x1024) ![256, 0] S256x1024.size inb_S512x1024_S256x1024_256_0), w2⟩, ⟨(Rect.unit (s := S512x1024) ![0, 0] S256x1024.size inb_S512x1024_S256x1024_0_0), w1⟩] (ix2 (⟨r.val, by omega⟩ : Fin 512) k) = w1 (ix2 r k) := by
  have e : (ix2 (⟨r.val, by omega⟩ : Fin 512) k : S512x1024.Idx) = (Rect.unit (s := S512x1024) ![0, 0] S256x1024.size inb_S512x1024_S256x1024_0_0).emb (ix2 r k) := by
    blk_ext []
  refine (View.canon_cons_of_not_mem _ _ ?_).trans ?_
  · rw [Rect.mem_set_unit]
    intro h
    have := (h 0).1
    simp at this
    omega
  rw [e]
  exact View.canon_cons_emb _ _ _ _

/-- The lower half's rows as they are written. -/
theorem at_lower (x0 : Vec Ideal S512x4096 .bf16) (x1 : Vec Ideal S1024x4096 .bf16) (x2 : Vec Ideal S512x1024 .f32) (x3 : Vec Ideal S1x1024 .f32) (x4 : Vec Ideal S512x1024 .f32) (r : Fin 256) (k : Fin 1024) :
    k0_pay6 x1 (View.ld x0 (Rect.unit (s := S512x4096) ![0, 0] S256x4096.size inb_S512x4096_S256x4096_0_0)) (View.ld x2 (Rect.unit (s := S512x1024) ![0, 0] S256x1024.size inb_S512x1024_S256x1024_0_0)) x3 (View.ld x4 (Rect.unit (s := S512x1024) ![0, 0] S256x1024.size inb_S512x1024_S256x1024_0_0)) (ix2 r k)
      = input (blockDot x0 x1 (⟨r.val, by omega⟩ : Fin 512)) (fun j => x3 (ix2 (0 : Fin 1) j)) (fun j => x2 (ix2 (⟨r.val, by omega⟩ : Fin 512) j)) (x4 (ix2 (⟨r.val, by omega⟩ : Fin 512) k)) k := by
  pointwise [k0_pay6, k0_pay5, k0_pay4, k0_pay3, View.ld]
  rfl

/-- The upper half's rows as they are written. -/
theorem at_upper (x0 : Vec Ideal S512x4096 .bf16) (x1 : Vec Ideal S1024x4096 .bf16) (x2 : Vec Ideal S512x1024 .f32) (x3 : Vec Ideal S1x1024 .f32) (x4 : Vec Ideal S512x1024 .f32) (r : Fin 256) (k : Fin 1024) :
    k0_pay11 x1 (View.ld x0 (Rect.unit (s := S512x4096) ![256, 0] S256x4096.size inb_S512x4096_S256x4096_256_0)) (View.ld x2 (Rect.unit (s := S512x1024) ![256, 0] S256x1024.size inb_S512x1024_S256x1024_256_0)) x3 (View.ld x4 (Rect.unit (s := S512x1024) ![256, 0] S256x1024.size inb_S512x1024_S256x1024_256_0)) (ix2 r k)
      = input (blockDot x0 x1 (⟨256 + r.val, by omega⟩ : Fin 512)) (fun j => x3 (ix2 (0 : Fin 1) j)) (fun j => x2 (ix2 (⟨256 + r.val, by omega⟩ : Fin 512) j)) (x4 (ix2 (⟨256 + r.val, by omega⟩ : Fin 512) k)) k := by
  pointwise [k0_pay11, k0_pay10, k0_pay9, k0_pay8, View.ld]
  rfl

/-- A block's part of the gain's gradient, added to what is held. -/
def more (x0 : Vec Ideal S512x4096 .bf16) (x1 : Vec Ideal S1024x4096 .bf16) (x2 : Vec Ideal S512x1024 .f32) (a : EReal) (k : Fin 1024) : EReal :=
  a + (∑ r : Fin 256, gain (blockDot x0 x1 (⟨r.val, by omega⟩ : Fin 512)) (fun j => x2 (ix2 (⟨r.val, by omega⟩ : Fin 512) j)) k)
    + ∑ r : Fin 256, gain (blockDot x0 x1 (⟨256 + r.val, by omega⟩ : Fin 512)) (fun j => x2 (ix2 (⟨256 + r.val, by omega⟩ : Fin 512) j)) k

/-- The two halves' sums over their rows, one after the other. -/
theorem at_gain (x0 : Vec Ideal S512x4096 .bf16) (x1 : Vec Ideal S1024x4096 .bf16) (x2 : Vec Ideal S512x1024 .f32) (xo : Vec Ideal S1x1024 .f32) (k : Fin 1024) :
    k0_pay1 (k0_pay8 x1 (View.ld x0 (Rect.unit (s := S512x4096) ![256, 0] S256x4096.size inb_S512x4096_S256x4096_256_0))) (k0_pay10 (View.ld x2 (Rect.unit (s := S512x1024) ![256, 0] S256x1024.size inb_S512x1024_S256x1024_256_0)))
      (k0_pay7 (k0_pay3 x1 (View.ld x0 (Rect.unit (s := S512x4096) ![0, 0] S256x4096.size inb_S512x4096_S256x4096_0_0))) (k0_pay5 (View.ld x2 (Rect.unit (s := S512x1024) ![0, 0] S256x1024.size inb_S512x1024_S256x1024_0_0))) xo) (ix2 (0 : Fin 1) k)
      = more x0 x1 x2 (xo (ix2 (0 : Fin 1) k)) k := by
  pointwise [k0_pay1, k0_pay7, k0_pay8, k0_pay9, k0_pay10, k0_pay3, k0_pay4, k0_pay5, View.ld]
  rfl

/-- The block of the result. -/
def block (x0 : Vec Ideal S512x4096 .bf16) (x1 : Vec Ideal S1024x4096 .bf16) (x2 : Vec Ideal S512x1024 .f32) (x3 : Vec Ideal S1x1024 .f32) (x4 : Vec Ideal S512x1024 .f32) (r : Fin 512) (k : Fin 1024) : EReal :=
  input (blockDot x0 x1 r) (fun j => x3 (ix2 (0 : Fin 1) j)) (fun j => x2 (ix2 r j)) (x4 (ix2 r k)) k

/-- Two halves that hold the block make it up. -/
theorem halves (x0 : Vec Ideal S512x4096 .bf16) (x1 : Vec Ideal S1024x4096 .bf16) (x2 : Vec Ideal S512x1024 .f32) (x3 : Vec Ideal S1x1024 .f32) (x4 : Vec Ideal S512x1024 .f32) (w2 w1 : Vec Ideal S256x1024 .f32) (r : Fin 512) (k : Fin 1024)
    (h1 : ∀ r : Fin 256, w1 (ix2 r k) = block x0 x1 x2 x3 x4 (⟨r.val, by omega⟩ : Fin 512) k)
    (h2 : ∀ r : Fin 256, w2 (ix2 r k) = block x0 x1 x2 x3 x4 (⟨256 + r.val, by omega⟩ : Fin 512) k) :
    View.canon (Val := Elt Ideal) [⟨(Rect.unit (s := S512x1024) ![256, 0] S256x1024.size inb_S512x1024_S256x1024_256_0), w2⟩, ⟨(Rect.unit (s := S512x1024) ![0, 0] S256x1024.size inb_S512x1024_S256x1024_0_0), w1⟩] (ix2 r k) = block x0 x1 x2 x3 x4 r k := by
  by_cases h : r.val < 256
  · exact (lower w2 w1 ⟨r.val, h⟩ k).trans (h1 ⟨r.val, h⟩)
  · have e : r = (⟨256 + (⟨r.val - 256, by omega⟩ : Fin 256).val, by simp; omega⟩ : Fin 512) := by
      apply Fin.ext; simp; omega
    rw [e]
    exact (upper w2 w1 _ k).trans (h2 _)

/-- The first point starts the gain's gradient from zero. -/
theorem held_A (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)
    (x0 : Vec Ideal S512x4096 .bf16) (x1 : Vec Ideal S1024x4096 .bf16) (x2 : Vec Ideal S512x1024 .f32) (x3 : Vec Ideal S1x1024 .f32) (x4 : Vec Ideal S512x1024 .f32) (k : Fin 1024) :
    out0_A_6 c i arg1 harg1 arg2 harg2 arg3 harg3 arg4 harg4 arg5 harg5 arg6 harg6 arg7 harg7 hc0 x0 x1 x2 x3 x4 (ix2 (0 : Fin 1) k) = more x0 x1 x2 0 k := by
  frame_out
  refine (at_gain x0 x1 x2 _ k).trans ?_
  refine congrArg (fun a => more x0 x1 x2 a k) ?_
  pointwise [k0_pay2]

/-- The first point's block of the input's gradient. -/
theorem out_A (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)
    (x0 : Vec Ideal S512x4096 .bf16) (x1 : Vec Ideal S1024x4096 .bf16) (x2 : Vec Ideal S512x1024 .f32) (x3 : Vec Ideal S1x1024 .f32) (x4 : Vec Ideal S512x1024 .f32) (r : Fin 512) (k : Fin 1024) :
    out0_A_5 c i arg1 harg1 arg2 harg2 arg3 harg3 arg4 harg4 arg5 harg5 arg6 harg6 arg7 harg7 hc0 x0 x1 x2 x3 x4 (ix2 r k) = block x0 x1 x2 x3 x4 r k := by
  frame_out
  exact halves x0 x1 x2 x3 x4 _ _ r k (fun r => at_lower x0 x1 x2 x3 x4 r k) (fun r => at_upper x0 x1 x2 x3 x4 r k)

/-- A later point adds its rows' part of the gain's gradient to what is held. -/
theorem held_B (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i)
    (x0 : Vec Ideal S512x4096 .bf16) (x1 : Vec Ideal S1024x4096 .bf16) (x2 : Vec Ideal S512x1024 .f32) (x3 : Vec Ideal S1x1024 .f32) (x4 : Vec Ideal S512x1024 .f32) (xo6 : Vec Ideal S1x1024 .f32) (k : Fin 1024) :
    out0_B_6 c i arg1 harg1 arg2 harg2 arg3 harg3 arg4 harg4 arg5 harg5 arg6 harg6 arg7 harg7 hc0 x0 x1 x2 x3 x4 xo6 (ix2 (0 : Fin 1) k) = more x0 x1 x2 (xo6 (ix2 (0 : Fin 1) k)) k := by
  frame_out
  exact at_gain x0 x1 x2 xo6 k

/-- A later point's block of the input's gradient. -/
theorem out_B (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i)
    (x0 : Vec Ideal S512x4096 .bf16) (x1 : Vec Ideal S1024x4096 .bf16) (x2 : Vec Ideal S512x1024 .f32) (x3 : Vec Ideal S1x1024 .f32) (x4 : Vec Ideal S512x1024 .f32) (xo6 : Vec Ideal S1x1024 .f32) (r : Fin 512) (k : Fin 1024) :
    out0_B_5 c i arg1 harg1 arg2 harg2 arg3 harg3 arg4 harg4 arg5 harg5 arg6 harg6 arg7 harg7 hc0 x0 x1 x2 x3 x4 xo6 (ix2 r k) = block x0 x1 x2 x3 x4 r k := by
  frame_out
  exact halves x0 x1 x2 x3 x4 _ _ r k (fun r => at_lower x0 x1 x2 x3 x4 r k) (fun r => at_upper x0 x1 x2 x3 x4 r k)

/-! ## The sweep over the rows -/

/-- Which block of each array a point takes. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The gain's gradient's array is written after the last point. -/
theorem flush_last : ∀ t : Fin cfg0.N, (cfg0.win 6).flush t = true → t.val = 15 :=
  (by decide +kernel : ∀ t : Fin grid0.N, (cfg0.win 6).flush t = true → t.val = 15)

/-- A row of the hidden rows' gradient's product. -/
abbrev rowDot (w : Vec Ideal S1024x4096 .f32) (u : Vec Ideal S8192x4096 .bf16) (n : Fin 8192) : Fin 1024 → EReal :=
  dot (fun q => u (ix2 n q)) fun k q => w (ix2 k q)

/-- The input's gradient, whole. -/
def total (x : Vec Ideal S8192x1024 .f32) (g : Vec Ideal S1024 .f32) (w : Vec Ideal S1024x4096 .f32) (u : Vec Ideal S8192x4096 .bf16) (e : Vec Ideal S8192x1024 .f32) : Vec Ideal S8192x1024 .f32 :=
  fun j => input (rowDot w u (j 0)) (fun k => g (ix1 k)) (fun k => x (ix2 (j 0) k)) (e (ix2 (j 0) (j 1))) (j 1)

/-- A row's part of the gain's gradient; nothing past the last row. -/
def term (x : Vec Ideal S8192x1024 .f32) (w : Vec Ideal S1024x4096 .f32) (u : Vec Ideal S8192x4096 .bf16) (k : Fin 1024) (t : ℕ) : EReal :=
  if h : t < 8192 then gain (rowDot w u ⟨t, h⟩) (fun j => x (ix2 (⟨t, h⟩ : Fin 8192) j)) k else 0

/-- The gain's gradient, the sum over all rows. -/
def totalGain (x : Vec Ideal S8192x1024 .f32) (w : Vec Ideal S1024x4096 .f32) (u : Vec Ideal S8192x4096 .bf16) : Vec Ideal S1x1024 .f32 :=
  fun j => ∑ t : Fin 8192, gain (rowDot w u t) (fun k => x (ix2 t k)) (j 1)

/-- The sum over all rows, counted. -/
theorem sum_all (x : Vec Ideal S8192x1024 .f32) (w : Vec Ideal S1024x4096 .f32) (u : Vec Ideal S8192x4096 .bf16) (k : Fin 1024) :
    ∑ t ∈ Finset.range 8192, term x w u k t = totalGain x w u (ix2 (0 : Fin 1) k) := by
  rw [Finset.sum_range]
  refine Finset.sum_congr rfl fun t _ => ?_
  exact dif_pos t.isLt

variable (m : (ℓ : Loc nD τ sig) → Buf (Elt Ideal) ℓ) (c : Dev nD)

/-- The rows that the norm took. -/
abbrev X : Vec Ideal S8192x1024 .f32 := m ((c.tc : Thread nD τ).loc main_arg0)

/-- The gain. -/
abbrev G : Vec Ideal S1024 .f32 := m ((c.tc : Thread nD τ).loc main_arg1)

/-- The weights. -/
abbrev W : Vec Ideal S1024x4096 .f32 := m ((c.tc : Thread nD τ).loc main_arg2)

/-- The hidden rows' gradient. -/
abbrev U : Vec Ideal S8192x4096 .bf16 := m ((c.tc : Thread nD τ).loc main_arg3)

/-- The gradient that goes past the block. -/
abbrev E : Vec Ideal S8192x1024 .f32 := m ((c.tc : Thread nD τ).loc main_arg4)

/-- The weights as the kernel finds them. -/
theorem V_weights : (V m c main_v0 : Vec Ideal S1024x4096 .bf16) = fun i => W m c i := by
  unfold V
  simp only [hostOps0]
  after_results
  rfl

/-- The gain as the kernel finds it, a row. -/
theorem V_gain (k : Fin 1024) : (V m c main_v1 : Vec Ideal S1x1024 .f32) (ix2 (0 : Fin 1) k) = G m c (ix1 k) := by
  have e : (V m c main_v1 : FVec Ideal S1x1024 .f32) = shapeCast S1x1024 (G m c : FVec Ideal S1024 .f32) shapeCasts_S1024_S1x1024 := by
    unfold V
    simp only [hostOps0]
    after_results
    rfl
  rw [e]
  pointwise []

/-- The hidden rows' gradient's block at a point. -/
abbrev x0 (t : Fin cfg0.N) : Vec Ideal S512x4096 .bf16 := iblk m c 0 t

/-- The weights at a point. -/
abbrev x1 (t : Fin cfg0.N) : Vec Ideal S1024x4096 .bf16 := iblk m c 1 t

/-- The rows' block at a point. -/
abbrev x2 (t : Fin cfg0.N) : Vec Ideal S512x1024 .f32 := iblk m c 2 t

/-- The gain at a point. -/
abbrev x3 (t : Fin cfg0.N) : Vec Ideal S1x1024 .f32 := iblk m c 3 t

/-- The block of the gradient that goes past, at a point. -/
abbrev x4 (t : Fin cfg0.N) : Vec Ideal S512x1024 .f32 := iblk m c 4 t

/-- A block's row is the array's. -/
theorem blk_0 (t : Fin cfg0.N) (r : Fin 512) (k : Fin 4096) (n : Fin 8192) (hn : n.val = t.val * 512 + r.val) :
    x0 m c t (ix2 r k) = U m c (ix2 n k) := by
  obtain ⟨e, -, -, -, -, -, -⟩ := idx t
  show _ = (m ((c.tc : Thread nD τ).loc main_arg3) : Vec Ideal S8192x4096 .bf16) (ix2 n k)
  rw [← V_main_arg3 m c]
  blk_simp [x0, iblk, e]
  refine congrArg _ ?_
  blk_ext [e]

/-- Every point takes the same weights. -/
theorem blk_1 (t : Fin cfg0.N) (r : Fin 1024) (k : Fin 4096) : x1 m c t (ix2 r k) = W m c (ix2 r k) := by
  obtain ⟨-, e, -, -, -, -, -⟩ := idx t
  refine Eq.trans ?_ (congrFun (V_weights m c) (ix2 r k))
  blk_simp [x1, iblk, e]
  refine congrArg _ ?_
  blk_ext [e]

/-- A block's row is the array's. -/
theorem blk_2 (t : Fin cfg0.N) (r : Fin 512) (k : Fin 1024) (n : Fin 8192) (hn : n.val = t.val * 512 + r.val) :
    x2 m c t (ix2 r k) = X m c (ix2 n k) := by
  obtain ⟨-, -, e, -, -, -, -⟩ := idx t
  show _ = (m ((c.tc : Thread nD τ).loc main_arg0) : Vec Ideal S8192x1024 .f32) (ix2 n k)
  rw [← V_main_arg0 m c]
  blk_simp [x2, iblk, e]
  refine congrArg _ ?_
  blk_ext [e]

/-- Every point takes the same gain. -/
theorem blk_3 (t : Fin cfg0.N) (k : Fin 1024) : x3 m c t (ix2 (0 : Fin 1) k) = G m c (ix1 k) := by
  obtain ⟨-, -, -, e, -, -, -⟩ := idx t
  refine Eq.trans ?_ (V_gain m c k)
  blk_simp [x3, iblk, e]
  refine congrArg _ ?_
  blk_ext [e]

/-- A block's row is the array's. -/
theorem blk_4 (t : Fin cfg0.N) (r : Fin 512) (k : Fin 1024) (n : Fin 8192) (hn : n.val = t.val * 512 + r.val) :
    x4 m c t (ix2 r k) = E m c (ix2 n k) := by
  obtain ⟨-, -, -, -, e, -, -⟩ := idx t
  show _ = (m ((c.tc : Thread nD τ).loc main_arg4) : Vec Ideal S8192x1024 .f32) (ix2 n k)
  rw [← V_main_arg4 m c]
  blk_simp [x4, iblk, e]
  refine congrArg _ ?_
  blk_ext [e]

/-- A block's product is the rows'. -/
theorem blk_dot (t : Fin cfg0.N) (r : Fin 512) (n : Fin 8192) (hn : n.val = t.val * 512 + r.val) :
    blockDot (x0 m c t) (x1 m c t) r = rowDot (W m c) (U m c) n :=
  congr (congrArg dot (funext fun q => blk_0 m c t r q n hn)) (funext fun k => funext fun q => blk_1 m c t k q)

/-- The block that a point leaves. -/
theorem blk_out (t : Fin cfg0.N) (r : Fin 512) (k : Fin 1024) (n : Fin 8192) (hn : n.val = t.val * 512 + r.val) :
    block (x0 m c t) (x1 m c t) (x2 m c t) (x3 m c t) (x4 m c t) r k = total (X m c) (G m c) (W m c) (U m c) (E m c) (ix2 n k) :=
  congrFun (congr (congr (congr (congrArg input (blk_dot m c t r n hn)) (funext fun j => blk_3 m c t j)) (funext fun j => blk_2 m c t r j n hn)) (blk_4 m c t r k n hn)) k

/-- A point's sum is over its own rows. -/
theorem more_at (t : Fin cfg0.N) (a : EReal) (k : Fin 1024)
    (h : a = ∑ j ∈ Finset.range (t.val * 512), term (X m c) (W m c) (U m c) k j) :
    more (x0 m c t) (x1 m c t) (x2 m c t) a k = ∑ j ∈ Finset.range (t.val * 512 + 256 + 256), term (X m c) (W m c) (U m c) k j := by
  have ht : t.val < 16 := lt_of_lt_of_eq t.isLt N_0
  have e : ∀ (r : Fin 512), gain (blockDot (x0 m c t) (x1 m c t) r) (fun j => x2 m c t (ix2 r j)) k = term (X m c) (W m c) (U m c) k (t.val * 512 + r.val) := fun r => by
    have hr : t.val * 512 + r.val < 8192 := by omega
    unfold term
    rw [dif_pos hr]
    exact congrFun (congr (congrArg gain (blk_dot m c t r ⟨_, hr⟩ rfl)) (funext fun j => blk_2 m c t r j ⟨_, hr⟩ rfl)) k
  rw [Finset.sum_range_add, Finset.sum_range_add, ← h, Finset.sum_range (n := 256), Finset.sum_range (n := 256)]
  unfold more
  refine congr (congrArg _ (congrArg (a + ·) (Finset.sum_congr rfl fun r _ => e _))) (Finset.sum_congr rfl fun r _ => (e _).trans ?_)
  exact congrArg _ (Nat.add_assoc _ _ _).symm

/-- The first point's block. -/
theorem left_A (t : Fin cfg0.N) (h0 : t.val % 16 = 0) (r : Fin 512) (k : Fin 1024) :
    (outsAt0 m c t.val t.isLt).1 (ix2 r k) = block (x0 m c t) (x1 m c t) (x2 m c t) (x3 m c t) (x4 m c t) r k := by
  have e : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (x0 m c t) (x1 m c t) (x2 m c t) (x3 m c t) (x4 m c t) := by
    rw [outsAt0_A m c t h0]
  rw [e]
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (x0 m c t) (x1 m c t) (x2 m c t) (x3 m c t) (x4 m c t) r k

/-- What the gain's gradient is before a point. -/
def before (t : Fin cfg0.N) : Vec Ideal S1x1024 .f32 := (outsAt0 m c (t.val - 1) (Nat.lt_of_le_of_lt (Nat.sub_le _ _) t.isLt)).2

/-- A later point's block. -/
theorem left_B (t : Fin cfg0.N) (h0 : ¬t.val % 16 = 0) (r : Fin 512) (k : Fin 1024) :
    (outsAt0 m c t.val t.isLt).1 (ix2 r k) = block (x0 m c t) (x1 m c t) (x2 m c t) (x3 m c t) (x4 m c t) r k := by
  have e : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (x0 m c t) (x1 m c t) (x2 m c t) (x3 m c t) (x4 m c t) (before m c t) := by
    unfold before
    rw [outsAt0_B m c t h0]
  rw [e]
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (x0 m c t) (x1 m c t) (x2 m c t) (x3 m c t) (x4 m c t) (before m c t) r k

/-- The first point, as part of the sweep. -/
theorem step_A (t : Fin cfg0.N) (h0 : t.val % 16 = 0) (k : Fin 1024) :
    (outsAt0 m c t.val t.isLt).2 (ix2 (0 : Fin 1) k) = more (x0 m c t) (x1 m c t) (x2 m c t) 0 k := by
  have e : (outsAt0 m c t.val t.isLt).2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (x0 m c t) (x1 m c t) (x2 m c t) (x3 m c t) (x4 m c t) := by
    rw [outsAt0_A m c t h0]
  rw [e]
  exact held_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (x0 m c t) (x1 m c t) (x2 m c t) (x3 m c t) (x4 m c t) k

/-- A later point, as part of the sweep. -/
theorem step_B (t : Fin cfg0.N) (h0 : ¬t.val % 16 = 0) (k : Fin 1024) :
    (outsAt0 m c t.val t.isLt).2 (ix2 (0 : Fin 1) k) = more (x0 m c t) (x1 m c t) (x2 m c t) (before m c t (ix2 (0 : Fin 1) k)) k := by
  have e : (outsAt0 m c t.val t.isLt).2 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (x0 m c t) (x1 m c t) (x2 m c t) (x3 m c t) (x4 m c t) (before m c t) := by
    unfold before
    rw [outsAt0_B m c t h0]
  rw [e]
  exact held_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (x0 m c t) (x1 m c t) (x2 m c t) (x3 m c t) (x4 m c t) (before m c t) k

/-- What the gain's gradient is after each point. -/
theorem held (k : Fin 1024) : ∀ (n : ℕ) (hn : n < cfg0.N),
    (outsAt0 m c n hn).2 (ix2 (0 : Fin 1) k) = ∑ j ∈ Finset.range (n * 512 + 256 + 256), term (X m c) (W m c) (U m c) k j
  | 0, hn =>
    (step_A m c ⟨0, hn⟩ (show 0 % 16 = 0 from rfl) k).trans
      (more_at m c ⟨0, hn⟩ _ k (Finset.sum_range_zero _).symm)
  | n + 1, hn => by
    have hp := held k n (Nat.lt_of_succ_lt hn)
    have h16 : n + 1 < 16 := lt_of_lt_of_eq hn N_0
    refine (step_B m c ⟨n + 1, hn⟩ (show ¬(n + 1) % 16 = 0 by omega) k).trans
      (more_at m c ⟨n + 1, hn⟩ _ k ?_)
    have e : (⟨n + 1, hn⟩ : Fin cfg0.N).val * 512 = n * 512 + 256 + 256 := by show (n + 1) * 512 = _; omega
    rw [e]
    exact hp

/-- What the gain's gradient is after the last point. -/
theorem last (t : Fin cfg0.N) (ht : t.val = 15) (k : Fin 1024) :
    (outsAt0 m c t.val t.isLt).2 (ix2 (0 : Fin 1) k) = totalGain (X m c) (W m c) (U m c) (ix2 (0 : Fin 1) k) := by
  have hm := held m c k t.val t.isLt
  have e : t.val * 512 + 256 + 256 = 8192 := by omega
  rw [e, sum_all] at hm
  exact hm

/-- The input's gradient's array after the run. -/
theorem final_input : (dats m 0 c).arrAt 5 cfg0.N = total (X m c) (G m c) (W m c) (U m c) (E m c) := by
  refine Idealize.ShloMosaic.Pipeline.Dat.arrAt_eq_of_covers (dats m 0 c) 5 _ (by decide +kernel) fun t hf y => ?_
  obtain ⟨-, -, -, -, -, e5, -⟩ := idx t
  have ht : t.val < 16 := lt_of_lt_of_eq t.isLt N_0
  rw [after0_5]
  blk_simp [e5]
  have hy : y = ix2 (⟨(y 0).val, (y 0).isLt⟩ : Fin 512) (⟨(y 1).val, (y 1).isLt⟩ : Fin 1024) := by
    funext a; match a with | ⟨0, _⟩ => rfl | ⟨1, _⟩ => rfl
  have h0 : (y 0).val < 512 := (y 0).isLt
  have hz : (win0_5.blk t).view.emb y = ix2 (⟨t.val * 512 + (y 0).val, by omega⟩ : Fin 8192) (⟨(y 1).val, (y 1).isLt⟩ : Fin 1024) := by
    blk_ext [e5]
  rw [hz]
  refine (congrArg _ hy).trans (Eq.trans ?_ (blk_out m c t _ _ _ rfl))
  by_cases h : t.val % 16 = 0
  · exact left_A m c t h _ _
  · exact left_B m c t h _ _

/-- The gain's gradient's array after the run. -/
theorem final_gain : (dats m 0 c).arrAt 6 cfg0.N = totalGain (X m c) (W m c) (U m c) := by
  refine Idealize.ShloMosaic.Pipeline.Dat.arrAt_eq_of_covers (dats m 0 c) 6 _ (by decide +kernel) fun t hf y => ?_
  obtain ⟨-, -, -, -, -, -, e6⟩ := idx t
  have ht : t.val = 15 := flush_last t hf
  rw [after0_6]
  blk_simp [e6]
  have h0 : (y 0).val < 1 := (y 0).isLt
  have hy : y = ix2 (0 : Fin 1) (⟨(y 1).val, (y 1).isLt⟩ : Fin 1024) := by
    funext a
    match a with
    | ⟨0, _⟩ => exact Fin.ext (Nat.lt_one_iff.mp h0)
    | ⟨1, _⟩ => rfl
  have hz : (win0_6.blk t).view.emb y = ix2 (0 : Fin 1) (⟨(y 1).val, (y 1).isLt⟩ : Fin 1024) := by
    blk_ext [e6]
  rw [hz]
  exact (congrArg _ hy).trans (last m c t ht _)

/-- What the kernel ends with. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2_0) = total (X m c) (G m c) (W m c) (U m c) (E m c)
      ∧ r.2.mem ((c.tc : Thread nD τ).loc main_v2_1) = totalGain (X m c) (W m c) (U m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final_input m c), ((h.1 c).1 6).trans (final_gain m c), h.2 c⟩)
    (θ_run_and (run_main m ρ) (unchanged m ρ))

end Cert.Dh2

namespace Cert.Dh2Ref

open Idealize.ShloMosaic Idealize.ShloMosaic.StableHlo Idealize.SL.Sem Cert.Reference2Ideal Cert.Reference2Ideal.Gen

variable (m : (ℓ : Loc nD τ sig) → Buf (Elt Ideal) ℓ) (c : Dev nD)

/-- The reference's input's gradient. -/
theorem ref_input (x : FVec Ideal S8192x1024 .f32) (g : FVec Ideal S1024 .f32) (w : FVec Ideal S1024x4096 .f32) (u : FVec Ideal S8192x4096 .bf16) (e : FVec Ideal S8192x1024 .f32)
    (h0 : m ((c.tc : Thread nD τ).loc main_arg0) = x) (h1 : m ((c.tc : Thread nD τ).loc main_arg1) = g) (h2 : m ((c.tc : Thread nD τ).loc main_arg2) = w)
    (h3 : m ((c.tc : Thread nD τ).loc main_arg3) = u) (h4 : m ((c.tc : Thread nD τ).loc main_arg4) = e) :
    Cert.Reference2Ideal.Value.res_main_v39 m c = Cert.Dh2.total x g w u e := by
  unfold Cert.Reference2Ideal.Value.res_main_v39
  rw [h0, h1, h2, h3, h4]
  funext j
  have hj : j = ix2 (⟨(j 0).val, (j 0).isLt⟩ : Fin 8192) (⟨(j 1).val, (j 1).isLt⟩ : Fin 1024) := by
    funext a; match a with | ⟨0, _⟩ => rfl | ⟨1, _⟩ => rfl
  rw [hj]
  unfold Cert.Dh2.total Cert.Dh2.input
  refine Eq.trans ?_ (Cert.Dh2.norm_bwd _ (fun k => Cert.Dh2.rowDot w u _ k * g (ix1 k)) _ _).symm
  pointwise []
  simp only [Fin.sum_univ_one]
  rfl

/-- The reference's gain's gradient, over any product and any rows. -/
theorem ref_gain (x : FVec Ideal S8192x1024 .f32) (w : FVec Ideal S1024x4096 .f32) (u : FVec Ideal S8192x4096 .bf16) :
    (broadcastInDim S1x1024 ![1] bcast_S1024_S1x1024_1 (Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x4096_S1024x4096_S8192x1024_1_1_0_0_n_n none (extf .f32 u bitsLt_bf16_f32) w)) (constant S_ .f32 0x00000000#32) reducesTo_S8192x1024_S1024_d0 h_S_) shapeCasts_S1024_S1x1024) (constant S_ .f32 0x00000000#32) reducesTo_S1x1024_S1024_d0 h_S_) : FVec Ideal S1x1024 .f32)
      = Cert.Dh2.totalGain x w u := by
  funext j
  have h0 : (j 0).val < 1 := (j 0).isLt
  have hj : j = ix2 (0 : Fin 1) (⟨(j 1).val, (j 1).isLt⟩ : Fin 1024) := by
    funext a
    match a with
    | ⟨0, _⟩ => exact Fin.ext (Nat.lt_one_iff.mp h0)
    | ⟨1, _⟩ => rfl
  rw [hj]
  pointwise []
  simp only [Fin.sum_univ_one]
  exact Finset.sum_congr rfl fun t _ => mul_comm _ _

end Cert.Dh2Ref

namespace Cert.Dh2

open Idealize.ShloMosaic Idealize.SL.Sem Cert.Kernel2Ideal Cert.Kernel2Ideal.Gen

/-- Both programs end with the same gradients of the input and of the gain. -/
theorem algebraic : Cert.algebraic_Kernel2Ideal_Reference2Ideal := fun m ρ m' ρ' _ hargs =>
  ⟨fun c => total (X m c) (G m c) (W m c) (U m c) (E m c), fun c => totalGain (X m c) (W m c) (U m c),
    kernel_run m ρ,
    (θ_run Cert.Reference2Ideal.defs _ _).mono (fun r h c => by
      obtain ⟨h0, h1, h2, h3, h4⟩ := hargs c
      obtain ⟨r0, r1, hk⟩ := h c
      refine ⟨r0.trans (Cert.Dh2Ref.ref_input m' c _ _ _ _ _ h0 h1 h2 h3 h4), r1.trans ?_, hk⟩
      rw [h0, h2, h3]
      exact Cert.Dh2Ref.ref_gain _ _ _) (Cert.Reference2Ideal.Value.run (F := Ideal) m' ρ')⟩

end Cert.Dh2

end
-- ==== Proof.Dact.lean ====
/- The activation's gradient: the kernel `mm_dact`, the product of the output's gradient with the transposed weights by
   the derivative of the squared rectifier, against the reference. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Dact

open Idealize.ShloMosaic Idealize.ShloMosaic.StableHlo Idealize.SL.Sem Cert.Kernel3Ideal Cert.Kernel3Ideal.Gen

/-- The activation's gradient at one place, from a row of the output's gradient, a row of the weights and the input. -/
def grad (g w : Fin 1024 → EReal) (u : EReal) : EReal := (∑ k : Fin 1024, g k * w k) * Ideal.ofBits .f32 0x40000000#32 * max u 0

/-- The upper half of a block stored in two halves. -/
theorem upper (w2 w1 : Vec Ideal S256x4096 .bf16) (r : Fin 256) (k : Fin 4096) :
    View.canon (Val := Elt Ideal) [⟨r0_4, w2⟩, ⟨r0_2, w1⟩] (ix2 (⟨256 + r.val, by omega⟩ : Fin 512) k) = w2 (ix2 r k) := by
  have e : (ix2 (⟨256 + r.val, by omega⟩ : Fin 512) k : S512x4096.Idx) = r0_4.emb (ix2 r k) := by
    blk_ext []
  rw [e]
  exact View.canon_cons_emb _ _ _ _

/-- The lower half. -/
theorem lower (w2 w1 : Vec Ideal S256x4096 .bf16) (r : Fin 256) (k : Fin 4096) :
    View.canon (Val := Elt Ideal) [⟨r0_4, w2⟩, ⟨r0_2, w1⟩] (ix2 (⟨r.val, by omega⟩ : Fin 512) k) = w1 (ix2 r k) := by
  have e : (ix2 (⟨r.val, by omega⟩ : Fin 512) k : S512x4096.Idx) = r0_2.emb (ix2 r k) := by
    blk_ext []
  refine (View.canon_cons_of_not_mem _ _ ?_).trans ?_
  · rw [Rect.mem_set_unit]
    intro h
    have := (h 0).1
    simp at this
    omega
  rw [e]
  exact View.canon_cons_emb _ _ _ _

theorem at_pay1 (x0 : Vec Ideal S512x1024 .f32) (x1 : Vec Ideal S4096x1024 .bf16) (x2 : Vec Ideal S512x4096 .bf16) (r : Fin 256) (k : Fin 4096) :
    k0_pay1 (View.ld x1 r0_0) (View.ld x0 r0_1) (View.ld x2 r0_2) (ix2 r k)
      = grad (fun j => x0 (ix2 (⟨r.val, by omega⟩ : Fin 512) j)) (fun j => x1 (ix2 k j)) (x2 (ix2 (⟨r.val, by omega⟩ : Fin 512) k)) := by
  pointwise [k0_pay1, View.ld]
  rfl

theorem at_pay2 (x0 : Vec Ideal S512x1024 .f32) (x1 : Vec Ideal S4096x1024 .bf16) (x2 : Vec Ideal S512x4096 .bf16) (r : Fin 256) (k : Fin 4096) :
    k0_pay2 (View.ld x1 r0_0) (View.ld x0 r0_3) (View.ld x2 r0_4) (ix2 r k)
      = grad (fun j => x0 (ix2 (⟨256 + r.val, by omega⟩ : Fin 512) j)) (fun j => x1 (ix2 k j)) (x2 (ix2 (⟨256 + r.val, by omega⟩ : Fin 512) k)) := by
  pointwise [k0_pay2, View.ld]
  rfl

/-- A block of the result at an index. -/
theorem block (x0 : Vec Ideal S512x1024 .f32) (x1 : Vec Ideal S4096x1024 .bf16) (x2 : Vec Ideal S512x4096 .bf16) (r : Fin 512) (k : Fin 4096) :
    out0_3 x0 x1 x2 (ix2 r k) = grad (fun j => x0 (ix2 r j)) (fun j => x1 (ix2 k j)) (x2 (ix2 r k)) := by
  unfold out0_3
  by_cases h : r.val < 256
  · exact (lower _ _ ⟨r.val, h⟩ k).trans (at_pay1 x0 x1 x2 ⟨r.val, h⟩ k)
  · have e : r = (⟨256 + (⟨r.val - 256, by omega⟩ : Fin 256).val, by simp; omega⟩ : Fin 512) := by
      apply Fin.ext; simp; omega
    rw [e]
    exact (upper _ _ _ k).trans (at_pay2 x0 x1 x2 _ k)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ) (c : Dev nD)

/-- The weights as the kernel finds them. -/
theorem V_weights : (V m c main_v0 : Vec Ideal S4096x1024 .bf16) = fun i => (m ((c.tc : Thread nD τ).loc main_arg1) : Vec Ideal S4096x1024 .f32) i := by
  unfold V
  simp only [hostOps0]
  after_results
  rfl

/-- The whole result. -/
def total (up : Vec Ideal S8192x4096 .bf16) (w : Vec Ideal S4096x1024 .f32) (g : Vec Ideal S8192x1024 .f32) : Vec Ideal S8192x4096 .bf16 :=
  fun j => grad (fun k => g (ix2 (j 0) k)) (fun k => w (ix2 (j 1) k)) (up j)

theorem blk_g (t : Fin cfg0.N) (r : Fin 512) (k : Fin 1024) (n : Fin 8192) (hn : n.val = t.val * 512 + r.val) :
    iblk m c 0 t (ix2 r k) = (m ((c.tc : Thread nD τ).loc main_arg2) : Vec Ideal S8192x1024 .f32) (ix2 n k) := by
  obtain ⟨e, -, -, -⟩ := idx t
  rw [← V_main_arg2 m c]
  blk_simp [iblk, e]
  refine congrArg _ ?_
  blk_ext [e]

theorem blk_w (t : Fin cfg0.N) (r : Fin 4096) (k : Fin 1024) :
    iblk m c 1 t (ix2 r k) = (m ((c.tc : Thread nD τ).loc main_arg1) : Vec Ideal S4096x1024 .f32) (ix2 r k) := by
  obtain ⟨-, e, -, -⟩ := idx t
  refine Eq.trans ?_ (congrFun (V_weights m c) (ix2 r k))
  blk_simp [iblk, e]
  refine congrArg _ ?_
  blk_ext [e]

theorem blk_u (t : Fin cfg0.N) (r : Fin 512) (k : Fin 4096) (n : Fin 8192) (hn : n.val = t.val * 512 + r.val) :
    iblk m c 2 t (ix2 r k) = (m ((c.tc : Thread nD τ).loc main_arg0) : Vec Ideal S8192x4096 .bf16) (ix2 n k) := by
  obtain ⟨-, -, e, -⟩ := idx t
  rw [← V_main_arg0 m c]
  blk_simp [iblk, e]
  refine congrArg _ ?_
  blk_ext [e]

/-- The result's array after the run. -/
theorem final : (dats m 0 c).arrAt 3 cfg0.N = total (m ((c.tc : Thread nD τ).loc main_arg0)) (m ((c.tc : Thread nD τ).loc main_arg1)) (m ((c.tc : Thread nD τ).loc main_arg2)) := by
  refine Idealize.ShloMosaic.Pipeline.Dat.arrAt_eq_of_covers (dats m 0 c) 3 _ (by decide +kernel) fun t hf y => ?_
  obtain ⟨e0, e1, e2, e3⟩ := idx t
  have ht : t.val < 16 := lt_of_lt_of_eq t.isLt (by decide)
  rw [after0_3]
  blk_simp [e3]
  have hy : y = ix2 (⟨(y 0).val, (y 0).isLt⟩ : Fin 512) (⟨(y 1).val, (y 1).isLt⟩ : Fin 4096) := by
    funext a; match a with | ⟨0, _⟩ => rfl | ⟨1, _⟩ => rfl
  have h0 : (y 0).val < 512 := (y 0).isLt
  have hz : (win0_3.blk t).view.emb y = ix2 (⟨t.val * 512 + (y 0).val, by omega⟩ : Fin 8192) (⟨(y 1).val, (y 1).isLt⟩ : Fin 4096) := by
    blk_ext [e3]
  refine (congrArg _ hy).trans ((block _ _ _ _ _).trans ?_)
  rw [hz]
  unfold total
  exact congr (congr (congrArg grad (funext fun k => blk_g m c t _ k _ rfl)) (funext fun k => blk_w m c t _ k)) (blk_u m c t _ _ _ rfl)

/-- The reference's value is the same: where the input is not positive its rectifier is zero. -/
theorem ref_at (g w : Fin 1024 → EReal) (u : EReal) :
    (if 0 < u then (∑ k : Fin 1024, g k * w k) * (Ideal.ofBits .f32 0x40000000#32 * max u 0) else 0) = grad g w u := by
  unfold grad
  split
  · rw [mul_assoc]
  · rename_i h
    rw [max_eq_right (not_lt.mp h), mul_zero]

end Cert.Dact

namespace Cert.DactRef

open Idealize.ShloMosaic Idealize.ShloMosaic.StableHlo Idealize.SL.Sem Cert.Reference3Ideal Cert.Reference3Ideal.Gen

/-- The reference's result. -/
theorem ref_total (up : FVec Ideal S8192x4096 .bf16) (w : FVec Ideal S4096x1024 .f32) (g : FVec Ideal S8192x1024 .f32) :
    (truncf .bf16 (select (cmpf .ogt (extf .f32 up bitsLt_bf16_f32) (broadcastInDim S8192x4096 ![] bcast_S_S8192x4096 (constant S_ .f32 0x00000000#32)))
      (mulf (Host.dotGeneral dot_S8192x1024_S4096x1024_S8192x4096_1_1_0_0_n_n none g w)
        (mulf (broadcastInDim S8192x4096 ![] bcast_S_S8192x4096 (constant S_ .f32 0x40000000#32))
          (maximumf (extf .f32 up bitsLt_bf16_f32) (broadcastInDim S8192x4096 ![] bcast_S_S8192x4096 (constant S_ .f32 0x00000000#32)))))
      (broadcastInDim S8192x4096 ![] bcast_S_S8192x4096 (constant S_ .f32 0x00000000#32))) bitsLt_bf16_f32 : FVec Ideal S8192x4096 .bf16) = Cert.Dact.total up w g := by
  funext j
  have hj : j = ix2 (⟨(j 0).val, (j 0).isLt⟩ : Fin 8192) (⟨(j 1).val, (j 1).isLt⟩ : Fin 4096) := by
    funext a; match a with | ⟨0, _⟩ => rfl | ⟨1, _⟩ => rfl
  rw [hj]
  unfold Cert.Dact.total
  refine Eq.trans ?_ (Cert.Dact.ref_at _ _ _)
  pointwise []

end Cert.DactRef

namespace Cert.Dact

open Idealize.ShloMosaic Idealize.SL.Sem Cert.Kernel3Ideal Cert.Kernel3Ideal.Gen

/-- Both programs end with the activation's gradient at every place. -/
theorem algebraic : Cert.algebraic_Kernel3Ideal_Reference3Ideal := fun m ρ m' ρ' _ hargs =>
  ⟨fun c => total (m ((c.tc : Thread nD τ).loc main_arg0)) (m ((c.tc : Thread nD τ).loc main_arg1)) (m ((c.tc : Thread nD τ).loc main_arg2)),
    (θ_run Cert.Kernel3Ideal.defs _ _).mono (fun r h c => ⟨(h c).1.trans (final m c), (h c).2⟩) (Cert.Kernel3Ideal.Value.run_blocks (F := Ideal) m ρ),
    (θ_run Cert.Reference3Ideal.defs _ _).mono (fun r h c => by
      obtain ⟨h0, h1, h2⟩ := hargs c
      refine ⟨(h c).1.trans ?_, (h c).2⟩
      rw [h0, h1, h2]
      exact Cert.DactRef.ref_total _ _ _) (Cert.Reference3Ideal.Value.run (F := Ideal) m' ρ')⟩

end Cert.Dact

end
-- ==== Proof.DwUp.lean ====
/- The up projection's weights' gradient: the kernel `mm_dw_up`, which adds up the products of 1024 rows at a time and
   writes the sum out in eight slabs of columns, against the one product over all rows, cut into the same slabs. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwUp

open Idealize.ShloMosaic Idealize.ShloMosaic.StableHlo Idealize.SL.Sem Cert.Kernel4Ideal Cert.Kernel4Ideal.Gen

/-- A piece of 1024 columns, a part of one array, over other pieces that make up the array outside of it. -/
theorem tile (o : ℕ) (p : Vec Ideal S1024x1024 .f32) (L : List (View.Piece (Elt Ideal) S1024x4096 .f32)) (G : Vec Ideal S1024x4096 .f32)
    (i : ∀ a, (![0, o] : Fin 2 → ℕ) a + S1024x1024.size a ≤ S1024x4096.size a) (r : Fin 1024) (k : Fin 4096)
    (hp : ∀ (k q : Fin 1024) (n : Fin 4096), n.val = o + q.val → p (ix2 k q) = G (ix2 k n))
    (hL : (k.val < o ∨ o + 1024 ≤ k.val) → View.canon (Val := Elt Ideal) L (ix2 r k) = G (ix2 r k)) :
    View.canon (Val := Elt Ideal) (⟨Rect.unit (s := S1024x4096) ![0, o] S1024x1024.size i, p⟩ :: L) (ix2 r k) = G (ix2 r k) := by
  by_cases h : o ≤ k.val ∧ k.val < o + 1024
  · have hq : k.val - o < 1024 := by omega
    have e : (ix2 r k : S1024x4096.Idx) = (Rect.unit (s := S1024x4096) ![0, o] S1024x1024.size i).emb (ix2 r (⟨k.val - o, hq⟩ : Fin 1024)) := by
      funext a
      apply Fin.ext
      match a with
      | ⟨0, _⟩ => show r.val = 0 + 1 * r.val; omega
      | ⟨1, _⟩ => show k.val = o + 1 * (k.val - o); omega
    refine (congrArg _ e).trans ((View.canon_cons_emb _ _ _ _).trans (hp r _ k ?_))
    show k.val = o + (k.val - o)
    omega
  · have e : k.val < o ∨ o + 1024 ≤ k.val := by omega
    refine (View.canon_cons_of_not_mem _ _ ?_).trans (hL e)
    intro hm
    rw [Rect.mem_set_unit] at hm
    have a : o ≤ k.val := (hm 1).1
    have b : k.val < o + 1024 := (hm 1).2
    omega

/-- A slab of the result, over other pieces that make up the result outside of it. -/
theorem slab (o : ℕ) (ho : o < 8) (p : Vec Ideal S1x1024x512 .bf16) (L : List (View.Piece (Elt Ideal) S8x1024x512 .bf16)) (G : Vec Ideal S8x1024x512 .bf16)
    (i : ∀ a, (![o, 0, 0] : Fin 3 → ℕ) a + S1x1024x512.size a ≤ S8x1024x512.size a) (l : Fin 8) (r : Fin 1024) (k : Fin 512)
    (hp : ∀ (r : Fin 1024) (k : Fin 512), p (ix3 (0 : Fin 1) r k) = G (ix3 (⟨o, ho⟩ : Fin 8) r k))
    (hL : l.val ≠ o → View.canon (Val := Elt Ideal) L (ix3 l r k) = G (ix3 l r k)) :
    View.canon (Val := Elt Ideal) (⟨Rect.unit (s := S8x1024x512) ![o, 0, 0] S1x1024x512.size i, p⟩ :: L) (ix3 l r k) = G (ix3 l r k) := by
  by_cases h : l.val = o
  · have e : (ix3 l r k : S8x1024x512.Idx) = (Rect.unit (s := S8x1024x512) ![o, 0, 0] S1x1024x512.size i).emb (ix3 (0 : Fin 1) r k) := by
      funext a
      apply Fin.ext
      match a with
      | ⟨0, _⟩ => show l.val = o + 1 * 0; omega
      | ⟨1, _⟩ => show r.val = 0 + 1 * r.val; omega
      | ⟨2, _⟩ => show k.val = 0 + 1 * k.val; omega
    have hl : l = ⟨o, ho⟩ := Fin.ext h
    refine (congrArg _ e).trans ((View.canon_cons_emb _ _ _ _).trans ((hp r k).trans ?_))
    rw [hl]
  · refine (View.canon_cons_of_not_mem _ _ ?_).trans (hL h)
    intro hm
    rw [Rect.mem_set_unit] at hm
    have a : o ≤ l.val := (hm 0).1
    have b : l.val < o + 1 := (hm 0).2
    omega

/-- What the last point reads back for a slab. -/
theorem back (o : ℕ) (v : View sig .tc .vmem S1024x4096 .f32) (L : List (View.Piece (Elt Ideal) S1024x4096 .f32))
    (i : ∀ a, (![0, o] : Fin 2 → ℕ) a + S1024x512.size a ≤ S1024x4096.size a) (r : Fin 1024) (k : Fin 512) (n : Fin 4096) (hn : n.val = o + k.val) :
    v.readCov L (Rect.unit (s := S1024x4096) ![0, o] S1024x512.size i).toLoadRect (ix2 r k) = View.canon (Val := Elt Ideal) L (ix2 r n) := by
  rw [View.readCov_eq_canon']
  have e : (Rect.unit (s := S1024x4096) ![0, o] S1024x512.size i).toLoadRect.idx (ix2 r k) = ix2 r n := by
    funext a
    apply Fin.ext
    match a with
    | ⟨0, _⟩ => show 0 + 1 * r.val = r.val; omega
    | ⟨1, _⟩ => show o + 1 * k.val = n.val; omega
  exact congrArg (View.canon (Val := Elt Ideal) L) e

/-- What is held with a block's product added. -/
def more (x0 : Vec Ideal S1024x1024 .bf16) (x1 : Vec Ideal S1024x4096 .bf16) (xs0 : Vec Ideal S1024x4096 .f32) : Vec Ideal S1024x4096 .f32 :=
  fun y => xs0 y + ∑ q : Fin 1024, x0 (ix2 q (y 0)) * x1 (ix2 q (y 1))

/-- The four pieces a point writes over what is held. -/
abbrev pieces (x0 : Vec Ideal S1024x1024 .bf16) (x1 : Vec Ideal S1024x4096 .bf16) (xs0 : Vec Ideal S1024x4096 .f32) : List (View.Piece (Elt Ideal) S1024x4096 .f32) :=
  [⟨(Rect.unit (s := S1024x4096) ![0, 3072] S1024x1024.size inb_S1024x4096_S1024x1024_0_3072),
      k0_pay1 (k0_pay12 x0) (View.ld xs0 (Rect.unit (s := S1024x4096) ![0, 3072] S1024x1024.size inb_S1024x4096_S1024x1024_0_3072)) (View.ld x1 (Rect.unit (s := S1024x4096) ![0, 3072] S1024x1024.size inb_S1024x4096_S1024x1024_0_3072))⟩,
    ⟨(Rect.unit (s := S1024x4096) ![0, 2048] S1024x1024.size inb_S1024x4096_S1024x1024_0_2048),
      k0_pay15 x0 (View.ld xs0 (Rect.unit (s := S1024x4096) ![0, 2048] S1024x1024.size inb_S1024x4096_S1024x1024_0_2048)) (View.ld x1 (Rect.unit (s := S1024x4096) ![0, 2048] S1024x1024.size inb_S1024x4096_S1024x1024_0_2048))⟩,
    ⟨(Rect.unit (s := S1024x4096) ![0, 1024] S1024x1024.size inb_S1024x4096_S1024x1024_0_1024),
      k0_pay14 x0 (View.ld xs0 (Rect.unit (s := S1024x4096) ![0, 1024] S1024x1024.size inb_S1024x4096_S1024x1024_0_1024)) (View.ld x1 (Rect.unit (s := S1024x4096) ![0, 1024] S1024x1024.size inb_S1024x4096_S1024x1024_0_1024))⟩,
    ⟨(Rect.unit (s := S1024x4096) ![0, 0] S1024x1024.size inb_S1024x4096_S1024x1024_0_0),
      k0_pay13 x0 (View.ld xs0 (Rect.unit (s := S1024x4096) ![0, 0] S1024x1024.size inb_S1024x4096_S1024x1024_0_0)) (View.ld x1 (Rect.unit (s := S1024x4096) ![0, 0] S1024x1024.size inb_S1024x4096_S1024x1024_0_0))⟩]

/-- The pieces make up what is held with the product added. -/
theorem added (x0 : Vec Ideal S1024x1024 .bf16) (x1 : Vec Ideal S1024x4096 .bf16) (xs0 : Vec Ideal S1024x4096 .f32) (r : Fin 1024) (k : Fin 4096) :
    View.canon (Val := Elt Ideal) (pieces x0 x1 xs0) (ix2 r k) = more x0 x1 xs0 (ix2 r k) := by
  refine tile 3072 _ _ _ _ _ _ ?_ fun e3 => tile 2048 _ _ _ _ _ _ ?_ fun e2 => tile 1024 _ _ _ _ _ _ ?_ fun e1 => tile 0 _ _ _ _ _ _ ?_ fun e0 => absurd k.isLt (by omega)
  · intro k q n hn
    have hb : 3072 + q.val < 4096 := by omega
    obtain rfl : n = ⟨3072 + q.val, hb⟩ := Fin.ext hn
    pointwise [k0_pay1, k0_pay12, k0_pay13, k0_pay14, k0_pay15, k0_pay11, View.ld]
    unfold more
    rfl
  · intro k q n hn
    have hb : 2048 + q.val < 4096 := by omega
    obtain rfl : n = ⟨2048 + q.val, hb⟩ := Fin.ext hn
    pointwise [k0_pay1, k0_pay12, k0_pay13, k0_pay14, k0_pay15, k0_pay11, View.ld]
    unfold more
    rfl
  · intro k q n hn
    have hb : 1024 + q.val < 4096 := by omega
    obtain rfl : n = ⟨1024 + q.val, hb⟩ := Fin.ext hn
    pointwise [k0_pay1, k0_pay12, k0_pay13, k0_pay14, k0_pay15, k0_pay11, View.ld]
    unfold more
    rfl
  · intro k q n hn
    have hb : q.val < 4096 := by omega
    obtain rfl : n = ⟨q.val, hb⟩ := Fin.ext (hn.trans (Nat.zero_add _))
    pointwise [k0_pay1, k0_pay12, k0_pay13, k0_pay14, k0_pay15, k0_pay11, View.ld]
    unfold more
    rfl

/-- A point between the first and the last adds its product to what is held. -/
theorem held_B (c : Dev nD) (i : grid0.Coords) (arg1 : Memref sig .tc .vmem S1024x1024 .bf16) (harg1 : arg1.IsWhole) (arg2 : Memref sig .tc .vmem S1024x4096 .bf16) (harg2 : arg2.IsWhole) (arg3 : Memref sig .tc .vmem S8x1024x512 .bf16) (harg3 : arg3.IsWhole) (arg4 : Memref sig .tc .vmem S1024x4096 .f32) (harg4 : arg4.IsWhole) (hc0 : ¬cond0_0 i) (hc1 : ¬cond0_1 i)
    (x0 : Vec Ideal S1024x1024 .bf16) (x1 : Vec Ideal S1024x4096 .bf16) (xs0 : Vec Ideal S1024x4096 .f32) (r : Fin 1024) (k : Fin 4096) :
    sout0_B_0 c i arg1 harg1 arg2 harg2 arg3 harg3 arg4 harg4 hc0 hc1 x0 x1 xs0 (ix2 r k) = more x0 x1 xs0 (ix2 r k) := by
  frame_out
  exact added x0 x1 xs0 r k

/-- The first point starts from zero. -/
theorem held_A (c : Dev nD) (i : grid0.Coords) (arg1 : Memref sig .tc .vmem S1024x1024 .bf16) (harg1 : arg1.IsWhole) (arg2 : Memref sig .tc .vmem S1024x4096 .bf16) (harg2 : arg2.IsWhole) (arg3 : Memref sig .tc .vmem S8x1024x512 .bf16) (harg3 : arg3.IsWhole) (arg4 : Memref sig .tc .vmem S1024x4096 .f32) (harg4 : arg4.IsWhole) (hc0 : cond0_0 i) (hc1 : ¬cond0_1 i)
    (x0 : Vec Ideal S1024x1024 .bf16) (x1 : Vec Ideal S1024x4096 .bf16) (r : Fin 1024) (k : Fin 4096) :
    sout0_A_0 c i arg1 harg1 arg2 harg2 arg3 harg3 arg4 harg4 hc0 hc1 x0 x1 (ix2 r k) = more x0 x1 (fun _ => 0) (ix2 r k) := by
  frame_out
  simp (disch := decide) only [↓View.readCov_skip, ↓View.readCov_fill]
  refine tile 3072 _ _ _ _ _ _ ?_ fun e3 => tile 2048 _ _ _ _ _ _ ?_ fun e2 => tile 1024 _ _ _ _ _ _ ?_ fun e1 => tile 0 _ _ _ _ _ _ ?_ fun e0 => absurd k.isLt (by omega)
  · intro k q n hn
    have hb : 3072 + q.val < 4096 := by omega
    obtain rfl : n = ⟨3072 + q.val, hb⟩ := Fin.ext hn
    pointwise [k0_pay1, k0_pay12, k0_pay13, k0_pay14, k0_pay15, k0_pay11, View.ld]
    exact (zero_add _).symm
  · intro k q n hn
    have hb : 2048 + q.val < 4096 := by omega
    obtain rfl : n = ⟨2048 + q.val, hb⟩ := Fin.ext hn
    pointwise [k0_pay1, k0_pay12, k0_pay13, k0_pay14, k0_pay15, k0_pay11, View.ld]
    exact (zero_add _).symm
  · intro k q n hn
    have hb : 1024 + q.val < 4096 := by omega
    obtain rfl : n = ⟨1024 + q.val, hb⟩ := Fin.ext hn
    pointwise [k0_pay1, k0_pay12, k0_pay13, k0_pay14, k0_pay15, k0_pay11, View.ld]
    exact (zero_add _).symm
  · intro k q n hn
    have hb : q.val < 4096 := by omega
    obtain rfl : n = ⟨q.val, hb⟩ := Fin.ext (hn.trans (Nat.zero_add _))
    pointwise [k0_pay1, k0_pay12, k0_pay13, k0_pay14, k0_pay15, k0_pay11, View.ld]
    exact (zero_add _).symm

/-- What is held, cut into slabs of 512 columns. -/
def slabs (M : Vec Ideal S1024x4096 .f32) : Vec Ideal S8x1024x512 .bf16 :=
  fun y => M (ix2 (⟨(y 1).val, (y 1).isLt⟩ : Fin 1024) (⟨(y 0).val * 512 + (y 2).val, by
    have h0 : (y 0).val < 8 := (y 0).isLt
    have h2 : (y 2).val < 512 := (y 2).isLt
    omega⟩ : Fin 4096))

/-- Slab 0 as it is written: only its format and shape change. -/
theorem pay_0 (w : Vec Ideal S1024x512 .f32) (r : Fin 1024) (k : Fin 512) : k0_pay5 w (ix3 (0 : Fin 1) r k) = w (ix2 r k) := by
  pointwise [k0_pay5]

/-- Slab 1 as it is written: only its format and shape change. -/
theorem pay_1 (w : Vec Ideal S1024x512 .f32) (r : Fin 1024) (k : Fin 512) : k0_pay6 w (ix3 (0 : Fin 1) r k) = w (ix2 r k) := by
  pointwise [k0_pay6]

/-- Slab 2 as it is written: only its format and shape change. -/
theorem pay_2 (w : Vec Ideal S1024x512 .f32) (r : Fin 1024) (k : Fin 512) : k0_pay7 w (ix3 (0 : Fin 1) r k) = w (ix2 r k) := by
  pointwise [k0_pay7]

/-- Slab 3 as it is written: only its format and shape change. -/
theorem pay_3 (w : Vec Ideal S1024x512 .f32) (r : Fin 1024) (k : Fin 512) : k0_pay8 w (ix3 (0 : Fin 1) r k) = w (ix2 r k) := by
  pointwise [k0_pay8]

/-- Slab 4 as it is written: only its format and shape change. -/
theorem pay_4 (w : Vec Ideal S1024x512 .f32) (r : Fin 1024) (k : Fin 512) : k0_pay9 w (ix3 (0 : Fin 1) r k) = w (ix2 r k) := by
  pointwise [k0_pay9]

/-- Slab 5 as it is written: only its format and shape change. -/
theorem pay_5 (w : Vec Ideal S1024x512 .f32) (r : Fin 1024) (k : Fin 512) : k0_pay2 (k0_pay10 w) (ix3 (0 : Fin 1) r k) = w (ix2 r k) := by
  pointwise [k0_pay2, k0_pay10]

/-- Slab 6 as it is written: only its format and shape change. -/
theorem pay_6 (w : Vec Ideal S1024x512 .f32) (r : Fin 1024) (k : Fin 512) : k0_pay3 w (ix3 (0 : Fin 1) r k) = w (ix2 r k) := by
  pointwise [k0_pay3]

/-- Slab 7 as it is written: only its format and shape change. -/
theorem pay_7 (w : Vec Ideal S1024x512 .f32) (r : Fin 1024) (k : Fin 512) : k0_pay4 w (ix3 (0 : Fin 1) r k) = w (ix2 r k) := by
  pointwise [k0_pay4]

/-- The last point writes out what is held with its own product added. -/
theorem out_C (c : Dev nD) (i : grid0.Coords) (arg1 : Memref sig .tc .vmem S1024x1024 .bf16) (harg1 : arg1.IsWhole) (arg2 : Memref sig .tc .vmem S1024x4096 .bf16) (harg2 : arg2.IsWhole) (arg3 : Memref sig .tc .vmem S8x1024x512 .bf16) (harg3 : arg3.IsWhole) (arg4 : Memref sig .tc .vmem S1024x4096 .f32) (harg4 : arg4.IsWhole) (hc0 : ¬cond0_0 i) (hc1 : cond0_1 i)
    (x0 : Vec Ideal S1024x1024 .bf16) (x1 : Vec Ideal S1024x4096 .bf16) (xs0 : Vec Ideal S1024x4096 .f32) (l : Fin 8) (r : Fin 1024) (k : Fin 512) :
    out0_C_2 c i arg1 harg1 arg2 harg2 arg3 harg3 arg4 harg4 hc0 hc1 x0 x1 xs0 (ix3 l r k) = slabs (more x0 x1 xs0) (ix3 l r k) := by
  frame_out
  refine slab 7 (by decide) _ _ _ _ _ _ _ ?_ fun e7 => slab 6 (by decide) _ _ _ _ _ _ _ ?_ fun e6 => slab 5 (by decide) _ _ _ _ _ _ _ ?_ fun e5 => slab 4 (by decide) _ _ _ _ _ _ _ ?_ fun e4 => slab 3 (by decide) _ _ _ _ _ _ _ ?_ fun e3 => slab 2 (by decide) _ _ _ _ _ _ _ ?_ fun e2 => slab 1 (by decide) _ _ _ _ _ _ _ ?_ fun e1 => slab 0 (by decide) _ _ _ _ _ _ _ ?_ fun e0 => absurd l.isLt (by omega)
  · intro r k
    refine (pay_7 _ r k).trans ((back 3584 _ _ _ r k ⟨7 * 512 + k.val, by omega⟩ rfl).trans ?_)
    exact added x0 x1 xs0 r _
  · intro r k
    refine (pay_6 _ r k).trans ((back 3072 _ _ _ r k ⟨6 * 512 + k.val, by omega⟩ rfl).trans ?_)
    exact added x0 x1 xs0 r _
  · intro r k
    refine (pay_5 _ r k).trans ((back 2560 _ _ _ r k ⟨5 * 512 + k.val, by omega⟩ rfl).trans ?_)
    exact added x0 x1 xs0 r _
  · intro r k
    refine (pay_4 _ r k).trans ((back 2048 _ _ _ r k ⟨4 * 512 + k.val, by omega⟩ rfl).trans ?_)
    exact added x0 x1 xs0 r _
  · intro r k
    refine (pay_3 _ r k).trans ((back 1536 _ _ _ r k ⟨3 * 512 + k.val, by omega⟩ rfl).trans ?_)
    exact added x0 x1 xs0 r _
  · intro r k
    refine (pay_2 _ r k).trans ((back 1024 _ _ _ r k ⟨2 * 512 + k.val, by omega⟩ rfl).trans ?_)
    exact added x0 x1 xs0 r _
  · intro r k
    refine (pay_1 _ r k).trans ((back 512 _ _ _ r k ⟨1 * 512 + k.val, by omega⟩ rfl).trans ?_)
    exact added x0 x1 xs0 r _
  · intro r k
    refine (pay_0 _ r k).trans ((back 0 _ _ _ r k ⟨0 * 512 + k.val, by omega⟩ rfl).trans ?_)
    exact added x0 x1 xs0 r _
/-! ## The sweep over the rows -/

theorem idx : ∀ t : Fin cfg0.N, win0_0.index t = ![t.val, 0] ∧ win0_1.index t = ![t.val, 0] :=
  (by decide +kernel : ∀ t : Fin grid0.N, _)

/-- The product of two arrays' entries in one row; nothing past the last row. -/
def term (a : Vec Ideal S8192x1024 .bf16) (g : Vec Ideal S8192x4096 .bf16) (r : Fin 1024) (k : Fin 4096) (t : ℕ) : EReal :=
  if h : t < 8192 then a (ix2 (⟨t, h⟩ : Fin 8192) r) * g (ix2 (⟨t, h⟩ : Fin 8192) k) else 0

/-- The whole sum. -/
def total (a : Vec Ideal S8192x1024 .bf16) (g : Vec Ideal S8192x4096 .bf16) : Vec Ideal S1024x4096 .f32 :=
  fun j => ∑ t : Fin 8192, a (ix2 t (j 0)) * g (ix2 t (j 1))

theorem sum_all (a : Vec Ideal S8192x1024 .bf16) (g : Vec Ideal S8192x4096 .bf16) (r : Fin 1024) (k : Fin 4096) :
    ∑ t ∈ Finset.range 8192, term a g r k t = total a g (ix2 r k) := by
  rw [Finset.sum_range]
  refine Finset.sum_congr rfl fun t _ => ?_
  exact dif_pos t.isLt

variable (m : (ℓ : Loc nD τ sig) → Buf (Elt Ideal) ℓ) (c : Dev nD)

/-- The normalised rows as the kernel finds them. -/
abbrev act : Vec Ideal S8192x1024 .bf16 := V m c main_v13

/-- The projected rows' gradient as the kernel finds it. -/
abbrev dx : Vec Ideal S8192x4096 .bf16 := V m c main_arg2

/-- The normalised rows' block at a point. -/
abbrev xa (t : Fin cfg0.N) : Vec Ideal S1024x1024 .bf16 := iblk m c 0 t

/-- The block of the projected rows' gradient at a point. -/
abbrev xg (t : Fin cfg0.N) : Vec Ideal S1024x4096 .bf16 := iblk m c 1 t

/-- A block's row is the array's. -/
theorem blk_a (t : Fin cfg0.N) (r : Fin 1024) (k : Fin 1024) (n : Fin 8192) (hn : n.val = t.val * 1024 + r.val) :
    xa m c t (ix2 r k) = act m c (ix2 n k) := by
  have e := (idx t).1
  blk_simp [xa, xg, iblk, e]
  refine congrArg _ ?_
  blk_ext [e]

/-- The same of the projected rows' gradient. -/
theorem blk_g (t : Fin cfg0.N) (r : Fin 1024) (k : Fin 4096) (n : Fin 8192) (hn : n.val = t.val * 1024 + r.val) :
    xg m c t (ix2 r k) = dx m c (ix2 n k) := by
  have e := (idx t).2
  blk_simp [xa, xg, iblk, e]
  refine congrArg _ ?_
  blk_ext [e]

/-- A point's product is the sum over its own rows. -/
theorem more_at (t : Fin cfg0.N) (xs : Vec Ideal S1024x4096 .f32) (r : Fin 1024) (k : Fin 4096)
    (h : xs (ix2 r k) = ∑ j ∈ Finset.range (t.val * 1024), term (act m c) (dx m c) r k j) :
    more (xa m c t) (xg m c t) xs (ix2 r k) = ∑ j ∈ Finset.range (t.val * 1024 + 1024), term (act m c) (dx m c) r k j := by
  have ht : t.val < 8 := lt_of_lt_of_eq t.isLt N_0
  have e : ∀ q : Fin 1024, xa m c t (ix2 q r) * xg m c t (ix2 q k) = term (act m c) (dx m c) r k (t.val * 1024 + q.val) := fun q => by
    have hq : t.val * 1024 + q.val < 8192 := by omega
    unfold term
    rw [dif_pos hq, blk_a m c t q r ⟨_, hq⟩ rfl, blk_g m c t q k ⟨_, hq⟩ rfl]
  rw [Finset.sum_range_add, ← h, Finset.sum_range (n := 1024)]
  exact congrArg (xs (ix2 r k) + ·) (Finset.sum_congr rfl fun q _ => e q)

/-- The first point, as part of the sweep. -/
theorem step_A (t : Fin cfg0.N) (h0 : t.val % 8 = 0) (h1 : ¬t.val % 8 = 7) (r : Fin 1024) (k : Fin 4096) :
    (outsAt0 m c t.val t.isLt).2 (ix2 r k) = more (xa m c t) (xg m c t) (fun _ => 0) (ix2 r k) := by
  have e : (outsAt0 m c t.val t.isLt).2 = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xa m c t) (xg m c t) := by
    rw [outsAt0_A m c t h0 h1]
  rw [e]
  exact held_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xa m c t) (xg m c t) r k

/-- What is held before a point. -/
def before (t : Fin cfg0.N) : Vec Ideal S1024x4096 .f32 := (outsAt0 m c (t.val - 1) (Nat.lt_of_le_of_lt (Nat.sub_le _ _) t.isLt)).2

/-- A point between, as part of the sweep. -/
theorem step_B (t : Fin cfg0.N) (h0 : ¬t.val % 8 = 0) (h1 : ¬t.val % 8 = 7) (r : Fin 1024) (k : Fin 4096) :
    (outsAt0 m c t.val t.isLt).2 (ix2 r k) = more (xa m c t) (xg m c t) (before m c t) (ix2 r k) := by
  have e : (outsAt0 m c t.val t.isLt).2 = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xa m c t) (xg m c t) (before m c t) := by
    unfold before
    rw [outsAt0_B m c t h0 h1]
  rw [e]
  exact held_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xa m c t) (xg m c t) (before m c t) r k

/-- The last point, as part of the sweep. -/
theorem step_C (t : Fin cfg0.N) (h0 : ¬t.val % 8 = 0) (h1 : t.val % 8 = 7) (l : Fin 8) (r : Fin 1024) (k : Fin 512) :
    (outsAt0 m c t.val t.isLt).1 (ix3 l r k) = slabs (more (xa m c t) (xg m c t) (before m c t)) (ix3 l r k) := by
  have e : (outsAt0 m c t.val t.isLt).1 = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xa m c t) (xg m c t) (before m c t) := by
    unfold before
    rw [outsAt0_C m c t h0 h1]
  rw [e]
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xa m c t) (xg m c t) (before m c t) l r k

/-- What is held after each point but the last. -/
theorem held (r : Fin 1024) (k : Fin 4096) : ∀ (n : ℕ) (hn : n < cfg0.N), n < 7 →
    (outsAt0 m c n hn).2 (ix2 r k) = ∑ j ∈ Finset.range (n * 1024 + 1024), term (act m c) (dx m c) r k j
  | 0, hn, _ =>
    (step_A m c ⟨0, hn⟩ (show 0 % 8 = 0 from rfl) (show ¬0 % 8 = 7 by decide) r k).trans
      (more_at m c ⟨0, hn⟩ _ r k (Finset.sum_range_zero _).symm)
  | n + 1, hn, h7 => by
    have hp := held r k n (Nat.lt_of_succ_lt hn) (by omega)
    refine (step_B m c ⟨n + 1, hn⟩ (show ¬(n + 1) % 8 = 0 by omega) (show ¬(n + 1) % 8 = 7 by omega) r k).trans
      (more_at m c ⟨n + 1, hn⟩ _ r k ?_)
    have e : (⟨n + 1, hn⟩ : Fin cfg0.N).val * 1024 = n * 1024 + 1024 := by show (n + 1) * 1024 = _; omega
    rw [e]
    exact hp

/-- The sum that the last point writes out. -/
theorem last_sum (t : Fin cfg0.N) (ht : t.val = 7) (r : Fin 1024) (k : Fin 4096) :
    more (xa m c t) (xg m c t) (before m c t) (ix2 r k) = total (act m c) (dx m c) (ix2 r k) := by
  have hp : before m c t (ix2 r k) = ∑ j ∈ Finset.range (t.val * 1024), term (act m c) (dx m c) r k j := by
    have hm := held m c r k (t.val - 1) (Nat.lt_of_le_of_lt (Nat.sub_le _ _) t.isLt) (by omega)
    have e : (t.val - 1) * 1024 + 1024 = t.val * 1024 := by omega
    rw [e] at hm
    exact hm
  have hq := more_at m c t (before m c t) r k hp
  have e : t.val * 1024 + 1024 = 8192 := by omega
  rw [e, sum_all] at hq
  exact hq

/-- What the last point writes out. -/
theorem last (t : Fin cfg0.N) (ht : t.val = 7) (l : Fin 8) (r : Fin 1024) (k : Fin 512) :
    (outsAt0 m c t.val t.isLt).1 (ix3 l r k) = slabs (total (act m c) (dx m c)) (ix3 l r k) :=
  (step_C m c t (by omega) (by omega) l r k).trans (last_sum m c t ht _ _)

/-- The result's array after the run. -/
theorem final : (dats m 0 c).arrAt 2 cfg0.N = slabs (total (act m c) (dx m c)) := by
  have h7 : 7 < cfg0.N := lt_of_lt_of_eq (by decide) N_0.symm
  have e : (outsAt0 m c 7 h7).1 = slabs (total (act m c) (dx m c)) := by
    funext j
    have hj : j = ix3 (⟨(j 0).val, (j 0).isLt⟩ : Fin 8) (⟨(j 1).val, (j 1).isLt⟩ : Fin 1024) (⟨(j 2).val, (j 2).isLt⟩ : Fin 512) := by
      funext a; match a with | ⟨0, _⟩ => rfl | ⟨1, _⟩ => rfl | ⟨2, _⟩ => rfl
    rw [hj]
    exact last m c ⟨7, h7⟩ rfl _ _ _
  rw [Cert.Kernel4Ideal.Value.final2, Cert.Kernel4Ideal.Value.G2_last, ← Cert.Kernel4Ideal.Value.outsAt0_sweep m c 7 h7]
  exact e

/-- The normalised rows, before their format changes. -/
def rms (x : FVec Ideal S8192x1024 .f32) (g : FVec Ideal S1024 .f32) : FVec Ideal S8192x1024 .f32 :=
  (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)) : FVec Ideal S8192x1024 .f32)

/-- The kernel's first operand is the normalised rows. -/
theorem act_eq : act m c = (truncf .bf16 (rms (m ((c.tc : Thread nD τ).loc main_arg0)) (m ((c.tc : Thread nD τ).loc main_arg1))) bitsLt_bf16_f32 : FVec Ideal S8192x1024 .bf16) := by
  unfold act V rms
  after_results_simp

end Cert.DwUp

namespace Cert.DwUpRef

open Idealize.ShloMosaic Idealize.ShloMosaic.StableHlo Idealize.SL.Sem Cert.Reference4Ideal Cert.Reference4Ideal.Gen

/-- The reference's product, over any rows. -/
theorem ref_slabs (x : FVec Ideal S8192x1024 .f32) (d : FVec Ideal S8192x4096 .bf16) :
    (truncf .bf16 (transpose S8x1024x512 [1, 0, 2] (shapeCast _ (transpose S1024x4096 [1, 0] (Host.dotGeneral dot_S8192x4096_S8192x1024_S4096x1024_0_0_1_1_n_n none (extf .f32 d bitsLt_bf16_f32) x) transposes_S4096x1024_S1024x4096_1_0) shapeCasts_S1024x4096_S1024x8x512) transposes_S1024x8x512_S8x1024x512_1_0_2) bitsLt_bf16_f32 : FVec Ideal S8x1024x512 .bf16)
      = Cert.DwUp.slabs (Cert.DwUp.total (truncf .bf16 x bitsLt_bf16_f32) d) := by
  funext j
  have hj : j = ix3 (⟨(j 0).val, (j 0).isLt⟩ : Fin 8) (⟨(j 1).val, (j 1).isLt⟩ : Fin 1024) (⟨(j 2).val, (j 2).isLt⟩ : Fin 512) := by
    funext a; match a with | ⟨0, _⟩ => rfl | ⟨1, _⟩ => rfl | ⟨2, _⟩ => rfl
  rw [hj]
  unfold Cert.DwUp.slabs Cert.DwUp.total
  refine Eq.trans ?_ (Finset.sum_congr rfl fun t _ => mul_comm _ _)
  pointwise []

/-- The reference's result. -/
theorem ref_total (x : FVec Ideal S8192x1024 .f32) (g : FVec Ideal S1024 .f32) (d : FVec Ideal S8192x4096 .bf16) :
    (truncf .bf16 (transpose S8x1024x512 [1, 0, 2] (shapeCast _ (transpose S1024x4096 [1, 0] (Host.dotGeneral dot_S8192x4096_S8192x1024_S4096x1024_0_0_1_1_n_n none (extf .f32 d bitsLt_bf16_f32) (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)) : FVec Ideal S8192x1024 .f32)) transposes_S4096x1024_S1024x4096_1_0) shapeCasts_S1024x4096_S1024x8x512) transposes_S1024x8x512_S8x1024x512_1_0_2) bitsLt_bf16_f32 : FVec Ideal S8x1024x512 .bf16)
      = Cert.DwUp.slabs (Cert.DwUp.total (truncf .bf16 (Cert.DwUp.rms x g) bitsLt_bf16_f32) d) :=
  ref_slabs _ d

end Cert.DwUpRef

namespace Cert.DwUp

open Idealize.ShloMosaic Idealize.SL.Sem Cert.Kernel4Ideal Cert.Kernel4Ideal.Gen

/-- Both programs end with the sum over all rows, in slabs. -/
theorem algebraic : Cert.algebraic_Kernel4Ideal_Reference4Ideal := fun m ρ m' ρ' _ hargs =>
  ⟨fun c => slabs (total (act m c) (dx m c)),
    (θ_run Cert.Kernel4Ideal.defs _ _).mono (fun r h c => ⟨(h c).1.trans (final m c), (h c).2⟩) (Cert.Kernel4Ideal.Value.run_blocks (F := Ideal) m ρ),
    (θ_run Cert.Reference4Ideal.defs _ _).mono (fun r h c => by
      obtain ⟨h0, h1, h2⟩ := hargs c
      refine ⟨(h c).1.trans ?_, (h c).2⟩
      rw [h0, h1, h2]
      exact (Cert.DwUpRef.ref_total _ _ _).trans (congrArg slabs (congr (congrArg total (act_eq m c).symm) (V_main_arg2 m c).symm))) (Cert.Reference4Ideal.Value.run (F := Ideal) m' ρ')⟩

end Cert.DwUp

end
-- ==== Proof.DwDown.lean ====
/- The down projection's weights' gradient: the kernel `mm_dw_down`, which adds up the products of 1024 rows at a time,
   against the one product over all rows. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwDown

open Idealize.ShloMosaic Idealize.ShloMosaic.StableHlo Idealize.SL.Sem Cert.Kernel5Ideal Cert.Kernel5Ideal.Gen

/-- A piece of 1024 rows, a part of one array, over other pieces that make up the array outside of it. -/
theorem tile (o : ℕ) (p : Vec Ideal S1024x1024 .f32) (L : List (View.Piece (Elt Ideal) S4096x1024 .f32)) (G : Vec Ideal S4096x1024 .f32)
    (i : ∀ a, (![o, 0] : Fin 2 → ℕ) a + S1024x1024.size a ≤ S4096x1024.size a) (r : Fin 4096) (k : Fin 1024)
    (hp : ∀ (q k : Fin 1024) (n : Fin 4096), n.val = o + q.val → p (ix2 q k) = G (ix2 n k))
    (hL : (r.val < o ∨ o + 1024 ≤ r.val) → View.canon (Val := Elt Ideal) L (ix2 r k) = G (ix2 r k)) :
    View.canon (Val := Elt Ideal) (⟨Rect.unit (s := S4096x1024) ![o, 0] S1024x1024.size i, p⟩ :: L) (ix2 r k) = G (ix2 r k) := by
  by_cases h : o ≤ r.val ∧ r.val < o + 1024
  · have hq : r.val - o < 1024 := by omega
    have e : (ix2 r k : S4096x1024.Idx) = (Rect.unit (s := S4096x1024) ![o, 0] S1024x1024.size i).emb (ix2 (⟨r.val - o, hq⟩ : Fin 1024) k) := by
      funext a
      apply Fin.ext
      match a with
      | ⟨0, _⟩ => show r.val = o + 1 * (r.val - o); omega
      | ⟨1, _⟩ => show k.val = 0 + 1 * k.val; omega
    refine (congrArg _ e).trans ((View.canon_cons_emb _ _ _ _).trans (hp _ k r ?_))
    show r.val = o + (r.val - o)
    omega
  · have e : r.val < o ∨ o + 1024 ≤ r.val := by omega
    refine (View.canon_cons_of_not_mem _ _ ?_).trans (hL e)
    intro hm
    rw [Rect.mem_set_unit] at hm
    have a : o ≤ r.val := (hm 0).1
    have b : r.val < o + 1024 := (hm 0).2
    omega

/-- What the last point reads back whole and writes out. -/
theorem whole (v : View sig .tc .vmem S4096x1024 .f32) (L : List (View.Piece (Elt Ideal) S4096x1024 .f32)) (r : Fin 4096) (k : Fin 1024) :
    k0_pay3 (v.readCov L (Rect.unit (s := S4096x1024) ![0, 0] S4096x1024.size inb_S4096x1024_S4096x1024_0_0).toLoadRect) (ix2 r k) = View.canon (Val := Elt Ideal) L (ix2 r k) := by
  rw [View.readCov_eq_canon']
  have e : (Rect.unit (s := S4096x1024) ![0, 0] S4096x1024.size inb_S4096x1024_S4096x1024_0_0).toLoadRect.idx (ix2 r k) = ix2 r k := by
    funext a
    apply Fin.ext
    match a with
    | ⟨0, _⟩ => show 0 + 1 * r.val = r.val; omega
    | ⟨1, _⟩ => show 0 + 1 * k.val = k.val; omega
  exact congrArg (View.canon (Val := Elt Ideal) L) e

/-- What is held with a block's product added. -/
def more (x0 : Vec Ideal S1024x4096 .bf16) (x1 : Vec Ideal S1024x1024 .f32) (xs0 : Vec Ideal S4096x1024 .f32) : Vec Ideal S4096x1024 .f32 :=
  fun y => xs0 y + ∑ q : Fin 1024, x0 (ix2 q (y 0)) * x1 (ix2 q (y 1))

/-- A point between the first and the last adds its product to what is held. -/
theorem held_B (c : Dev nD) (i : grid0.Coords) (arg1 : Memref sig .tc .vmem S1024x4096 .bf16) (harg1 : arg1.IsWhole) (arg2 : Memref sig .tc .vmem S1024x1024 .f32) (harg2 : arg2.IsWhole) (arg3 : Memref sig .tc .vmem S4096x1024 .bf16) (harg3 : arg3.IsWhole) (arg4 : Memref sig .tc .vmem S4096x1024 .f32) (harg4 : arg4.IsWhole) (hc0 : ¬cond0_0 i) (hc1 : ¬cond0_1 i)
    (x0 : Vec Ideal S1024x4096 .bf16) (x1 : Vec Ideal S1024x1024 .f32) (xs0 : Vec Ideal S4096x1024 .f32) (r : Fin 4096) (k : Fin 1024) :
    sout0_B_0 c i arg1 harg1 arg2 harg2 arg3 harg3 arg4 harg4 hc0 hc1 x0 x1 xs0 (ix2 r k) = more x0 x1 xs0 (ix2 r k) := by
  frame_out
  refine tile 3072 _ _ _ _ _ _ ?_ fun e3 => tile 2048 _ _ _ _ _ _ ?_ fun e2 => tile 1024 _ _ _ _ _ _ ?_ fun e1 => tile 0 _ _ _ _ _ _ ?_ fun e0 => absurd r.isLt (by omega)
  · intro q k n hn
    have hb : 3072 + q.val < 4096 := by omega
    obtain rfl : n = ⟨3072 + q.val, hb⟩ := Fin.ext hn
    pointwise [k0_pay4, k0_pay2, k0_pay1, k0_pay7, k0_pay6, k0_pay5, View.ld]
    unfold more
    rfl
  · intro q k n hn
    have hb : 2048 + q.val < 4096 := by omega
    obtain rfl : n = ⟨2048 + q.val, hb⟩ := Fin.ext hn
    pointwise [k0_pay4, k0_pay2, k0_pay1, k0_pay7, k0_pay6, k0_pay5, View.ld]
    unfold more
    rfl
  · intro q k n hn
    have hb : 1024 + q.val < 4096 := by omega
    obtain rfl : n = ⟨1024 + q.val, hb⟩ := Fin.ext hn
    pointwise [k0_pay4, k0_pay2, k0_pay1, k0_pay7, k0_pay6, k0_pay5, View.ld]
    unfold more
    rfl
  · intro q k n hn
    have hb : q.val < 4096 := by omega
    obtain rfl : n = ⟨q.val, hb⟩ := Fin.ext (hn.trans (Nat.zero_add _))
    pointwise [k0_pay4, k0_pay2, k0_pay1, k0_pay7, k0_pay6, k0_pay5, View.ld]
    unfold more
    rfl

/-- The first point starts from zero. -/
theorem held_A (c : Dev nD) (i : grid0.Coords) (arg1 : Memref sig .tc .vmem S1024x4096 .bf16) (harg1 : arg1.IsWhole) (arg2 : Memref sig .tc .vmem S1024x1024 .f32) (harg2 : arg2.IsWhole) (arg3 : Memref sig .tc .vmem S4096x1024 .bf16) (harg3 : arg3.IsWhole) (arg4 : Memref sig .tc .vmem S4096x1024 .f32) (harg4 : arg4.IsWhole) (hc0 : cond0_0 i) (hc1 : ¬cond0_1 i)
    (x0 : Vec Ideal S1024x4096 .bf16) (x1 : Vec Ideal S1024x1024 .f32) (r : Fin 4096) (k : Fin 1024) :
    sout0_A_0 c i arg1 harg1 arg2 harg2 arg3 harg3 arg4 harg4 hc0 hc1 x0 x1 (ix2 r k) = more x0 x1 (fun _ => 0) (ix2 r k) := by
  frame_out
  simp (disch := decide) only [↓View.readCov_skip, ↓View.readCov_fill]
  refine tile 3072 _ _ _ _ _ _ ?_ fun e3 => tile 2048 _ _ _ _ _ _ ?_ fun e2 => tile 1024 _ _ _ _ _ _ ?_ fun e1 => tile 0 _ _ _ _ _ _ ?_ fun e0 => absurd r.isLt (by omega)
  · intro q k n hn
    have hb : 3072 + q.val < 4096 := by omega
    obtain rfl : n = ⟨3072 + q.val, hb⟩ := Fin.ext hn
    pointwise [k0_pay4, k0_pay2, k0_pay1, k0_pay7, k0_pay6, k0_pay5, View.ld]
    exact (zero_add _).symm
  · intro q k n hn
    have hb : 2048 + q.val < 4096 := by omega
    obtain rfl : n = ⟨2048 + q.val, hb⟩ := Fin.ext hn
    pointwise [k0_pay4, k0_pay2, k0_pay1, k0_pay7, k0_pay6, k0_pay5, View.ld]
    exact (zero_add _).symm
  · intro q k n hn
    have hb : 1024 + q.val < 4096 := by omega
    obtain rfl : n = ⟨1024 + q.val, hb⟩ := Fin.ext hn
    pointwise [k0_pay4, k0_pay2, k0_pay1, k0_pay7, k0_pay6, k0_pay5, View.ld]
    exact (zero_add _).symm
  · intro q k n hn
    have hb : q.val < 4096 := by omega
    obtain rfl : n = ⟨q.val, hb⟩ := Fin.ext (hn.trans (Nat.zero_add _))
    pointwise [k0_pay4, k0_pay2, k0_pay1, k0_pay7, k0_pay6, k0_pay5, View.ld]
    exact (zero_add _).symm

/-- The last point writes out what is held with its own product added. -/
theorem out_C (c : Dev nD) (i : grid0.Coords) (arg1 : Memref sig .tc .vmem S1024x4096 .bf16) (harg1 : arg1.IsWhole) (arg2 : Memref sig .tc .vmem S1024x1024 .f32) (harg2 : arg2.IsWhole) (arg3 : Memref sig .tc .vmem S4096x1024 .bf16) (harg3 : arg3.IsWhole) (arg4 : Memref sig .tc .vmem S4096x1024 .f32) (harg4 : arg4.IsWhole) (hc0 : ¬cond0_0 i) (hc1 : cond0_1 i)
    (x0 : Vec Ideal S1024x4096 .bf16) (x1 : Vec Ideal S1024x1024 .f32) (xs0 : Vec Ideal S4096x1024 .f32) (r : Fin 4096) (k : Fin 1024) :
    out0_C_2 c i arg1 harg1 arg2 harg2 arg3 harg3 arg4 harg4 hc0 hc1 x0 x1 xs0 (ix2 r k) = more x0 x1 xs0 (ix2 r k) := by
  frame_out
  refine (whole _ _ _ _).trans ?_
  refine tile 3072 _ _ _ _ _ _ ?_ fun e3 => tile 2048 _ _ _ _ _ _ ?_ fun e2 => tile 1024 _ _ _ _ _ _ ?_ fun e1 => tile 0 _ _ _ _ _ _ ?_ fun e0 => absurd r.isLt (by omega)
  · intro q k n hn
    have hb : 3072 + q.val < 4096 := by omega
    obtain rfl : n = ⟨3072 + q.val, hb⟩ := Fin.ext hn
    pointwise [k0_pay4, k0_pay2, k0_pay1, k0_pay7, k0_pay6, k0_pay5, View.ld]
    unfold more
    rfl
  · intro q k n hn
    have hb : 2048 + q.val < 4096 := by omega
    obtain rfl : n = ⟨2048 + q.val, hb⟩ := Fin.ext hn
    pointwise [k0_pay4, k0_pay2, k0_pay1, k0_pay7, k0_pay6, k0_pay5, View.ld]
    unfold more
    rfl
  · intro q k n hn
    have hb : 1024 + q.val < 4096 := by omega
    obtain rfl : n = ⟨1024 + q.val, hb⟩ := Fin.ext hn
    pointwise [k0_pay4, k0_pay2, k0_pay1, k0_pay7, k0_pay6, k0_pay5, View.ld]
    unfold more
    rfl
  · intro q k n hn
    have hb : q.val < 4096 := by omega
    obtain rfl : n = ⟨q.val, hb⟩ := Fin.ext (hn.trans (Nat.zero_add _))
    pointwise [k0_pay4, k0_pay2, k0_pay1, k0_pay7, k0_pay6, k0_pay5, View.ld]
    unfold more
    rfl

/-! ## The sweep over the rows -/

theorem idx : ∀ t : Fin cfg0.N, win0_0.index t = ![t.val, 0] ∧ win0_1.index t = ![t.val, 0] :=
  (by decide +kernel : ∀ t : Fin grid0.N, _)

/-- The product of two arrays' entries in one row; nothing past the last row. -/
def term (a : Vec Ideal S8192x4096 .bf16) (g : Vec Ideal S8192x1024 .f32) (r : Fin 4096) (k : Fin 1024) (t : ℕ) : EReal :=
  if h : t < 8192 then a (ix2 (⟨t, h⟩ : Fin 8192) r) * g (ix2 (⟨t, h⟩ : Fin 8192) k) else 0

/-- The whole sum. -/
def total (a : Vec Ideal S8192x4096 .bf16) (g : Vec Ideal S8192x1024 .f32) : Vec Ideal S4096x1024 .bf16 :=
  fun j => ∑ t : Fin 8192, a (ix2 t (j 0)) * g (ix2 t (j 1))

theorem sum_all (a : Vec Ideal S8192x4096 .bf16) (g : Vec Ideal S8192x1024 .f32) (r : Fin 4096) (k : Fin 1024) :
    ∑ t ∈ Finset.range 8192, term a g r k t = total a g (ix2 r k) := by
  rw [Finset.sum_range]
  refine Finset.sum_congr rfl fun t _ => ?_
  exact dif_pos t.isLt

variable (m : (ℓ : Loc nD τ sig) → Buf (Elt Ideal) ℓ) (c : Dev nD)

/-- The activation as the kernel finds it. -/
abbrev act : Vec Ideal S8192x4096 .bf16 := V m c main_v3

/-- The output's gradient as the kernel finds it. -/
abbrev dx : Vec Ideal S8192x1024 .f32 := V m c main_arg1

/-- The activation's block at a point. -/
abbrev xa (t : Fin cfg0.N) : Vec Ideal S1024x4096 .bf16 := iblk m c 0 t

/-- The block of the output's gradient at a point. -/
abbrev xg (t : Fin cfg0.N) : Vec Ideal S1024x1024 .f32 := iblk m c 1 t

/-- A block's row is the array's. -/
theorem blk_a (t : Fin cfg0.N) (r : Fin 1024) (k : Fin 4096) (n : Fin 8192) (hn : n.val = t.val * 1024 + r.val) :
    xa m c t (ix2 r k) = act m c (ix2 n k) := by
  have e := (idx t).1
  blk_simp [xa, xg, iblk, e]
  refine congrArg _ ?_
  blk_ext [e]

/-- The same of the output's gradient. -/
theorem blk_g (t : Fin cfg0.N) (r : Fin 1024) (k : Fin 1024) (n : Fin 8192) (hn : n.val = t.val * 1024 + r.val) :
    xg m c t (ix2 r k) = dx m c (ix2 n k) := by
  have e := (idx t).2
  blk_simp [xa, xg, iblk, e]
  refine congrArg _ ?_
  blk_ext [e]

/-- A point's product is the sum over its own rows. -/
theorem more_at (t : Fin cfg0.N) (xs : Vec Ideal S4096x1024 .f32) (r : Fin 4096) (k : Fin 1024)
    (h : xs (ix2 r k) = ∑ j ∈ Finset.range (t.val * 1024), term (act m c) (dx m c) r k j) :
    more (xa m c t) (xg m c t) xs (ix2 r k) = ∑ j ∈ Finset.range (t.val * 1024 + 1024), term (act m c) (dx m c) r k j := by
  have ht : t.val < 8 := lt_of_lt_of_eq t.isLt N_0
  have e : ∀ q : Fin 1024, xa m c t (ix2 q r) * xg m c t (ix2 q k) = term (act m c) (dx m c) r k (t.val * 1024 + q.val) := fun q => by
    have hq : t.val * 1024 + q.val < 8192 := by omega
    unfold term
    rw [dif_pos hq, blk_a m c t q r ⟨_, hq⟩ rfl, blk_g m c t q k ⟨_, hq⟩ rfl]
  rw [Finset.sum_range_add, ← h, Finset.sum_range (n := 1024)]
  exact congrArg (xs (ix2 r k) + ·) (Finset.sum_congr rfl fun q _ => e q)

/-- The first point, as part of the sweep. -/
theorem step_A (t : Fin cfg0.N) (h0 : t.val % 8 = 0) (h1 : ¬t.val % 8 = 7) (r : Fin 4096) (k : Fin 1024) :
    (outsAt0 m c t.val t.isLt).2 (ix2 r k) = more (xa m c t) (xg m c t) (fun _ => 0) (ix2 r k) := by
  have e : (outsAt0 m c t.val t.isLt).2 = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xa m c t) (xg m c t) := by
    rw [outsAt0_A m c t h0 h1]
  rw [e]
  exact held_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xa m c t) (xg m c t) r k

/-- What is held before a point. -/
def before (t : Fin cfg0.N) : Vec Ideal S4096x1024 .f32 := (outsAt0 m c (t.val - 1) (Nat.lt_of_le_of_lt (Nat.sub_le _ _) t.isLt)).2

/-- A point between, as part of the sweep. -/
theorem step_B (t : Fin cfg0.N) (h0 : ¬t.val % 8 = 0) (h1 : ¬t.val % 8 = 7) (r : Fin 4096) (k : Fin 1024) :
    (outsAt0 m c t.val t.isLt).2 (ix2 r k) = more (xa m c t) (xg m c t) (before m c t) (ix2 r k) := by
  have e : (outsAt0 m c t.val t.isLt).2 = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xa m c t) (xg m c t) (before m c t) := by
    unfold before
    rw [outsAt0_B m c t h0 h1]
  rw [e]
  exact held_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xa m c t) (xg m c t) (before m c t) r k

/-- The last point, as part of the sweep. -/
theorem step_C (t : Fin cfg0.N) (h0 : ¬t.val % 8 = 0) (h1 : t.val % 8 = 7) (r : Fin 4096) (k : Fin 1024) :
    (outsAt0 m c t.val t.isLt).1 (ix2 r k) = more (xa m c t) (xg m c t) (before m c t) (ix2 r k) := by
  have e : (outsAt0 m c t.val t.isLt).1 = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xa m c t) (xg m c t) (before m c t) := by
    unfold before
    rw [outsAt0_C m c t h0 h1]
  rw [e]
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xa m c t) (xg m c t) (before m c t) r k

/-- What is held after each point but the last. -/
theorem held (r : Fin 4096) (k : Fin 1024) : ∀ (n : ℕ) (hn : n < cfg0.N), n < 7 →
    (outsAt0 m c n hn).2 (ix2 r k) = ∑ j ∈ Finset.range (n * 1024 + 1024), term (act m c) (dx m c) r k j
  | 0, hn, _ =>
    (step_A m c ⟨0, hn⟩ (show 0 % 8 = 0 from rfl) (show ¬0 % 8 = 7 by decide) r k).trans
      (more_at m c ⟨0, hn⟩ _ r k (Finset.sum_range_zero _).symm)
  | n + 1, hn, h7 => by
    have hp := held r k n (Nat.lt_of_succ_lt hn) (by omega)
    refine (step_B m c ⟨n + 1, hn⟩ (show ¬(n + 1) % 8 = 0 by omega) (show ¬(n + 1) % 8 = 7 by omega) r k).trans
      (more_at m c ⟨n + 1, hn⟩ _ r k ?_)
    have e : (⟨n + 1, hn⟩ : Fin cfg0.N).val * 1024 = n * 1024 + 1024 := by show (n + 1) * 1024 = _; omega
    rw [e]
    exact hp

/-- What the last point writes out. -/
theorem last (t : Fin cfg0.N) (ht : t.val = 7) (r : Fin 4096) (k : Fin 1024) :
    (outsAt0 m c t.val t.isLt).1 (ix2 r k) = total (act m c) (dx m c) (ix2 r k) := by
  have hp : before m c t (ix2 r k) = ∑ j ∈ Finset.range (t.val * 1024), term (act m c) (dx m c) r k j := by
    have hm := held m c r k (t.val - 1) (Nat.lt_of_le_of_lt (Nat.sub_le _ _) t.isLt) (by omega)
    have e : (t.val - 1) * 1024 + 1024 = t.val * 1024 := by omega
    rw [e] at hm
    exact hm
  have hq := more_at m c t (before m c t) r k hp
  have e : t.val * 1024 + 1024 = 8192 := by omega
  rw [e, sum_all] at hq
  exact (step_C m c t (by omega) (by omega) r k).trans hq

/-- The result's array after the run. -/
theorem final : (dats m 0 c).arrAt 2 cfg0.N = total (act m c) (dx m c) := by
  have h7 : 7 < cfg0.N := lt_of_lt_of_eq (by decide) N_0.symm
  have e : (outsAt0 m c 7 h7).1 = total (act m c) (dx m c) := by
    funext j
    have hj : j = ix2 (⟨(j 0).val, (j 0).isLt⟩ : Fin 4096) (⟨(j 1).val, (j 1).isLt⟩ : Fin 1024) := by
      funext a; match a with | ⟨0, _⟩ => rfl | ⟨1, _⟩ => rfl
    rw [hj]
    exact last m c ⟨7, h7⟩ rfl _ _
  rw [Cert.Kernel5Ideal.Value.final2, Cert.Kernel5Ideal.Value.G2_last, ← Cert.Kernel5Ideal.Value.outsAt0_sweep m c 7 h7]
  exact e

/-- The squared rectifier. -/
def sq (u : Vec Ideal S8192x4096 .bf16) : Vec Ideal S8192x4096 .bf16 := fun i => max (u i) 0 * max (u i) 0

/-- The activation is the squared rectifier of its input. -/
theorem act_eq : act m c = sq (m ((c.tc : Thread nD τ).loc main_arg0)) := by
  have e : act m c = (truncf .bf16 (mulf (maximumf (extf .f32 (m ((c.tc : Thread nD τ).loc main_arg0) : FVec Ideal S8192x4096 .bf16) bitsLt_bf16_f32) (broadcastInDim S8192x4096 ![] bcast_S_S8192x4096 (constant S_ .f32 0x00000000#32)))
      (maximumf (extf .f32 (m ((c.tc : Thread nD τ).loc main_arg0) : FVec Ideal S8192x4096 .bf16) bitsLt_bf16_f32) (broadcastInDim S8192x4096 ![] bcast_S_S8192x4096 (constant S_ .f32 0x00000000#32)))) bitsLt_bf16_f32 : FVec Ideal S8192x4096 .bf16) := by
    unfold act V
    after_results_simp
    rfl
  rw [e]
  funext i
  unfold sq
  pointwise []

end Cert.DwDown

namespace Cert.DwDownRef

open Idealize.ShloMosaic Idealize.ShloMosaic.StableHlo Idealize.SL.Sem Cert.Reference5Ideal Cert.Reference5Ideal.Gen

/-- The reference's result. -/
theorem ref_total (up : FVec Ideal S8192x4096 .bf16) (g : FVec Ideal S8192x1024 .f32) :
    (truncf .bf16 (transpose S4096x1024 [1, 0] (Host.dotGeneral dot_S8192x1024_S8192x4096_S1024x4096_0_0_1_1_n_n none g (mulf (maximumf (extf .f32 up bitsLt_bf16_f32) (broadcastInDim S8192x4096 ![] bcast_S_S8192x4096 (constant S_ .f32 0x00000000#32))) (maximumf (extf .f32 up bitsLt_bf16_f32) (broadcastInDim S8192x4096 ![] bcast_S_S8192x4096 (constant S_ .f32 0x00000000#32))))) transposes_S1024x4096_S4096x1024_1_0) bitsLt_bf16_f32 : FVec Ideal S4096x1024 .bf16)
      = Cert.DwDown.total (Cert.DwDown.sq up) g := by
  funext j
  have hj : j = ix2 (⟨(j 0).val, (j 0).isLt⟩ : Fin 4096) (⟨(j 1).val, (j 1).isLt⟩ : Fin 1024) := by
    funext a; match a with | ⟨0, _⟩ => rfl | ⟨1, _⟩ => rfl
  rw [hj]
  unfold Cert.DwDown.total Cert.DwDown.sq
  refine Eq.trans ?_ (Finset.sum_congr rfl fun t _ => mul_comm _ _)
  pointwise []

end Cert.DwDownRef

namespace Cert.DwDown

open Idealize.ShloMosaic Idealize.SL.Sem Cert.Kernel5Ideal Cert.Kernel5Ideal.Gen

/-- Both programs end with the sum over all rows. -/
theorem algebraic : Cert.algebraic_Kernel5Ideal_Reference5Ideal := fun m ρ m' ρ' _ hargs =>
  ⟨fun c => total (act m c) (dx m c),
    (θ_run Cert.Kernel5Ideal.defs _ _).mono (fun r h c => ⟨(h c).1.trans (final m c), (h c).2⟩) (Cert.Kernel5Ideal.Value.run_blocks (F := Ideal) m ρ),
    (θ_run Cert.Reference5Ideal.defs _ _).mono (fun r h c => by
      obtain ⟨h0, h1⟩ := hargs c
      refine ⟨(h c).1.trans ?_, (h c).2⟩
      rw [h0, h1]
      exact (Cert.DwDownRef.ref_total _ _).trans (congr (congrArg total (act_eq m c).symm) (V_main_arg1 m c).symm)) (Cert.Reference5Ideal.Value.run (F := Ideal) m' ρ')⟩

end Cert.DwDown

end
-- ==== Proof.Up.lean ====
/- The up projection: the kernel `mm_up`, the product of the normed rows with the weights, as it is and by its squared
   rectifier, against the reference. -/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Up

open Idealize.ShloMosaic Idealize.ShloMosaic.StableHlo Idealize.SL.Sem Cert.Kernel6Ideal Cert.Kernel6Ideal.Gen

/-- A row by a column. -/
def prod (h w : Fin 1024 → EReal) : EReal := ∑ k : Fin 1024, h k * w k

/-- The rectifier, squared. -/
def relu2 (y : EReal) : EReal := max y 0 * max y 0

/-- The upper half of a block stored in two halves. -/
theorem upper {e : EltTy} (w2 w1 : Vec Ideal S256x4096 e) (r : Fin 256) (k : Fin 4096) :
    View.canon (Val := Elt Ideal) [⟨r0_4, w2⟩, ⟨r0_2, w1⟩] (ix2 (⟨256 + r.val, by omega⟩ : Fin 512) k) = w2 (ix2 r k) := by
  have e : (ix2 (⟨256 + r.val, by omega⟩ : Fin 512) k : S512x4096.Idx) = r0_4.emb (ix2 r k) := by
    blk_ext []
  rw [e]
  exact View.canon_cons_emb _ _ _ _

/-- The lower half. -/
theorem lower {e : EltTy} (w2 w1 : Vec Ideal S256x4096 e) (r : Fin 256) (k : Fin 4096) :
    View.canon (Val := Elt Ideal) [⟨r0_4, w2⟩, ⟨r0_2, w1⟩] (ix2 (⟨r.val, by omega⟩ : Fin 512) k) = w1 (ix2 r k) := by
  have e : (ix2 (⟨r.val, by omega⟩ : Fin 512) k : S512x4096.Idx) = r0_2.emb (ix2 r k) := by
    blk_ext []
  refine (View.canon_cons_of_not_mem _ _ ?_).trans ?_
  · rw [Rect.mem_set_unit]
    intro h
    have := (h 0).1
    simp at this
    omega
  rw [e]
  exact View.canon_cons_emb _ _ _ _

/-- A row of a block lies in its lower or in its upper half. -/
theorem halves {e : EltTy} (w2 w1 : Vec Ideal S256x4096 e) (v : Fin 512 → Fin 4096 → Elt Ideal e)
    (h1 : ∀ (r : Fin 256) (k : Fin 4096), w1 (ix2 r k) = v ⟨r.val, by omega⟩ k) (h2 : ∀ (r : Fin 256) (k : Fin 4096), w2 (ix2 r k) = v ⟨256 + r.val, by omega⟩ k)
    (r : Fin 512) (k : Fin 4096) : View.canon (Val := Elt Ideal) [⟨r0_4, w2⟩, ⟨r0_2, w1⟩] (ix2 r k) = v r k := by
  by_cases h : r.val < 256
  · exact (lower w2 w1 ⟨r.val, h⟩ k).trans (h1 ⟨r.val, h⟩ k)
  · have e : r = (⟨256 + (⟨r.val - 256, by omega⟩ : Fin 256).val, by simp; omega⟩ : Fin 512) := by
      apply Fin.ext; simp; omega
    rw [e]
    exact (upper w2 w1 _ k).trans (h2 _ k)

/-- The lower half of the activations, at an index. -/
theorem at_pay2 (x0 : Vec Ideal S512x1024 .bf16) (x1 : Vec Ideal S1024x4096 .bf16) (r : Fin 256) (k : Fin 4096) :
    k0_pay2 (View.ld x1 r0_0) (View.ld x0 r0_1) (ix2 r k) = relu2 (prod (fun j => x0 (ix2 (⟨r.val, by omega⟩ : Fin 512) j)) fun j => x1 (ix2 j k)) := by
  pointwise [k0_pay2, k0_pay1, View.ld]
  rfl

/-- The upper half of the activations, at an index. -/
theorem at_pay5 (x0 : Vec Ideal S512x1024 .bf16) (x1 : Vec Ideal S1024x4096 .bf16) (r : Fin 256) (k : Fin 4096) :
    k0_pay5 (View.ld x1 r0_0) (View.ld x0 r0_3) (ix2 r k) = relu2 (prod (fun j => x0 (ix2 (⟨256 + r.val, by omega⟩ : Fin 512) j)) fun j => x1 (ix2 j k)) := by
  pointwise [k0_pay5, k0_pay4, View.ld]
  rfl

/-- The lower half of the product, at an index. -/
theorem at_pay3 (x0 : Vec Ideal S512x1024 .bf16) (x1 : Vec Ideal S1024x4096 .bf16) (r : Fin 256) (k : Fin 4096) :
    k0_pay3 (View.ld x1 r0_0) (View.ld x0 r0_1) (ix2 r k) = prod (fun j => x0 (ix2 (⟨r.val, by omega⟩ : Fin 512) j)) fun j => x1 (ix2 j k) := by
  pointwise [k0_pay3, k0_pay1, View.ld]
  rfl

/-- The upper half of the product, at an index. -/
theorem at_pay6 (x0 : Vec Ideal S512x1024 .bf16) (x1 : Vec Ideal S1024x4096 .bf16) (r : Fin 256) (k : Fin 4096) :
    k0_pay6 (View.ld x1 r0_0) (View.ld x0 r0_3) (ix2 r k) = prod (fun j => x0 (ix2 (⟨256 + r.val, by omega⟩ : Fin 512) j)) fun j => x1 (ix2 j k) := by
  pointwise [k0_pay6, k0_pay4, View.ld]
  rfl

/-- A block of the activations at an index. -/
theorem block_act (x0 : Vec Ideal S512x1024 .bf16) (x1 : Vec Ideal S1024x4096 .bf16) (r : Fin 512) (k : Fin 4096) :
    out0_2 x0 x1 (ix2 r k) = relu2 (prod (fun j => x0 (ix2 r j)) fun j => x1 (ix2 j k)) := by
  unfold out0_2
  refine halves (e := .bf16) _ _ (fun r k => relu2 (prod (fun j => x0 (ix2 r j)) fun j => x1 (ix2 j k))) ?_ ?_ r k
  · exact at_pay2 x0 x1
  · exact at_pay5 x0 x1

/-- A block of the product at an index. -/
theorem block_up (x0 : Vec Ideal S512x1024 .bf16) (x1 : Vec Ideal S1024x4096 .bf16) (r : Fin 512) (k : Fin 4096) :
    out0_3 x0 x1 (ix2 r k) = prod (fun j => x0 (ix2 r j)) fun j => x1 (ix2 j k) := by
  unfold out0_3
  refine halves (e := .bf16) _ _ (fun r k => prod (fun j => x0 (ix2 r j)) fun j => x1 (ix2 j k)) ?_ ?_ r k
  · exact at_pay3 x0 x1
  · exact at_pay6 x0 x1

/-- Which block of each array a point takes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The product, whole. -/
def total (h : Vec Ideal S8192x1024 .bf16) (w : Vec Ideal S1024x4096 .f32) : Vec Ideal S8192x4096 .bf16 :=
  fun j => prod (fun k => h (ix2 (j 0) k)) fun k => w (ix2 k (j 1))

/-- The activations, whole. -/
def totalAct (h : Vec Ideal S8192x1024 .bf16) (w : Vec Ideal S1024x4096 .f32) : Vec Ideal S8192x4096 .bf16 :=
  fun j => relu2 (prod (fun k => h (ix2 (j 0) k)) fun k => w (ix2 k (j 1)))

variable (m : (ℓ : Loc nD τ sig) → Buf (Elt Ideal) ℓ) (c : Dev nD)

/-- The weights. -/
abbrev W : Vec Ideal S1024x4096 .f32 := m ((c.tc : Thread nD τ).loc main_arg2)

/-- The normed rows as the kernel finds them. -/
abbrev H : Vec Ideal S8192x1024 .bf16 := V m c main_v13

/-- Rows, each over the root of its mean square, by a gain. -/
def rms (x : FVec Ideal S8192x1024 .f32) (g : FVec Ideal S1024 .f32) : FVec Ideal S8192x1024 .f32 :=
  (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)) : FVec Ideal S8192x1024 .f32)

/-- The kernel's first operand is the normed rows. -/
theorem H_eq : H m c = (truncf .bf16 (rms (m ((c.tc : Thread nD τ).loc main_arg0)) (m ((c.tc : Thread nD τ).loc main_arg1))) bitsLt_bf16_f32 : FVec Ideal S8192x1024 .bf16) := by
  unfold H V rms
  after_results_simp

/-- The weights as the kernel finds them. -/
theorem V_weights : (V m c main_v14 : Vec Ideal S1024x4096 .bf16) = fun i => W m c i := by
  have e : (V m c main_v14 : FVec Ideal S1024x4096 .bf16) = (truncf .bf16 (W m c : FVec Ideal S1024x4096 .f32) bitsLt_bf16_f32 : FVec Ideal S1024x4096 .bf16) := by
    unfold V
    after_results_simp
  rw [e]
  funext i
  pointwise []

/-- A block's row is the array's. -/
theorem blk_0 (t : Fin cfg0.N) (r : Fin 512) (k : Fin 1024) (n : Fin 8192) (hn : n.val = t.val * 512 + r.val) :
    (iblk m c 0 t : Vec Ideal S512x1024 .bf16) (ix2 r k) = H m c (ix2 n k) := by
  obtain ⟨e, -, -, -⟩ := idx t
  blk_simp [iblk, e]
  refine congrArg _ ?_
  blk_ext [e]

/-- Every point takes the same weights. -/
theorem blk_1 (t : Fin cfg0.N) (r : Fin 1024) (k : Fin 4096) : (iblk m c 1 t : Vec Ideal S1024x4096 .bf16) (ix2 r k) = W m c (ix2 r k) := by
  obtain ⟨-, e, -, -⟩ := idx t
  refine Eq.trans ?_ (congrFun (V_weights m c) (ix2 r k))
  blk_simp [iblk, e]
  refine congrArg _ ?_
  blk_ext [e]

/-- A block's product is the rows'. -/
theorem blk_prod (t : Fin cfg0.N) (r : Fin 512) (k : Fin 4096) (n : Fin 8192) (hn : n.val = t.val * 512 + r.val) :
    prod (fun j => (iblk m c 0 t : Vec Ideal S512x1024 .bf16) (ix2 r j)) (fun j => (iblk m c 1 t : Vec Ideal S1024x4096 .bf16) (ix2 j k)) = total (H m c) (W m c) (ix2 n k) :=
  congr (congrArg prod (funext fun j => blk_0 m c t r j n hn)) (funext fun j => blk_1 m c t j k)

/-- The activations' array after the run. -/
theorem final_act : (dats m 0 c).arrAt 2 cfg0.N = totalAct (H m c) (W m c) := by
  refine Idealize.ShloMosaic.Pipeline.Dat.arrAt_eq_of_covers (dats m 0 c) 2 _ (by decide +kernel) fun t hf y => ?_
  obtain ⟨-, -, eo, -⟩ := idx t
  have ht : t.val < 16 := lt_of_lt_of_eq t.isLt N_0
  rw [after0_2]
  blk_simp [eo]
  have hy : y = ix2 (⟨(y 0).val, (y 0).isLt⟩ : Fin 512) (⟨(y 1).val, (y 1).isLt⟩ : Fin 4096) := by
    funext a; match a with | ⟨0, _⟩ => rfl | ⟨1, _⟩ => rfl
  have h0 : (y 0).val < 512 := (y 0).isLt
  have hz : (win0_2.blk t).view.emb y = ix2 (⟨t.val * 512 + (y 0).val, by omega⟩ : Fin 8192) (⟨(y 1).val, (y 1).isLt⟩ : Fin 4096) := by
    blk_ext [eo]
  refine (congrArg _ hy).trans ((block_act _ _ _ _).trans ?_)
  rw [hz]
  exact congrArg relu2 (blk_prod m c t _ _ _ rfl)

/-- The product's array after the run. -/
theorem final_up : (dats m 0 c).arrAt 3 cfg0.N = total (H m c) (W m c) := by
  refine Idealize.ShloMosaic.Pipeline.Dat.arrAt_eq_of_covers (dats m 0 c) 3 _ (by decide +kernel) fun t hf y => ?_
  obtain ⟨-, -, -, eo⟩ := idx t
  have ht : t.val < 16 := lt_of_lt_of_eq t.isLt N_0
  rw [after0_3]
  blk_simp [eo]
  have hy : y = ix2 (⟨(y 0).val, (y 0).isLt⟩ : Fin 512) (⟨(y 1).val, (y 1).isLt⟩ : Fin 4096) := by
    funext a; match a with | ⟨0, _⟩ => rfl | ⟨1, _⟩ => rfl
  have h0 : (y 0).val < 512 := (y 0).isLt
  have hz : (win0_3.blk t).view.emb y = ix2 (⟨t.val * 512 + (y 0).val, by omega⟩ : Fin 8192) (⟨(y 1).val, (y 1).isLt⟩ : Fin 4096) := by
    blk_ext [eo]
  refine (congrArg _ hy).trans ((block_up _ _ _ _).trans ?_)
  rw [hz]
  exact blk_prod m c t _ _ _ rfl

end Cert.Up

namespace Cert.UpRef

open Idealize.ShloMosaic Idealize.ShloMosaic.StableHlo Idealize.SL.Sem Cert.Reference6Ideal Cert.Reference6Ideal.Gen

/-- The reference's activations, from any rows. -/
theorem ref_act (h : FVec Ideal S8192x1024 .f32) (w : FVec Ideal S1024x4096 .f32) :
    (truncf .bf16 (mulf (maximumf (Host.dotGeneral dot_S8192x1024_S1024x4096_S8192x4096_1_0_0_1_n_n none h w) (broadcastInDim S8192x4096 ![] bcast_S_S8192x4096 (constant S_ .f32 0x00000000#32))) (maximumf (Host.dotGeneral dot_S8192x1024_S1024x4096_S8192x4096_1_0_0_1_n_n none h w) (broadcastInDim S8192x4096 ![] bcast_S_S8192x4096 (constant S_ .f32 0x00000000#32)))) bitsLt_bf16_f32 : FVec Ideal S8192x4096 .bf16)
      = Cert.Up.totalAct (truncf .bf16 h bitsLt_bf16_f32) w := by
  funext j
  have hj : j = ix2 (⟨(j 0).val, (j 0).isLt⟩ : Fin 8192) (⟨(j 1).val, (j 1).isLt⟩ : Fin 4096) := by
    funext a; match a with | ⟨0, _⟩ => rfl | ⟨1, _⟩ => rfl
  rw [hj]
  unfold Cert.Up.totalAct Cert.Up.relu2 Cert.Up.prod
  pointwise []

/-- The reference's product, from any rows. -/
theorem ref_up (h : FVec Ideal S8192x1024 .f32) (w : FVec Ideal S1024x4096 .f32) :
    (truncf .bf16 (Host.dotGeneral dot_S8192x1024_S1024x4096_S8192x4096_1_0_0_1_n_n none h w) bitsLt_bf16_f32 : FVec Ideal S8192x4096 .bf16)
      = Cert.Up.total (truncf .bf16 h bitsLt_bf16_f32) w := by
  funext j
  have hj : j = ix2 (⟨(j 0).val, (j 0).isLt⟩ : Fin 8192) (⟨(j 1).val, (j 1).isLt⟩ : Fin 4096) := by
    funext a; match a with | ⟨0, _⟩ => rfl | ⟨1, _⟩ => rfl
  rw [hj]
  unfold Cert.Up.total Cert.Up.prod
  pointwise []

end Cert.UpRef

namespace Cert.Up

open Idealize.ShloMosaic Idealize.SL.Sem Cert.Kernel6Ideal Cert.Kernel6Ideal.Gen

/-- Both programs end with the activations and the product. -/
theorem algebraic : Cert.algebraic_Kernel6Ideal_Reference6Ideal := fun m ρ m' ρ' _ hargs =>
  ⟨fun c => totalAct (H m c) (W m c), fun c => total (H m c) (W m c),
    (θ_run Cert.Kernel6Ideal.defs _ _).mono (fun r h c => ⟨(h c).1.trans (final_act m c), (h c).2.1.trans (final_up m c), (h c).2.2⟩) (Cert.Kernel6Ideal.Value.run_blocks (F := Ideal) m ρ),
    (θ_run Cert.Reference6Ideal.defs _ _).mono (fun r h c => by
      obtain ⟨h0, h1, h2⟩ := hargs c
      obtain ⟨r0, r1, hk⟩ := h c
      refine ⟨r0.trans ?_, r1.trans ?_, hk⟩
      · rw [h0, h1, h2]
        exact (Cert.UpRef.ref_act (rms _ _) _).trans (congrArg (totalAct · (W m c)) (H_eq m c).symm)
      · rw [h0, h1, h2]
        exact (Cert.UpRef.ref_up (rms _ _) _).trans (congrArg (total · (W m c)) (H_eq m c).symm)) (Cert.Reference6Ideal.Value.run (F := Ideal) m' ρ')⟩

end Cert.Up

end
-- ==== Proof.Down.lean ====
/- The down projection: the kernel `mm_down`, the rows plus the product of the activations with the weights, as they are
   and normed for the next layer, against the reference. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Down

open Idealize.ShloMosaic Idealize.ShloMosaic.StableHlo Idealize.SL.Sem Cert.Kernel7Ideal Cert.Kernel7Ideal.Gen

/-- A row plus a row of activations by the weights. -/
def row (a : Fin 4096 → EReal) (w : Fin 1024 → Fin 4096 → EReal) (x : Fin 1024 → EReal) (k : Fin 1024) : EReal := x k + ∑ q : Fin 4096, a q * w k q

/-- The same sum, the product first. -/
theorem row_swap (a : Fin 4096 → EReal) (w : Fin 1024 → Fin 4096 → EReal) (x : Fin 1024 → EReal) : (fun k => (∑ q : Fin 4096, a q * w k q) + x k) = row a w x :=
  funext fun _ => add_comm _ _

/-- A row over the root of its mean square, by a gain. -/
def normed (g y : Fin 1024 → EReal) (k : Fin 1024) : EReal :=
  y k * Ideal.rsqrt (Ideal.div (∑ j : Fin 1024, y j * y j) (Ideal.ofBits .f32 0x44800000#32) + Ideal.ofBits .f32 0x358637BD#32) * g k

/-- The upper half of a block stored in two halves. -/
theorem upper {e : EltTy} (w2 w1 : Vec Ideal S256x1024 e) (r : Fin 256) (k : Fin 1024) :
    View.canon (Val := Elt Ideal) [⟨r0_5, w2⟩, ⟨r0_2, w1⟩] (ix2 (⟨256 + r.val, by omega⟩ : Fin 512) k) = w2 (ix2 r k) := by
  have e : (ix2 (⟨256 + r.val, by omega⟩ : Fin 512) k : S512x1024.Idx) = r0_5.emb (ix2 r k) := by
    blk_ext []
  rw [e]
  exact View.canon_cons_emb _ _ _ _

/-- The lower half. -/
theorem lower {e : EltTy} (w2 w1 : Vec Ideal S256x1024 e) (r : Fin 256) (k : Fin 1024) :
    View.canon (Val := Elt Ideal) [⟨r0_5, w2⟩, ⟨r0_2, w1⟩] (ix2 (⟨r.val, by omega⟩ : Fin 512) k) = w1 (ix2 r k) := by
  have e : (ix2 (⟨r.val, by omega⟩ : Fin 512) k : S512x1024.Idx) = r0_2.emb (ix2 r k) := by
    blk_ext []
  refine (View.canon_cons_of_not_mem _ _ ?_).trans ?_
  · rw [Rect.mem_set_unit]
    intro h
    have := (h 0).1
    simp at this
    omega
  rw [e]
  exact View.canon_cons_emb _ _ _ _

/-- A row of a block lies in its lower or in its upper half. -/
theorem halves {e : EltTy} (w2 w1 : Vec Ideal S256x1024 e) (v : Fin 512 → Fin 1024 → Elt Ideal e)
    (h1 : ∀ (r : Fin 256) (k : Fin 1024), w1 (ix2 r k) = v ⟨r.val, by omega⟩ k) (h2 : ∀ (r : Fin 256) (k : Fin 1024), w2 (ix2 r k) = v ⟨256 + r.val, by omega⟩ k)
    (r : Fin 512) (k : Fin 1024) : View.canon (Val := Elt Ideal) [⟨r0_5, w2⟩, ⟨r0_2, w1⟩] (ix2 r k) = v r k := by
  by_cases h : r.val < 256
  · exact (lower w2 w1 ⟨r.val, h⟩ k).trans (h1 ⟨r.val, h⟩ k)
  · have e : r = (⟨256 + (⟨r.val - 256, by omega⟩ : Fin 256).val, by simp; omega⟩ : Fin 512) := by
      apply Fin.ext; simp; omega
    rw [e]
    exact (upper w2 w1 _ k).trans (h2 _ k)

/-- The lower half of the sum, at an index. -/
theorem at_pay2 (x0 : Vec Ideal S512x4096 .bf16) (x1 : Vec Ideal S4096x1024 .bf16) (x2 : Vec Ideal S512x1024 .f32) (r : Fin 256) (k : Fin 1024) :
    k0_pay2 (View.ld x1 r0_0) (View.ld x0 r0_1) (View.ld x2 r0_2) (ix2 r k) = row (fun q => x0 (ix2 (⟨r.val, by omega⟩ : Fin 512) q)) (fun j q => x1 (ix2 q j)) (fun j => x2 (ix2 (⟨r.val, by omega⟩ : Fin 512) j)) k := by
  rw [← row_swap]
  pointwise [k0_pay2, View.ld]

/-- The upper half of the sum, at an index. -/
theorem at_pay6 (x0 : Vec Ideal S512x4096 .bf16) (x1 : Vec Ideal S4096x1024 .bf16) (x2 : Vec Ideal S512x1024 .f32) (x3 : Vec Ideal S1x1024 .f32) (r : Fin 256) (k : Fin 1024) :
    k0_pay6 x0 x1 x2 x3 (ix2 r k) = row (fun q => x0 (ix2 (⟨256 + r.val, by omega⟩ : Fin 512) q)) (fun j q => x1 (ix2 q j)) (fun j => x2 (ix2 (⟨256 + r.val, by omega⟩ : Fin 512) j)) k := by
  rw [← row_swap]
  pointwise [k0_pay6, k0_pay4, View.ld]

/-- The lower half of the normed sum, at an index. -/
theorem at_pay3 (x0 : Vec Ideal S512x4096 .bf16) (x1 : Vec Ideal S4096x1024 .bf16) (x2 : Vec Ideal S512x1024 .f32) (x3 : Vec Ideal S1x1024 .f32) (r : Fin 256) (k : Fin 1024) :
    k0_pay3 (View.ld x1 r0_0) (View.ld x0 r0_1) (View.ld x2 r0_2) (View.ld x3 r0_3) (ix2 r k) = normed (fun j => x3 (ix2 (0 : Fin 1) j)) (row (fun q => x0 (ix2 (⟨r.val, by omega⟩ : Fin 512) q)) (fun j q => x1 (ix2 q j)) (fun j => x2 (ix2 (⟨r.val, by omega⟩ : Fin 512) j))) k := by
  rw [← row_swap]
  pointwise [k0_pay3, k0_pay2, View.ld]
  rfl

/-- The upper half of the normed sum, at an index. -/
theorem at_pay1 (x0 : Vec Ideal S512x4096 .bf16) (x1 : Vec Ideal S4096x1024 .bf16) (x2 : Vec Ideal S512x1024 .f32) (x3 : Vec Ideal S1x1024 .f32) (r : Fin 256) (k : Fin 1024) :
    k0_pay1 (k0_pay6 x0 x1 x2 x3) (k0_pay5 (View.ld x1 r0_0) (View.ld x0 r0_4) (View.ld x2 r0_5)) (Scalar.ofBits .f32 0x44800000#32) (View.ld x3 r0_3) (ix2 r k)
      = normed (fun j => x3 (ix2 (0 : Fin 1) j)) (row (fun q => x0 (ix2 (⟨256 + r.val, by omega⟩ : Fin 512) q)) (fun j q => x1 (ix2 q j)) (fun j => x2 (ix2 (⟨256 + r.val, by omega⟩ : Fin 512) j))) k := by
  rw [← row_swap]
  pointwise [k0_pay1, k0_pay6, k0_pay5, k0_pay4, View.ld]
  rfl

/-- A block's row plus its product. -/
abbrev blockRow (x0 : Vec Ideal S512x4096 .bf16) (x1 : Vec Ideal S4096x1024 .bf16) (x2 : Vec Ideal S512x1024 .f32) (r : Fin 512) : Fin 1024 → EReal :=
  row (fun q => x0 (ix2 r q)) (fun j q => x1 (ix2 q j)) fun j => x2 (ix2 r j)

/-- A block of the sum at an index. -/
theorem block_sum (x0 : Vec Ideal S512x4096 .bf16) (x1 : Vec Ideal S4096x1024 .bf16) (x2 : Vec Ideal S512x1024 .f32) (x3 : Vec Ideal S1x1024 .f32) (r : Fin 512) (k : Fin 1024) :
    out0_4 x0 x1 x2 x3 (ix2 r k) = blockRow x0 x1 x2 r k := by
  unfold out0_4
  refine halves (e := .f32) _ _ (fun r k => blockRow x0 x1 x2 r k) ?_ ?_ r k
  · exact at_pay2 x0 x1 x2
  · exact at_pay6 x0 x1 x2 x3

/-- A block of the normed sum at an index. -/
theorem block_normed (x0 : Vec Ideal S512x4096 .bf16) (x1 : Vec Ideal S4096x1024 .bf16) (x2 : Vec Ideal S512x1024 .f32) (x3 : Vec Ideal S1x1024 .f32) (r : Fin 512) (k : Fin 1024) :
    out0_5 x0 x1 x2 x3 (ix2 r k) = normed (fun j => x3 (ix2 (0 : Fin 1) j)) (blockRow x0 x1 x2 r) k := by
  unfold out0_5
  refine halves (e := .bf16) _ _ (fun r k => normed (fun j => x3 (ix2 (0 : Fin 1) j)) (blockRow x0 x1 x2 r) k) ?_ ?_ r k
  · exact at_pay3 x0 x1 x2 x3
  · exact at_pay1 x0 x1 x2 x3

/-- Which block of each array a point takes. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The sum, whole. -/
def total (x : Vec Ideal S8192x1024 .f32) (w : Vec Ideal S4096x1024 .f32) (a : Vec Ideal S8192x4096 .bf16) : Vec Ideal S8192x1024 .f32 :=
  fun j => row (fun q => a (ix2 (j 0) q)) (fun k q => w (ix2 q k)) (fun k => x (ix2 (j 0) k)) (j 1)

/-- The normed sum, whole. -/
def totalNormed (x : Vec Ideal S8192x1024 .f32) (g : Vec Ideal S1024 .f32) (w : Vec Ideal S4096x1024 .f32) (a : Vec Ideal S8192x4096 .bf16) : Vec Ideal S8192x1024 .bf16 :=
  fun j => normed (fun k => g (ix1 k)) (row (fun q => a (ix2 (j 0) q)) (fun k q => w (ix2 q k)) fun k => x (ix2 (j 0) k)) (j 1)

variable (m : (ℓ : Loc nD τ sig) → Buf (Elt Ideal) ℓ) (c : Dev nD)

/-- The rows beside the block. -/
abbrev X : Vec Ideal S8192x1024 .f32 := m ((c.tc : Thread nD τ).loc main_arg0)

/-- The gain. -/
abbrev G : Vec Ideal S1024 .f32 := m ((c.tc : Thread nD τ).loc main_arg1)

/-- The weights. -/
abbrev W : Vec Ideal S4096x1024 .f32 := m ((c.tc : Thread nD τ).loc main_arg2)

/-- The activations. -/
abbrev A : Vec Ideal S8192x4096 .bf16 := m ((c.tc : Thread nD τ).loc main_arg3)

/-- The weights as the kernel finds them. -/
theorem V_weights : (V m c main_v0 : Vec Ideal S4096x1024 .bf16) = fun i => W m c i := by
  unfold V
  simp only [hostOps0]
  after_results
  rfl

/-- The gain as the kernel finds it, a row. -/
theorem V_gain (k : Fin 1024) : (V m c main_v1 : Vec Ideal S1x1024 .f32) (ix2 (0 : Fin 1) k) = G m c (ix1 k) := by
  have e : (V m c main_v1 : FVec Ideal S1x1024 .f32) = shapeCast S1x1024 (G m c : FVec Ideal S1024 .f32) shapeCasts_S1024_S1x1024 := by
    unfold V
    simp only [hostOps0]
    after_results
    rfl
  rw [e]
  pointwise []

/-- A block's row is the array's. -/
theorem blk_0 (t : Fin cfg0.N) (r : Fin 512) (k : Fin 4096) (n : Fin 8192) (hn : n.val = t.val * 512 + r.val) :
    (iblk m c 0 t : Vec Ideal S512x4096 .bf16) (ix2 r k) = A m c (ix2 n k) := by
  obtain ⟨e, -, -, -, -, -⟩ := idx t
  show _ = (m ((c.tc : Thread nD τ).loc main_arg3) : Vec Ideal S8192x4096 .bf16) (ix2 n k)
  rw [← V_main_arg3 m c]
  blk_simp [iblk, e]
  refine congrArg _ ?_
  blk_ext [e]

/-- Every point takes the same weights. -/
theorem blk_1 (t : Fin cfg0.N) (r : Fin 4096) (k : Fin 1024) : (iblk m c 1 t : Vec Ideal S4096x1024 .bf16) (ix2 r k) = W m c (ix2 r k) := by
  obtain ⟨-, e, -, -, -, -⟩ := idx t
  refine Eq.trans ?_ (congrFun (V_weights m c) (ix2 r k))
  blk_simp [iblk, e]
  refine congrArg _ ?_
  blk_ext [e]

/-- A block's row is the array's. -/
theorem blk_2 (t : Fin cfg0.N) (r : Fin 512) (k : Fin 1024) (n : Fin 8192) (hn : n.val = t.val * 512 + r.val) :
    (iblk m c 2 t : Vec Ideal S512x1024 .f32) (ix2 r k) = X m c (ix2 n k) := by
  obtain ⟨-, -, e, -, -, -⟩ := idx t
  show _ = (m ((c.tc : Thread nD τ).loc main_arg0) : Vec Ideal S8192x1024 .f32) (ix2 n k)
  rw [← V_main_arg0 m c]
  blk_simp [iblk, e]
  refine congrArg _ ?_
  blk_ext [e]

/-- Every point takes the same gain. -/
theorem blk_3 (t : Fin cfg0.N) (k : Fin 1024) : (iblk m c 3 t : Vec Ideal S1x1024 .f32) (ix2 (0 : Fin 1) k) = G m c (ix1 k) := by
  obtain ⟨-, -, -, e, -, -⟩ := idx t
  refine Eq.trans ?_ (V_gain m c k)
  blk_simp [iblk, e]
  refine congrArg _ ?_
  blk_ext [e]

/-- A block's sum is the rows'. -/
theorem blk_row (t : Fin cfg0.N) (r : Fin 512) (n : Fin 8192) (hn : n.val = t.val * 512 + r.val) :
    blockRow (iblk m c 0 t) (iblk m c 1 t) (iblk m c 2 t) r = row (fun q => A m c (ix2 n q)) (fun k q => W m c (ix2 q k)) fun k => X m c (ix2 n k) :=
  congr (congr (congrArg row (funext fun q => blk_0 m c t r q n hn)) (funext fun k => funext fun q => blk_1 m c t q k)) (funext fun k => blk_2 m c t r k n hn)

/-- The sum's array after the run. -/
theorem final_sum : (dats m 0 c).arrAt 4 cfg0.N = total (X m c) (W m c) (A m c) := by
  refine Idealize.ShloMosaic.Pipeline.Dat.arrAt_eq_of_covers (dats m 0 c) 4 _ (by decide +kernel) fun t hf y => ?_
  obtain ⟨-, -, -, -, eo, -⟩ := idx t
  have ht : t.val < 16 := lt_of_lt_of_eq t.isLt N_0
  rw [after0_4]
  blk_simp [eo]
  have hy : y = ix2 (⟨(y 0).val, (y 0).isLt⟩ : Fin 512) (⟨(y 1).val, (y 1).isLt⟩ : Fin 1024) := by
    funext a; match a with | ⟨0, _⟩ => rfl | ⟨1, _⟩ => rfl
  have h0 : (y 0).val < 512 := (y 0).isLt
  have hz : (win0_4.blk t).view.emb y = ix2 (⟨t.val * 512 + (y 0).val, by omega⟩ : Fin 8192) (⟨(y 1).val, (y 1).isLt⟩ : Fin 1024) := by
    blk_ext [eo]
  refine (congrArg _ hy).trans ((block_sum _ _ _ _ _ _).trans ?_)
  rw [hz]
  exact congrFun (blk_row m c t _ _ rfl) _

/-- The normed sum's array after the run. -/
theorem final_normed : (dats m 0 c).arrAt 5 cfg0.N = totalNormed (X m c) (G m c) (W m c) (A m c) := by
  refine Idealize.ShloMosaic.Pipeline.Dat.arrAt_eq_of_covers (dats m 0 c) 5 _ (by decide +kernel) fun t hf y => ?_
  obtain ⟨-, -, -, -, -, eo⟩ := idx t
  have ht : t.val < 16 := lt_of_lt_of_eq t.isLt N_0
  rw [after0_5]
  blk_simp [eo]
  have hy : y = ix2 (⟨(y 0).val, (y 0).isLt⟩ : Fin 512) (⟨(y 1).val, (y 1).isLt⟩ : Fin 1024) := by
    funext a; match a with | ⟨0, _⟩ => rfl | ⟨1, _⟩ => rfl
  have h0 : (y 0).val < 512 := (y 0).isLt
  have hz : (win0_5.blk t).view.emb y = ix2 (⟨t.val * 512 + (y 0).val, by omega⟩ : Fin 8192) (⟨(y 1).val, (y 1).isLt⟩ : Fin 1024) := by
    blk_ext [eo]
  refine (congrArg _ hy).trans ((block_normed _ _ _ _ _ _).trans ?_)
  rw [hz]
  exact congrFun (congr (congrArg normed (funext fun k => blk_3 m c t k)) (blk_row m c t _ _ rfl)) _

end Cert.Down

namespace Cert.DownRef

open Idealize.ShloMosaic Idealize.ShloMosaic.StableHlo Idealize.SL.Sem Cert.Reference7Ideal Cert.Reference7Ideal.Gen

/-- The reference's sum. -/
theorem ref_sum (x : FVec Ideal S8192x1024 .f32) (w : FVec Ideal S4096x1024 .f32) (a : FVec Ideal S8192x4096 .bf16) :
    (addf x (Host.dotGeneral dot_S8192x4096_S4096x1024_S8192x1024_1_0_0_1_n_n none (extf .f32 a bitsLt_bf16_f32) w) : FVec Ideal S8192x1024 .f32)
      = Cert.Down.total x w a := by
  funext j
  have hj : j = ix2 (⟨(j 0).val, (j 0).isLt⟩ : Fin 8192) (⟨(j 1).val, (j 1).isLt⟩ : Fin 1024) := by
    funext a; match a with | ⟨0, _⟩ => rfl | ⟨1, _⟩ => rfl
  rw [hj]
  unfold Cert.Down.total Cert.Down.row
  pointwise []

/-- The reference's norm, of any rows. -/
theorem ref_norm (y : FVec Ideal S8192x1024 .f32) (g : FVec Ideal S1024 .f32) (j : S8192x1024.Idx) :
    (truncf .bf16 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16) j
      = Cert.Down.normed (fun k => g (ix1 k)) (fun k => y (ix2 (j 0) k)) (j 1) := by
  have hj : j = ix2 (⟨(j 0).val, (j 0).isLt⟩ : Fin 8192) (⟨(j 1).val, (j 1).isLt⟩ : Fin 1024) := by
    funext a; match a with | ⟨0, _⟩ => rfl | ⟨1, _⟩ => rfl
  rw [hj]
  unfold Cert.Down.normed
  pointwise []

/-- The reference's normed sum. -/
theorem ref_normed (x : FVec Ideal S8192x1024 .f32) (g : FVec Ideal S1024 .f32) (w : FVec Ideal S4096x1024 .f32) (a : FVec Ideal S8192x4096 .bf16) (y : FVec Ideal S8192x1024 .f32)
    (hy : y = Cert.Down.total x w a) :
    (truncf .bf16 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16)
      = Cert.Down.totalNormed x g w a := by
  funext j
  refine (ref_norm y g j).trans ?_
  rw [hy]
  rfl

end Cert.DownRef

namespace Cert.Down

open Idealize.ShloMosaic Idealize.SL.Sem Cert.Kernel7Ideal Cert.Kernel7Ideal.Gen

/-- Both programs end with the sum and the normed sum. -/
theorem algebraic : Cert.algebraic_Kernel7Ideal_Reference7Ideal := fun m ρ m' ρ' _ hargs =>
  ⟨fun c => total (X m c) (W m c) (A m c), fun c => totalNormed (X m c) (G m c) (W m c) (A m c),
    (θ_run Cert.Kernel7Ideal.defs _ _).mono (fun r h c => ⟨(h c).1.trans (final_sum m c), (h c).2.1.trans (final_normed m c), (h c).2.2⟩) (Cert.Kernel7Ideal.Value.run_blocks (F := Ideal) m ρ),
    (θ_run Cert.Reference7Ideal.defs _ _).mono (fun r h c => by
      obtain ⟨h0, h1, h2, h3⟩ := hargs c
      obtain ⟨r0, r1, hk⟩ := h c
      refine ⟨r0.trans ?_, r1.trans ?_, hk⟩
      · rw [h0, h2, h3]
        exact Cert.DownRef.ref_sum _ _ _
      · rw [h0, h1, h2, h3]
        exact Cert.DownRef.ref_normed _ _ _ _ _ (Cert.DownRef.ref_sum _ _ _)) (Cert.Reference7Ideal.Value.run (F := Ideal) m' ρ')⟩

end Cert.Down

end
-- ==== Proof.HostValue.lean ====
/- What the host operations before the kernel's call compute, over the real numbers: the states. -/
module

public import proofs.«01_k».proof.Proof.Gen.KernelIdeal.Frame
public import proofs.«01_k».proof.Proof.Words

@[expose] public section

set_option maxRecDepth 16384

noncomputable section

namespace Cert.KernelIdeal.Hosted

open Idealize.ShloMosaic Idealize.ShloMosaic.StableHlo Cert.KernelIdeal Cert.KernelIdeal.Gen Cert.Mixer

variable {F : FTy → Type} [FloatOps F] [Named F]

/-- The branch's rows below three rows of zeros. -/
def v2 (V0 : Valuation τ sig (Elt F)) : (Proc.devRef .tc main_v2 : DevRef τ sig).ty.Contents (Elt F) :=
  concatenate S8195x256 0 [⟨S3x256, (broadcastInDim S3x256 ![] bcast_S_S3x256 (constant S_ .f32 0x00000000#32))⟩, ⟨S8192x256, (extractStridedSlice S8192x256 ![0, 3072] (V0 (Proc.devRef .tc main_arg0)) slices_S8192x3840_S8192x256_0_3072)⟩] concatenates_S3x256_S8192x256_S8195x256_d0

/-- The rows three before. -/
def v3 (V0 : Valuation τ sig (Elt F)) : (Proc.devRef .tc main_v3 : DevRef τ sig).ty.Contents (Elt F) :=
  extractStridedSlice S8192x256 ![0, 0] (v2 V0) slices_S8195x256_S8192x256_0_0

/-- The convolution's weights of three rows before. -/
def v6 (V0 : Valuation τ sig (Elt F)) : (Proc.devRef .tc main_v6 : DevRef τ sig).ty.Contents (Elt F) :=
  broadcastInDim S1x256 ![1] bcast_S256_S1x256_1 (shapeCast _ (extractStridedSlice S1x256 ![0, 0] (V0 (Proc.devRef .tc main_arg1)) slices_S4x256_S1x256_0_0) shapeCasts_S1x256_S256)

/-- The rows two before. -/
def v9 (V0 : Valuation τ sig (Elt F)) : (Proc.devRef .tc main_v9 : DevRef τ sig).ty.Contents (Elt F) :=
  extractStridedSlice S8192x256 ![1, 0] (v2 V0) slices_S8195x256_S8192x256_1_0

/-- The convolution's weights of two rows before. -/
def v12 (V0 : Valuation τ sig (Elt F)) : (Proc.devRef .tc main_v12 : DevRef τ sig).ty.Contents (Elt F) :=
  broadcastInDim S1x256 ![1] bcast_S256_S1x256_1 (shapeCast _ (extractStridedSlice S1x256 ![1, 0] (V0 (Proc.devRef .tc main_arg1)) slices_S4x256_S1x256_1_0) shapeCasts_S1x256_S256)

/-- The rows one before. -/
def v16 (V0 : Valuation τ sig (Elt F)) : (Proc.devRef .tc main_v16 : DevRef τ sig).ty.Contents (Elt F) :=
  extractStridedSlice S8192x256 ![2, 0] (v2 V0) slices_S8195x256_S8192x256_2_0

/-- The convolution's weights of one row before. -/
def v19 (V0 : Valuation τ sig (Elt F)) : (Proc.devRef .tc main_v19 : DevRef τ sig).ty.Contents (Elt F) :=
  broadcastInDim S1x256 ![1] bcast_S256_S1x256_1 (shapeCast _ (extractStridedSlice S1x256 ![2, 0] (V0 (Proc.devRef .tc main_arg1)) slices_S4x256_S1x256_2_0) shapeCasts_S1x256_S256)

/-- The rows themselves. -/
def v23 (V0 : Valuation τ sig (Elt F)) : (Proc.devRef .tc main_v23 : DevRef τ sig).ty.Contents (Elt F) :=
  extractStridedSlice S8192x256 ![3, 0] (v2 V0) slices_S8195x256_S8192x256_3_0

/-- The convolution's weights of the row itself. -/
def v26 (V0 : Valuation τ sig (Elt F)) : (Proc.devRef .tc main_v26 : DevRef τ sig).ty.Contents (Elt F) :=
  broadcastInDim S1x256 ![1] bcast_S256_S1x256_1 (shapeCast _ (extractStridedSlice S1x256 ![3, 0] (V0 (Proc.devRef .tc main_arg1)) slices_S4x256_S1x256_3_0) shapeCasts_S1x256_S256)

/-- The convolved rows. -/
def v31 (V0 : Valuation τ sig (Elt F)) : (Proc.devRef .tc main_v31 : DevRef τ sig).ty.Contents (Elt F) :=
  addf (addf (addf (addf (mulf (v3 V0) (broadcastInDim S8192x256 ![0, 1] bcast_S1x256_S8192x256_0_1 (v6 V0))) (mulf (v9 V0) (broadcastInDim S8192x256 ![0, 1] bcast_S1x256_S8192x256_0_1 (v12 V0)))) (mulf (v16 V0) (broadcastInDim S8192x256 ![0, 1] bcast_S1x256_S8192x256_0_1 (v19 V0)))) (mulf (v23 V0) (broadcastInDim S8192x256 ![0, 1] bcast_S1x256_S8192x256_0_1 (v26 V0)))) (broadcastInDim S8192x256 ![0, 1] bcast_S1x256_S8192x256_0_1 (V0 (Proc.devRef .tc main_arg2)))

/-- The input gate. -/
def v40 (V0 : Valuation τ sig (Elt F)) : (Proc.devRef .tc main_v40 : DevRef τ sig).ty.Contents (Elt F) :=
  Host.divf (broadcastInDim S8192x256 ![] bcast_S_S8192x256 (constant S_ .f32 0x3F800000#32)) (addf (broadcastInDim S8192x256 ![] bcast_S_S8192x256 (constant S_ .f32 0x3F800000#32)) (Host.exp (Host.negf (addf (Host.dotGeneral dot_S8192x256_S256x256_S8192x256_1_0_0_1_n_n none (v31 V0) (V0 (Proc.devRef .tc main_arg5))) (broadcastInDim S8192x256 ![0, 1] bcast_S1x256_S8192x256_0_1 (V0 (Proc.devRef .tc main_arg6)))))))

/-- The recurrence gate. -/
def v49 (V0 : Valuation τ sig (Elt F)) : (Proc.devRef .tc main_v49 : DevRef τ sig).ty.Contents (Elt F) :=
  Host.divf (broadcastInDim S8192x256 ![] bcast_S_S8192x256 (constant S_ .f32 0x3F800000#32)) (addf (broadcastInDim S8192x256 ![] bcast_S_S8192x256 (constant S_ .f32 0x3F800000#32)) (Host.exp (Host.negf (addf (Host.dotGeneral dot_S8192x256_S256x256_S8192x256_1_0_0_1_n_n none (v31 V0) (V0 (Proc.devRef .tc main_arg3))) (broadcastInDim S8192x256 ![0, 1] bcast_S1x256_S8192x256_0_1 (V0 (Proc.devRef .tc main_arg4)))))))

/-- The recurrence gate times minus eight. -/
def v51 (V0 : Valuation τ sig (Elt F)) : (Proc.devRef .tc main_v51 : DevRef τ sig).ty.Contents (Elt F) :=
  mulf (broadcastInDim S8192x256 ![] bcast_S_S8192x256 (constant S_ .f32 0xC1000000#32)) (v49 V0)

/-- The negated decay parameter. -/
def v52 (V0 : Valuation τ sig (Elt F)) : (Proc.devRef .tc main_v52 : DevRef τ sig).ty.Contents (Elt F) :=
  Host.negf (V0 (Proc.devRef .tc main_arg7))

/-- Zero. -/
def zro (V0 : Valuation τ sig (Elt F)) : (Proc.devRef .tc main_call0_cst : DevRef τ sig).ty.Contents (Elt F) :=
  constant S_ .f32 0x00000000#32

/-- The negated decay parameter less zero. -/
def ngd (V0 : Valuation τ sig (Elt F)) : (Proc.devRef .tc main_call0_v3 : DevRef τ sig).ty.Contents (Elt F) :=
  subf (v52 V0) (broadcastInDim S1x256 ![] bcast_S_S1x256 (zro V0))

/-- The softplus of the negated decay parameter. -/
def v53 (V0 : Valuation τ sig (Elt F)) : (Proc.devRef .tc main_v53 : DevRef τ sig).ty.Contents (Elt F) :=
  select (cmpf .une (ngd V0) (ngd V0)) (addf (v52 V0) (broadcastInDim S1x256 ![] bcast_S_S1x256 (zro V0))) (addf (maximumf (v52 V0) (broadcastInDim S1x256 ![] bcast_S_S1x256 (zro V0))) (Host.log1p (Host.exp (Host.negf (Host.absf (ngd V0))))))

/-- The decay's logarithm. -/
def v55 (V0 : Valuation τ sig (Elt F)) : (Proc.devRef .tc main_v55 : DevRef τ sig).ty.Contents (Elt F) :=
  mulf (v51 V0) (broadcastInDim S8192x256 ![0, 1] bcast_S1x256_S8192x256_0_1 (v53 V0))

/-- Twice the decay's logarithm. -/
def v61 (V0 : Valuation τ sig (Elt F)) : (Proc.devRef .tc main_v61 : DevRef τ sig).ty.Contents (Elt F) :=
  mulf (broadcastInDim S8192x256 ![] bcast_S_S8192x256 (constant S_ .f32 0x40000000#32)) (v55 V0)

/-- One minus the squared decay. -/
def v63 (V0 : Valuation τ sig (Elt F)) : (Proc.devRef .tc main_v63 : DevRef τ sig).ty.Contents (Elt F) :=
  Host.negf (Host.expm1 (v61 V0))

/-- The root of one minus the squared decay, above its floor. -/
def v66 (V0 : Valuation τ sig (Elt F)) : (Proc.devRef .tc main_v66 : DevRef τ sig).ty.Contents (Elt F) :=
  Host.sqrt (maximumf (v63 V0) (broadcastInDim S8192x256 ![] bcast_S_S8192x256 (constant S_ .f32 0x358637BD#32)))

/-- Which row is the first. -/
def first (V0 : Valuation τ sig (Elt F)) : (Proc.devRef .tc main_call1_v1 : DevRef τ sig).ty.Contents (Elt F) :=
  broadcastInDim S8192x256 ![0, 1] bcast_S8192x1_S8192x256_0_1 (cmpi .eq (broadcastInDim S8192x1 ![0] bcast_S8192_S8192x1_0 (iotaInDim S8192 32 0)) (broadcastInDim S8192x1 ![] bcast_S_S8192x1 (constantI S_ 32 0#32)))

/-- The input's multiplier. -/
def v67 (V0 : Valuation τ sig (Elt F)) : (Proc.devRef .tc main_v67 : DevRef τ sig).ty.Contents (Elt F) :=
  select (first V0) (broadcastInDim S8192x256 ![] bcast_S_S8192x256 (id (constant S_ .f32 0x3F800000#32))) (v66 V0)

/-- The input's multiplier times the input gate. -/
def v68 (V0 : Valuation τ sig (Elt F)) : (Proc.devRef .tc main_v68 : DevRef τ sig).ty.Contents (Elt F) :=
  mulf (v67 V0) (v40 V0)

/-- Which rows are not after a row. -/
def v77 (V0 : Valuation τ sig (Elt F)) : (Proc.devRef .tc main_v77 : DevRef τ sig).ty.Contents (Elt F) :=
  broadcastInDim S8192x8192x1 ![0, 1] bcast_S8192x8192_S8192x8192x1_0_1 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))

/-- Which rows are not after a row, in every channel. -/
def before (V0 : Valuation τ sig (Elt F)) : (Proc.devRef .tc main_call2_v1 : DevRef τ sig).ty.Contents (Elt F) :=
  broadcastInDim S8192x8192x256 ![0, 1, 2] bcast_S8192x8192x1_S8192x8192x256_0_1_2 (v77 V0)

/-- The decays' logarithms summed up to a row. -/
def v80 (V0 : Valuation τ sig (Elt F)) : (Proc.devRef .tc main_v80 : DevRef τ sig).ty.Contents (Elt F) :=
  Host.reduceAdd (select (before V0) (broadcastInDim S8192x8192x256 ![0, 1, 2] bcast_S1x8192x256_S8192x8192x256_0_1_2 (broadcastInDim S1x8192x256 ![1, 2] bcast_S8192x256_S1x8192x256_1_2 (v55 V0))) (broadcastInDim S8192x8192x256 ![] bcast_S_S8192x8192x256 (id (constant S_ .f32 0x00000000#32)))) (constant S_ .f32 0x00000000#32) reducesTo_S8192x8192x256_S8192x256_d1 h_S_

/-- The decay from row to row. -/
def v87 (V0 : Valuation τ sig (Elt F)) : (Proc.devRef .tc main_v87 : DevRef τ sig).ty.Contents (Elt F) :=
  Host.exp (select (before V0) (subf (broadcastInDim S8192x8192x256 ![0, 1, 2] bcast_S8192x1x256_S8192x8192x256_0_1_2 (broadcastInDim S8192x1x256 ![0, 2] bcast_S8192x256_S8192x1x256_0_2 (v80 V0))) (broadcastInDim S8192x8192x256 ![0, 1, 2] bcast_S1x8192x256_S8192x8192x256_0_1_2 (broadcastInDim S1x8192x256 ![1, 2] bcast_S8192x256_S1x8192x256_1_2 (v80 V0)))) (broadcastInDim S8192x8192x256 ![] bcast_S_S8192x8192x256 (id (constant S_ .f32 0xFF800000#32))))

/-- The recurrence's input. -/
def v88 (V0 : Valuation τ sig (Elt F)) : (Proc.devRef .tc main_v88 : DevRef τ sig).ty.Contents (Elt F) :=
  broadcastInDim S1x8192x256 ![1, 2] bcast_S8192x256_S1x8192x256_1_2 (mulf (v68 V0) (v31 V0))

/-- The states. -/
def v91 (V0 : Valuation τ sig (Elt F)) : (Proc.devRef .tc main_v91 : DevRef τ sig).ty.Contents (Elt F) :=
  Host.reduceAdd (mulf (v87 V0) (broadcastInDim S8192x8192x256 ![0, 1, 2] bcast_S1x8192x256_S8192x8192x256_0_1_2 (v88 V0))) (constant S_ .f32 0x00000000#32) reducesTo_S8192x8192x256_S8192x256_d1 h_S_

/-- The kernel's arguments hold the numbers `D`. -/
abbrev Holds (D : Inputs) (V0 : Valuation τ sig (Elt Ideal)) : Prop :=
  Given D (fun t j => V0 (Proc.devRef .tc main_arg0) (ix2 t j)) (fun t j => V0 (Proc.devRef .tc main_arg1) (ix2 t j))
    (fun j => V0 (Proc.devRef .tc main_arg2) (ix2 0 j)) (fun t j => V0 (Proc.devRef .tc main_arg3) (ix2 t j))
    (fun j => V0 (Proc.devRef .tc main_arg4) (ix2 0 j)) (fun t j => V0 (Proc.devRef .tc main_arg5) (ix2 t j))
    (fun j => V0 (Proc.devRef .tc main_arg6) (ix2 0 j)) (fun j => V0 (Proc.devRef .tc main_arg7) (ix2 0 j))
    (fun t j => V0 (Proc.devRef .tc main_arg8) (ix2 t j))

variable {D : Inputs} {V0 : Valuation τ sig (Elt Ideal)} (H : Holds D V0)
include H

omit H in
theorem at_constant (w : BitVec 32) : (id (constant S_ FTy.f32 w : FVec Ideal S_ .f32) ix0 : EReal) = Ideal.ofBits .f32 w := rfl

theorem at_v3 (t : Fin 8192) (k : Fin 256) : v3 V0 (ix2 t k) = ((D.sh 3 t k : ℝ) : EReal) := by
  pointwise [v3, v2]
  unfold Inputs.sh
  by_cases h : t.val < 3
  · rw [dif_pos (by omega), if_pos h]; rfl
  · rw [dif_neg (by omega), if_neg h]
    have e := H.x ⟨t.val - 3, by omega⟩ k
    exact e

theorem at_v9 (t : Fin 8192) (k : Fin 256) : v9 V0 (ix2 t k) = ((D.sh 2 t k : ℝ) : EReal) := by
  pointwise [v9, v2]
  unfold Inputs.sh
  by_cases h : t.val < 2
  · rw [dif_pos (by omega), if_pos h]; rfl
  · rw [dif_neg (by omega), if_neg h]
    have e := H.x ⟨t.val - 2, by omega⟩ k
    simp only [show 1 + ↑t - 3 = t.val - 2 by omega]
    exact e

theorem at_v16 (t : Fin 8192) (k : Fin 256) : v16 V0 (ix2 t k) = ((D.sh 1 t k : ℝ) : EReal) := by
  pointwise [v16, v2]
  unfold Inputs.sh
  by_cases h : t.val < 1
  · rw [dif_pos (by omega), if_pos h]; rfl
  · rw [dif_neg (by omega), if_neg h]
    have e := H.x ⟨t.val - 1, by omega⟩ k
    simp only [show 2 + ↑t - 3 = t.val - 1 by omega]
    exact e

theorem at_v23 (t : Fin 8192) (k : Fin 256) : v23 V0 (ix2 t k) = ((D.X t k : ℝ) : EReal) := by
  pointwise [v23, v2]
  exact H.x t k

theorem at_v6 (k : Fin 256) : v6 V0 (ix2 0 k) = ((D.W 0 k : ℝ) : EReal) := by
  pointwise [v6]
  exact H.w 0 k

theorem at_v12 (k : Fin 256) : v12 V0 (ix2 0 k) = ((D.W 1 k : ℝ) : EReal) := by
  pointwise [v12]
  exact H.w 1 k

theorem at_v19 (k : Fin 256) : v19 V0 (ix2 0 k) = ((D.W 2 k : ℝ) : EReal) := by
  pointwise [v19]
  exact H.w 2 k

theorem at_v26 (k : Fin 256) : v26 V0 (ix2 0 k) = ((D.W 3 k : ℝ) : EReal) := by
  pointwise [v26]
  exact H.w 3 k

theorem at_v31 (t : Fin 8192) (k : Fin 256) : v31 V0 (ix2 t k) = ((D.xc t k : ℝ) : EReal) := by
  pointwise [v31]
  rw [at_v3 H, at_v9 H, at_v16 H, at_v23 H, at_v6 H, at_v12 H, at_v19 H, at_v26 H, H.cb k]
  simp only [← EReal.coe_mul, ← EReal.coe_add, ← EReal.coe_neg, ← EReal.coe_sub, ← EReal.coe_one, ← EReal.coe_zero]
  rfl

theorem at_v40 (t : Fin 8192) (k : Fin 256) : v40 V0 (ix2 t k) = ((D.ig t k : ℝ) : EReal) := by
  pointwise [v40]
  rw [H.bx k, Finset.sum_congr rfl fun x _ => by rw [at_v31 H t x, H.wx x k, ← EReal.coe_mul], coe_sum, ← EReal.coe_add, sig_real]
  rfl

theorem at_v49 (t : Fin 8192) (k : Fin 256) : v49 V0 (ix2 t k) = ((D.r t k : ℝ) : EReal) := by
  pointwise [v49]
  rw [H.ba k, Finset.sum_congr rfl fun x _ => by rw [at_v31 H t x, H.wa x k, ← EReal.coe_mul], coe_sum, ← EReal.coe_add, sig_real]
  rfl

theorem at_v52 (k : Fin 256) : v52 V0 (ix2 0 k) = ((-D.lam k : ℝ) : EReal) := by
  pointwise [v52]
  rw [H.lam k, ← EReal.coe_neg]

theorem at_v53 (k : Fin 256) : v53 V0 (ix2 0 k) = ((D.sp k : ℝ) : EReal) := by
  pointwise [v53, ngd, zro]
  rw [if_neg (by simp), at_v52 H]
  exact softplus_real _

theorem at_v51 (t : Fin 8192) (k : Fin 256) : v51 V0 (ix2 t k) = ((-8 * D.r t k : ℝ) : EReal) := by
  pointwise [v51]
  rw [at_v49 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v55 (t : Fin 8192) (k : Fin 256) : v55 V0 (ix2 t k) = ((D.la t k : ℝ) : EReal) := by
  pointwise [v55]
  rw [at_v51 H, at_v53 H, ← EReal.coe_mul]
  rfl

theorem at_v61 (t : Fin 8192) (k : Fin 256) : v61 V0 (ix2 t k) = ((2 * D.la t k : ℝ) : EReal) := by
  pointwise [v61]
  rw [at_v55 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v63 (t : Fin 8192) (k : Fin 256) : v63 V0 (ix2 t k) = ((D.sq t k : ℝ) : EReal) := by
  pointwise [v63]
  rw [at_v61 H, Ideal.exp_coe, ← EReal.coe_one, ← EReal.coe_sub, ← EReal.coe_neg]
  exact congrArg _ (by unfold Inputs.sq; ring)

theorem at_v66 (t : Fin 8192) (k : Fin 256) : v66 V0 (ix2 t k) = ((Real.sqrt (max (D.sq t k) eps) : ℝ) : EReal) := by
  pointwise [v66]
  rw [at_v63 H]
  simp only [ofBits_two, ofBits_three, ofBits_half, ofBits_neg_eight, ofBits_eps, ofBits_c0]
  rw [coe_max, sqrt_real _ (le_max_of_le_right eps_pos.le)]

omit H in
theorem at_first (t : Fin 8192) (k : Fin 256) :
    first V0 (ix2 t k) = BitVec.ofBool (decide (t.val = 0)) := by
  pointwise [first]
  exact cmpi_eq_zero t t.isLt
omit H in
theorem at_before (t s : Fin 8192) (k : Fin 256) :
    before V0 (ix3 t s k) = BitVec.ofBool (decide (s.val ≤ t.val)) := by
  pointwise [before, v77]
  exact cmpi_sge t s t.isLt s.isLt
theorem at_v67 (t : Fin 8192) (k : Fin 256) : v67 V0 (ix2 t k) = ((D.mu t k : ℝ) : EReal) := by
  pointwise [v67]
  rw [at_first, select_decide, at_constant, at_v66 H, Ideal.ofBits_one_f32, ← EReal.coe_one, ite_real]
  rfl

theorem at_v68 (t : Fin 8192) (k : Fin 256) : v68 V0 (ix2 t k) = ((D.mu t k * D.ig t k : ℝ) : EReal) := by
  pointwise [v68]
  rw [at_v67 H, at_v40 H, ← EReal.coe_mul]

theorem at_v88 (t : Fin 8192) (k : Fin 256) : v88 V0 (ix3 0 t k) = ((D.u t k : ℝ) : EReal) := by
  pointwise [v88]
  rw [at_v68 H, at_v31 H, ← EReal.coe_mul]
  rfl

theorem at_v80 (t : Fin 8192) (k : Fin 256) : v80 V0 (ix2 t k) = ((D.L t k : ℝ) : EReal) := by
  pointwise [v80]
  rw [Finset.sum_congr rfl fun x _ => by
    rw [at_before, select_decide, at_constant, at_v55 H, Ideal.ofBits_zero_f32, ← EReal.coe_zero, ite_real], coe_sum]
  rfl

theorem at_v87 (t s : Fin 8192) (k : Fin 256) : v87 V0 (ix3 t s k) = ((if s.val ≤ t.val then D.E t s k else 0 : ℝ) : EReal) := by
  pointwise [v87]
  rw [at_before, select_decide, at_constant, at_v80 H, at_v80 H, ofBits_neg_inf, ← EReal.coe_sub]
  by_cases h : s.val ≤ t.val
  · rw [if_pos h, if_pos h, Ideal.exp_coe]; rfl
  · rw [if_neg h, if_neg h, Ideal.exp_bot]; rfl

theorem at_v91 (t : Fin 8192) (k : Fin 256) : v91 V0 (ix2 t k) = ((D.h t k : ℝ) : EReal) := by
  pointwise [v91]
  rw [Finset.sum_congr rfl fun x _ => by rw [at_v87 H, at_v88 H, ← EReal.coe_mul, ite_mul, zero_mul], coe_sum]
  rfl

omit H

/-- Which row is the first, as one column. -/
def isFirst (V0 : Valuation τ sig (Elt F)) : (Proc.devRef .tc main_v59 : DevRef τ sig).ty.Contents (Elt F) :=
cmpi .eq (broadcastInDim S8192x1 ![0] bcast_S8192_S8192x1_0 (iotaInDim S8192 32 0)) (broadcastInDim S8192x1 ![] bcast_S_S8192x1 (constantI S_ 32 0#32))

/-- One. -/
def one (V0 : Valuation τ sig (Elt F)) : (Proc.devRef .tc main_cst_7 : DevRef τ sig).ty.Contents (Elt F) :=
constant S_ .f32 0x3F800000#32

/-- The recurrence's input. -/
def input (V0 : Valuation τ sig (Elt F)) : (Proc.devRef .tc main_v69 : DevRef τ sig).ty.Contents (Elt F) :=
mulf (v68 V0) (v31 V0)

/-- The decay's logarithm for every row. -/
def logs (V0 : Valuation τ sig (Elt F)) : (Proc.devRef .tc main_v78 : DevRef τ sig).ty.Contents (Elt F) :=
broadcastInDim S1x8192x256 ![1, 2] bcast_S8192x256_S1x8192x256_1_2 (v55 V0)

/-- Zero. -/
def nought (V0 : Valuation τ sig (Elt F)) : (Proc.devRef .tc main_cst_8 : DevRef τ sig).ty.Contents (Elt F) :=
constant S_ .f32 0x00000000#32

/-- The decays' logarithms up to a row. -/
def maskedLogs (V0 : Valuation τ sig (Elt F)) : (Proc.devRef .tc main_v79 : DevRef τ sig).ty.Contents (Elt F) :=
select (before V0) (broadcastInDim S8192x8192x256 ![0, 1, 2] bcast_S1x8192x256_S8192x8192x256_0_1_2 (broadcastInDim S1x8192x256 ![1, 2] bcast_S8192x256_S1x8192x256_1_2 (v55 V0))) (broadcastInDim S8192x8192x256 ![] bcast_S_S8192x8192x256 (id (constant S_ .f32 0x00000000#32)))

/-- The difference of the sums at two rows. -/
def spans (V0 : Valuation τ sig (Elt F)) : (Proc.devRef .tc main_v85 : DevRef τ sig).ty.Contents (Elt F) :=
subf (broadcastInDim S8192x8192x256 ![0, 1, 2] bcast_S8192x1x256_S8192x8192x256_0_1_2 (broadcastInDim S8192x1x256 ![0, 2] bcast_S8192x256_S8192x1x256_0_2 (v80 V0))) (broadcastInDim S8192x8192x256 ![0, 1, 2] bcast_S1x8192x256_S8192x8192x256_0_1_2 (broadcastInDim S1x8192x256 ![1, 2] bcast_S8192x256_S1x8192x256_1_2 (v80 V0)))

/-- Minus infinity. -/
def never (V0 : Valuation τ sig (Elt F)) : (Proc.devRef .tc main_cst_10 : DevRef τ sig).ty.Contents (Elt F) :=
constant S_ .f32 0xFF800000#32

/-- The difference of the sums at two rows, where the second is not after the first. -/
def maskedSpans (V0 : Valuation τ sig (Elt F)) : (Proc.devRef .tc main_v86 : DevRef τ sig).ty.Contents (Elt F) :=
select (before V0) (subf (broadcastInDim S8192x8192x256 ![0, 1, 2] bcast_S8192x1x256_S8192x8192x256_0_1_2 (broadcastInDim S8192x1x256 ![0, 2] bcast_S8192x256_S8192x1x256_0_2 (v80 V0))) (broadcastInDim S8192x8192x256 ![0, 1, 2] bcast_S1x8192x256_S8192x8192x256_0_1_2 (broadcastInDim S1x8192x256 ![1, 2] bcast_S8192x256_S1x8192x256_1_2 (v80 V0)))) (broadcastInDim S8192x8192x256 ![] bcast_S_S8192x8192x256 (id (constant S_ .f32 0xFF800000#32)))

/-- The buffers after the first line of operations. -/
def upto0 (V0 : Valuation τ sig (Elt F)) : Valuation τ sig (Elt F) := StableHlo.after hostOps0 V0

set_option maxHeartbeats 2000000 in
theorem upto0_main_v31 (V0 : Valuation τ sig (Elt F)) : upto0 V0 (no_index (Proc.devRef .tc main_v31)) = v31 V0 := by
  unfold upto0
  simp only [hostOps0, TRef.nullary, TRef.ternary, TRef.binary, TRef.unary, TRef.toBuf, TRef.ofBuf, cast_eq]
  after_results_simp
  rfl

set_option maxHeartbeats 2000000 in
theorem upto0_main_v40 (V0 : Valuation τ sig (Elt F)) : upto0 V0 (no_index (Proc.devRef .tc main_v40)) = v40 V0 := by
  unfold upto0
  simp only [hostOps0, TRef.nullary, TRef.ternary, TRef.binary, TRef.unary, TRef.toBuf, TRef.ofBuf, cast_eq]
  after_results_simp
  rfl

set_option maxHeartbeats 2000000 in
theorem upto0_main_v51 (V0 : Valuation τ sig (Elt F)) : upto0 V0 (no_index (Proc.devRef .tc main_v51)) = v51 V0 := by
  unfold upto0
  simp only [hostOps0, TRef.nullary, TRef.ternary, TRef.binary, TRef.unary, TRef.toBuf, TRef.ofBuf, cast_eq]
  after_results_simp
  rfl

set_option maxHeartbeats 2000000 in
theorem upto0_main_v52 (V0 : Valuation τ sig (Elt F)) : upto0 V0 (no_index (Proc.devRef .tc main_v52)) = v52 V0 := by
  unfold upto0
  simp only [hostOps0, TRef.nullary, TRef.ternary, TRef.binary, TRef.unary, TRef.toBuf, TRef.ofBuf, cast_eq]
  after_results_simp
  rfl

/-- The buffers after the first 2 lines of operations. -/
def upto1 (V0 : Valuation τ sig (Elt F)) : Valuation τ sig (Elt F) := StableHlo.after hostOps0_1 (upto0 V0)

set_option maxHeartbeats 2000000 in
theorem upto1_main_v31 (V0 : Valuation τ sig (Elt F)) : upto1 V0 (no_index (Proc.devRef .tc main_v31)) = v31 V0 := by
  unfold upto1
  simp only [hostOps0_1, TRef.nullary, TRef.ternary, TRef.binary, TRef.unary, TRef.toBuf, TRef.ofBuf, cast_eq]
  after_results_simp
  first | (simp only [upto0_main_v31, upto0_main_v40, upto0_main_v51, upto0_main_v52] <;> rfl) | rfl

set_option maxHeartbeats 2000000 in
theorem upto1_main_v40 (V0 : Valuation τ sig (Elt F)) : upto1 V0 (no_index (Proc.devRef .tc main_v40)) = v40 V0 := by
  unfold upto1
  simp only [hostOps0_1, TRef.nullary, TRef.ternary, TRef.binary, TRef.unary, TRef.toBuf, TRef.ofBuf, cast_eq]
  after_results_simp
  first | (simp only [upto0_main_v31, upto0_main_v40, upto0_main_v51, upto0_main_v52] <;> rfl) | rfl

set_option maxHeartbeats 2000000 in
theorem upto1_main_v51 (V0 : Valuation τ sig (Elt F)) : upto1 V0 (no_index (Proc.devRef .tc main_v51)) = v51 V0 := by
  unfold upto1
  simp only [hostOps0_1, TRef.nullary, TRef.ternary, TRef.binary, TRef.unary, TRef.toBuf, TRef.ofBuf, cast_eq]
  after_results_simp
  first | (simp only [upto0_main_v31, upto0_main_v40, upto0_main_v51, upto0_main_v52] <;> rfl) | rfl

set_option maxHeartbeats 2000000 in
theorem upto1_main_v53 (V0 : Valuation τ sig (Elt F)) : upto1 V0 (no_index (Proc.devRef .tc main_v53)) = v53 V0 := by
  unfold upto1
  simp only [hostOps0_1, TRef.nullary, TRef.ternary, TRef.binary, TRef.unary, TRef.toBuf, TRef.ofBuf, cast_eq]
  after_results_simp
  first | (simp only [upto0_main_v31, upto0_main_v40, upto0_main_v51, upto0_main_v52] <;> rfl) | rfl

/-- The buffers after the first 3 lines of operations. -/
def upto2 (V0 : Valuation τ sig (Elt F)) : Valuation τ sig (Elt F) := StableHlo.after hostOps0_2 (upto1 V0)

set_option maxHeartbeats 2000000 in
theorem upto2_main_v31 (V0 : Valuation τ sig (Elt F)) : upto2 V0 (no_index (Proc.devRef .tc main_v31)) = v31 V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

set_option maxHeartbeats 2000000 in
theorem upto2_main_v40 (V0 : Valuation τ sig (Elt F)) : upto2 V0 (no_index (Proc.devRef .tc main_v40)) = v40 V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

set_option maxHeartbeats 2000000 in
theorem upto2_main_v55 (V0 : Valuation τ sig (Elt F)) : upto2 V0 (no_index (Proc.devRef .tc main_v55)) = v55 V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

set_option maxHeartbeats 2000000 in
theorem upto2_main_v66 (V0 : Valuation τ sig (Elt F)) : upto2 V0 (no_index (Proc.devRef .tc main_v66)) = v66 V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

set_option maxHeartbeats 2000000 in
theorem upto2_main_v59 (V0 : Valuation τ sig (Elt F)) : upto2 V0 (no_index (Proc.devRef .tc main_v59)) = isFirst V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

set_option maxHeartbeats 2000000 in
theorem upto2_main_cst_7 (V0 : Valuation τ sig (Elt F)) : upto2 V0 (no_index (Proc.devRef .tc main_cst_7)) = one V0 := by
  unfold upto2
  simp only [hostOps0_2, TRef.nullary, TRef.ternary, TRef.binary, TRef.unary, TRef.toBuf, TRef.ofBuf, cast_eq]
  after_results_simp
  first | (simp only [upto1_main_v31, upto1_main_v40, upto1_main_v51, upto1_main_v53] <;> rfl) | rfl

/-- The buffers after the first 4 lines of operations. -/
def upto3 (V0 : Valuation τ sig (Elt F)) : Valuation τ sig (Elt F) := StableHlo.after hostOps0_3 (upto2 V0)

set_option maxHeartbeats 2000000 in
theorem upto3_main_v31 (V0 : Valuation τ sig (Elt F)) : upto3 V0 (no_index (Proc.devRef .tc main_v31)) = v31 V0 := by
  unfold upto3
  simp only [hostOps0_3, TRef.nullary, TRef.ternary, TRef.binary, TRef.unary, TRef.toBuf, TRef.ofBuf, cast_eq]
  after_results_simp
  first | (simp only [upto2_main_v31, upto2_main_v40, upto2_main_v55, upto2_main_v66, upto2_main_v59, upto2_main_cst_7] <;> rfl) | rfl

set_option maxHeartbeats 2000000 in
theorem upto3_main_v40 (V0 : Valuation τ sig (Elt F)) : upto3 V0 (no_index (Proc.devRef .tc main_v40)) = v40 V0 := by
  unfold upto3
  simp only [hostOps0_3, TRef.nullary, TRef.ternary, TRef.binary, TRef.unary, TRef.toBuf, TRef.ofBuf, cast_eq]
  after_results_simp
  first | (simp only [upto2_main_v31, upto2_main_v40, upto2_main_v55, upto2_main_v66, upto2_main_v59, upto2_main_cst_7] <;> rfl) | rfl

set_option maxHeartbeats 2000000 in
theorem upto3_main_v55 (V0 : Valuation τ sig (Elt F)) : upto3 V0 (no_index (Proc.devRef .tc main_v55)) = v55 V0 := by
  unfold upto3
  simp only [hostOps0_3, TRef.nullary, TRef.ternary, TRef.binary, TRef.unary, TRef.toBuf, TRef.ofBuf, cast_eq]
  after_results_simp
  first | (simp only [upto2_main_v31, upto2_main_v40, upto2_main_v55, upto2_main_v66, upto2_main_v59, upto2_main_cst_7] <;> rfl) | rfl

set_option maxHeartbeats 2000000 in
theorem upto3_main_v67 (V0 : Valuation τ sig (Elt F)) : upto3 V0 (no_index (Proc.devRef .tc main_v67)) = v67 V0 := by
  unfold upto3
  simp only [hostOps0_3, TRef.nullary, TRef.ternary, TRef.binary, TRef.unary, TRef.toBuf, TRef.ofBuf, cast_eq]
  after_results_simp
  first | (simp only [upto2_main_v31, upto2_main_v40, upto2_main_v55, upto2_main_v66, upto2_main_v59, upto2_main_cst_7] <;> rfl) | rfl

/-- The buffers after the first 5 lines of operations. -/
def upto4 (V0 : Valuation τ sig (Elt F)) : Valuation τ sig (Elt F) := StableHlo.after hostOps0_4 (upto3 V0)

set_option maxHeartbeats 2000000 in
theorem upto4_main_v69 (V0 : Valuation τ sig (Elt F)) : upto4 V0 (no_index (Proc.devRef .tc main_v69)) = input V0 := by
  unfold upto4
  simp only [hostOps0_4, TRef.nullary, TRef.ternary, TRef.binary, TRef.unary, TRef.toBuf, TRef.ofBuf, cast_eq]
  after_results_simp
  first | (simp only [upto3_main_v31, upto3_main_v40, upto3_main_v55, upto3_main_v67] <;> rfl) | rfl

set_option maxHeartbeats 2000000 in
theorem upto4_main_v77 (V0 : Valuation τ sig (Elt F)) : upto4 V0 (no_index (Proc.devRef .tc main_v77)) = v77 V0 := by
  unfold upto4
  simp only [hostOps0_4, TRef.nullary, TRef.ternary, TRef.binary, TRef.unary, TRef.toBuf, TRef.ofBuf, cast_eq]
  after_results_simp
  first | (simp only [upto3_main_v31, upto3_main_v40, upto3_main_v55, upto3_main_v67] <;> rfl) | rfl

set_option maxHeartbeats 2000000 in
theorem upto4_main_v78 (V0 : Valuation τ sig (Elt F)) : upto4 V0 (no_index (Proc.devRef .tc main_v78)) = logs V0 := by
  unfold upto4
  simp only [hostOps0_4, TRef.nullary, TRef.ternary, TRef.binary, TRef.unary, TRef.toBuf, TRef.ofBuf, cast_eq]
  after_results_simp
  first | (simp only [upto3_main_v31, upto3_main_v40, upto3_main_v55, upto3_main_v67] <;> rfl) | rfl

set_option maxHeartbeats 2000000 in
theorem upto4_main_cst_8 (V0 : Valuation τ sig (Elt F)) : upto4 V0 (no_index (Proc.devRef .tc main_cst_8)) = nought V0 := by
  unfold upto4
  simp only [hostOps0_4, TRef.nullary, TRef.ternary, TRef.binary, TRef.unary, TRef.toBuf, TRef.ofBuf, cast_eq]
  after_results_simp
  first | (simp only [upto3_main_v31, upto3_main_v40, upto3_main_v55, upto3_main_v67] <;> rfl) | rfl

/-- The buffers after the first 6 lines of operations. -/
def upto5 (V0 : Valuation τ sig (Elt F)) : Valuation τ sig (Elt F) := StableHlo.after hostOps0_5 (upto4 V0)

set_option maxHeartbeats 2000000 in
theorem upto5_main_v69 (V0 : Valuation τ sig (Elt F)) : upto5 V0 (no_index (Proc.devRef .tc main_v69)) = input V0 := by
  unfold upto5
  simp only [hostOps0_5, TRef.nullary, TRef.ternary, TRef.binary, TRef.unary, TRef.toBuf, TRef.ofBuf, cast_eq]
  after_results_simp
  first | (simp only [upto4_main_v69, upto4_main_v77, upto4_main_v78, upto4_main_cst_8] <;> rfl) | rfl

set_option maxHeartbeats 2000000 in
theorem upto5_main_v77 (V0 : Valuation τ sig (Elt F)) : upto5 V0 (no_index (Proc.devRef .tc main_v77)) = v77 V0 := by
  unfold upto5
  simp only [hostOps0_5, TRef.nullary, TRef.ternary, TRef.binary, TRef.unary, TRef.toBuf, TRef.ofBuf, cast_eq]
  after_results_simp
  first | (simp only [upto4_main_v69, upto4_main_v77, upto4_main_v78, upto4_main_cst_8] <;> rfl) | rfl

set_option maxHeartbeats 2000000 in
theorem upto5_main_v79 (V0 : Valuation τ sig (Elt F)) : upto5 V0 (no_index (Proc.devRef .tc main_v79)) = maskedLogs V0 := by
  unfold upto5
  simp only [hostOps0_5, TRef.nullary, TRef.ternary, TRef.binary, TRef.unary, TRef.toBuf, TRef.ofBuf, cast_eq]
  after_results_simp
  first | (simp only [upto4_main_v69, upto4_main_v77, upto4_main_v78, upto4_main_cst_8] <;> rfl) | rfl

/-- The buffers after the first 7 lines of operations. -/
def upto6 (V0 : Valuation τ sig (Elt F)) : Valuation τ sig (Elt F) := StableHlo.after hostOps0_6 (upto5 V0)

set_option maxHeartbeats 2000000 in
theorem upto6_main_v69 (V0 : Valuation τ sig (Elt F)) : upto6 V0 (no_index (Proc.devRef .tc main_v69)) = input V0 := by
  unfold upto6
  simp only [hostOps0_6, TRef.nullary, TRef.ternary, TRef.binary, TRef.unary, TRef.toBuf, TRef.ofBuf, cast_eq]
  after_results_simp
  first | (simp only [upto5_main_v69, upto5_main_v77, upto5_main_v79] <;> rfl) | rfl

set_option maxHeartbeats 2000000 in
theorem upto6_main_v77 (V0 : Valuation τ sig (Elt F)) : upto6 V0 (no_index (Proc.devRef .tc main_v77)) = v77 V0 := by
  unfold upto6
  simp only [hostOps0_6, TRef.nullary, TRef.ternary, TRef.binary, TRef.unary, TRef.toBuf, TRef.ofBuf, cast_eq]
  after_results_simp
  first | (simp only [upto5_main_v69, upto5_main_v77, upto5_main_v79] <;> rfl) | rfl

set_option maxHeartbeats 2000000 in
theorem upto6_main_v85 (V0 : Valuation τ sig (Elt F)) : upto6 V0 (no_index (Proc.devRef .tc main_v85)) = spans V0 := by
  unfold upto6
  simp only [hostOps0_6, TRef.nullary, TRef.ternary, TRef.binary, TRef.unary, TRef.toBuf, TRef.ofBuf, cast_eq]
  after_results_simp
  first | (simp only [upto5_main_v69, upto5_main_v77, upto5_main_v79] <;> rfl) | rfl

set_option maxHeartbeats 2000000 in
theorem upto6_main_cst_10 (V0 : Valuation τ sig (Elt F)) : upto6 V0 (no_index (Proc.devRef .tc main_cst_10)) = never V0 := by
  unfold upto6
  simp only [hostOps0_6, TRef.nullary, TRef.ternary, TRef.binary, TRef.unary, TRef.toBuf, TRef.ofBuf, cast_eq]
  after_results_simp
  first | (simp only [upto5_main_v69, upto5_main_v77, upto5_main_v79] <;> rfl) | rfl

/-- The buffers after the first 8 lines of operations. -/
def upto7 (V0 : Valuation τ sig (Elt F)) : Valuation τ sig (Elt F) := StableHlo.after hostOps0_7 (upto6 V0)

set_option maxHeartbeats 2000000 in
theorem upto7_main_v69 (V0 : Valuation τ sig (Elt F)) : upto7 V0 (no_index (Proc.devRef .tc main_v69)) = input V0 := by
  unfold upto7
  simp only [hostOps0_7, TRef.nullary, TRef.ternary, TRef.binary, TRef.unary, TRef.toBuf, TRef.ofBuf, cast_eq]
  after_results_simp
  first | (simp only [upto6_main_v69, upto6_main_v77, upto6_main_v85, upto6_main_cst_10] <;> rfl) | rfl

set_option maxHeartbeats 2000000 in
theorem upto7_main_v86 (V0 : Valuation τ sig (Elt F)) : upto7 V0 (no_index (Proc.devRef .tc main_v86)) = maskedSpans V0 := by
  unfold upto7
  simp only [hostOps0_7, TRef.nullary, TRef.ternary, TRef.binary, TRef.unary, TRef.toBuf, TRef.ofBuf, cast_eq]
  after_results_simp
  first | (simp only [upto6_main_v69, upto6_main_v77, upto6_main_v85, upto6_main_cst_10] <;> rfl) | rfl

/-- The buffers after the first 9 lines of operations. -/
def upto8 (V0 : Valuation τ sig (Elt F)) : Valuation τ sig (Elt F) := StableHlo.after hostOps0_8 (upto7 V0)

set_option maxHeartbeats 2000000 in
theorem upto8_main_v91 (V0 : Valuation τ sig (Elt F)) : upto8 V0 (no_index (Proc.devRef .tc main_v91)) = v91 V0 := by
  unfold upto8
  simp only [hostOps0_8, TRef.nullary, TRef.ternary, TRef.binary, TRef.unary, TRef.toBuf, TRef.ofBuf, cast_eq]
  after_results_simp
  first | (simp only [upto7_main_v69, upto7_main_v86] <;> rfl) | rfl

theorem launched (m : (ℓ : Loc nD τ sig) → Buf (Elt F) ℓ) (c : Dev nD) :
    V m c main_v91 = v91 (fun b => m (c, b)) := by
  refine Eq.trans ?_ (upto8_main_v91 _)
  unfold upto8 upto7 upto6 upto5 upto4 upto3 upto2 upto1 upto0
  simp only [V, List.flatten_cons, List.flatten_nil, List.append_nil, StableHlo.after_append]

end Cert.KernelIdeal.Hosted

end
-- ==== Proof.KerValue.lean ====
/- The values over the real numbers of what one grid point computes. -/
module

public import proofs.«01_k».proof.Proof.Point
public import proofs.«01_k».proof.Proof.Words

@[expose] public section

set_option maxRecDepth 16384

noncomputable section

namespace Cert.Mixer

open Idealize.ShloMosaic

theorem ofBits_bound : Ideal.ofBits .f32 0xBC23D70A#32 = ((-(10737418 / 2 ^ 30) : ℝ) : EReal) := by
  simp [Ideal.ofBits, Ideal.ieee, -EReal.coe_mul, -EReal.coe_neg]; norm_num

theorem sig_real' (x : ℝ) : Ideal.div 1 (1 + Ideal.exp (0 - (x : EReal))) = ((sig x : ℝ) : EReal) := by
  rw [zero_sub, sig_real]

theorem log_real (x : ℝ) (h : 0 < x) : Ideal.log (x : EReal) = ((Real.log x : ℝ) : EReal) := by
  rw [Ideal.log_coe, if_neg (not_le.mpr h)]

theorem mul_sum_coe {n : ℕ} (f g : Fin n → EReal) (f' g' : Fin n → ℝ) (hf : ∀ x, f x = (f' x : EReal)) (hg : ∀ x, g x = (g' x : EReal)) :
    ∑ x, f x * g x = ((∑ x, f' x * g' x : ℝ) : EReal) := by
  rw [← coe_sum]; exact Finset.sum_congr rfl fun x _ => by rw [hf, hg, ← EReal.coe_mul]

/-- The decays stay away from one. -/
def Decays (D : Inputs) : Prop := ∀ (t : Fin 8192) (k : Fin 256), 2 * D.la t k ≤ -(10737418 / 2 ^ 30)

theorem mu_pos (D : Inputs) (t k : ℕ) : 0 < D.mu t k := by
  unfold Inputs.mu
  split
  · exact one_pos
  · exact Real.sqrt_pos.mpr (lt_max_of_lt_right eps_pos)

namespace Inputs

variable (D : Inputs)

/-- The product of the decays of `n` rows from row `t` on. -/
def fac : ℕ → ℕ → ℕ → ℝ
  | 0, _, _ => 1
  | n + 1, t, k => D.a t k * fac n (t + 1) k

theorem fac_add (n m t k : ℕ) : D.fac (n + m) t k = D.fac n t k * D.fac m (t + n) k := by
  induction n generalizing t with
  | zero => simp [fac]
  | succ n ih =>
    rw [show n + 1 + m = (n + m) + 1 by omega]
    simp only [fac]
    rw [ih (t + 1), show t + 1 + n = t + (n + 1) by omega, mul_assoc]

theorem run_affine (n t k : ℕ) (c : ℝ) : D.run n t k c = D.run n t k 0 + D.fac n t k * c := by
  induction n generalizing t with
  | zero => simp [run, fac]
  | succ n ih => simp only [run, fac]; rw [ih (t + 1)]; ring

theorem run_join (n m t k : ℕ) : D.run (n + m) t k 0 = D.run n t k 0 + D.fac n t k * D.run m (t + n) k 0 := by
  rw [run_add, run_affine]

end Inputs

end Cert.Mixer

namespace Cert.KernelIdeal.Point

open Idealize.ShloMosaic Cert.KernelIdeal Cert.KernelIdeal.Gen Cert.Mixer

/-- The blocks of a grid point hold the rows of `D` from row `b` on. -/
structure Tile (D : Inputs) (i : grid0.Coords) (b : ℕ) (B : Blocks Ideal) : Prop where
  base : b + 512 * (i 0).val = 7680
  x : ∀ (r : Fin 512) (k : Fin 256), B.x (ix2 r k) = ((D.X (b + r) k : ℝ) : EReal)
  xp : b ≠ 0 → ∀ (r : Fin 8) (k : Fin 256), B.xp (ix2 r k) = ((D.X (b - 8 + r) k : ℝ) : EReal)
  y : ∀ (r : Fin 512) (k : Fin 256), B.y (ix2 r k) = ((D.Y (b + r) k : ℝ) : EReal)
  w : ∀ (j : Fin 4) (k : Fin 256), B.w (ix2 j k) = ((D.W j k : ℝ) : EReal)
  cb : ∀ k : Fin 256, B.cb (ix2 0 k) = ((D.cb k : ℝ) : EReal)
  wa : ∀ x k : Fin 256, B.wa (ix2 x k) = ((D.wa x k : ℝ) : EReal)
  ba : ∀ k : Fin 256, B.ba (ix2 0 k) = ((D.ba k : ℝ) : EReal)
  wx : ∀ x k : Fin 256, B.wx (ix2 x k) = ((D.wx x k : ℝ) : EReal)
  bx : ∀ k : Fin 256, B.bx (ix2 0 k) = ((D.bx k : ℝ) : EReal)
  lam : ∀ k : Fin 256, B.lam (ix2 0 k) = ((D.lam k : ℝ) : EReal)
  h : ∀ (r : Fin 512) (k : Fin 256), B.h (ix2 r k) = ((D.h (b + r) k : ℝ) : EReal)
  hp : b ≠ 0 → ∀ (r : Fin 8) (k : Fin 256), B.hp (ix2 r k) = ((D.h (b - 8 + r) k : ℝ) : EReal)
  dm : ∀ (r : Fin 512) (k : Fin 256), B.dm (ix2 r k) = ((D.DM (b + r) k : ℝ) : EReal)

theorem at_cubic : Named.named (F := Ideal) (φ := .f32) κ "gelu_cubic" 0x3D372713#32 = ((8943 / 200000 : ℝ) : EReal) := rfl

theorem at_cubic_grad : Named.named (F := Ideal) (φ := .f32) κ "gelu_cubic_grad" 0x3E095D4F#32 = ((26829 / 200000 : ℝ) : EReal) := rfl

variable {D : Inputs} {i : grid0.Coords} {b : ℕ} {B : Blocks Ideal} (T : Tile D i b B)
include T

theorem at_isTop : isTop i = BitVec.ofBool (decide (b = 0)) := by
  have h := T.base
  have hi : (i 0).val < 16 := (i 0).isLt
  unfold isTop Scalar.cmpi IntOp.cmpi
  refine congrArg BitVec.ofBool ?_
  rw [Bool.eq_iff_iff]
  simp only [beq_iff_eq, decide_eq_true_eq]
  constructor
  · intro e
    have h1 : (i 0).val % 2 ^ 32 = 15 := by simpa using congrArg BitVec.toNat e
    omega
  · intro e
    have : (i 0).val = 15 := by omega
    rw [this]

theorem at_sh3 (r : Fin 512) (k : Fin 256) : sh3 i B (ix2 r k) = ((D.sh 3 (b + r) k : ℝ) : EReal) := by
  have h := T.base
  have hR : ¬ b + r.val < 3 → D.sh 3 (b + r) k = D.X (b + r - 3) k := fun h => if_neg h
  have hZ : b + r.val < 3 → D.sh 3 (b + r) k = 0 := fun h => if_pos h
  pointwise [sh3, k0_pay10, k0_pay9, k0_pay25]
  by_cases h8 : r.val < 8
  · refine (dif_pos h8).trans ?_
    rw [cmpi_slt r.val 3 (by omega) (by omega), select_decide]
    by_cases hn : r.val < 3
    · rw [if_pos hn]
      have e := at_isTop T
      unfold isTop at e
      rw [e, select_decide]
      by_cases hb : b = 0
      · rw [if_pos hb, hZ (by omega)]; rfl
      · rw [if_neg hb, hR (by omega)]
        exact (T.xp hb _ k).trans (congrArg (fun n => ((D.X n k : ℝ) : EReal)) (by show b - 8 + (r.val + 8 - 3) % 8 = _; omega))
    · rw [if_neg hn, hR (by omega)]
      exact (T.x _ k).trans (congrArg (fun n => ((D.X n k : ℝ) : EReal)) (by show b + (r.val + 512 - 3) % 512 = _; omega))
  · refine (dif_neg h8).trans ((T.x _ k).trans (congrArg (fun n : ℝ => (n : EReal)) ?_))
    refine Eq.trans ?_ (hR (by omega)).symm
    exact congrArg (fun n => D.X n k) (by show b + (8 + (r.val - 8) + 512 - 3) % 512 = _; omega)

theorem at_sh2 (r : Fin 512) (k : Fin 256) : sh2 i B (ix2 r k) = ((D.sh 2 (b + r) k : ℝ) : EReal) := by
  have h := T.base
  have hR : ¬ b + r.val < 2 → D.sh 2 (b + r) k = D.X (b + r - 2) k := fun h => if_neg h
  have hZ : b + r.val < 2 → D.sh 2 (b + r) k = 0 := fun h => if_pos h
  pointwise [sh2, k0_pay11, k0_pay9, k0_pay25]
  by_cases h8 : r.val < 8
  · refine (dif_pos h8).trans ?_
    rw [cmpi_slt r.val 2 (by omega) (by omega), select_decide]
    by_cases hn : r.val < 2
    · rw [if_pos hn]
      have e := at_isTop T
      unfold isTop at e
      rw [e, select_decide]
      by_cases hb : b = 0
      · rw [if_pos hb, hZ (by omega)]; rfl
      · rw [if_neg hb, hR (by omega)]
        exact (T.xp hb _ k).trans (congrArg (fun n => ((D.X n k : ℝ) : EReal)) (by show b - 8 + (r.val + 8 - 2) % 8 = _; omega))
    · rw [if_neg hn, hR (by omega)]
      exact (T.x _ k).trans (congrArg (fun n => ((D.X n k : ℝ) : EReal)) (by show b + (r.val + 512 - 2) % 512 = _; omega))
  · refine (dif_neg h8).trans ((T.x _ k).trans (congrArg (fun n : ℝ => (n : EReal)) ?_))
    refine Eq.trans ?_ (hR (by omega)).symm
    exact congrArg (fun n => D.X n k) (by show b + (8 + (r.val - 8) + 512 - 2) % 512 = _; omega)

theorem at_sh1 (r : Fin 512) (k : Fin 256) : sh1 i B (ix2 r k) = ((D.sh 1 (b + r) k : ℝ) : EReal) := by
  have h := T.base
  have hR : ¬ b + r.val < 1 → D.sh 1 (b + r) k = D.X (b + r - 1) k := fun h => if_neg h
  have hZ : b + r.val < 1 → D.sh 1 (b + r) k = 0 := fun h => if_pos h
  pointwise [sh1, k0_pay12, k0_pay9, k0_pay25]
  by_cases h8 : r.val < 8
  · refine (dif_pos h8).trans ?_
    rw [cmpi_slt r.val 1 (by omega) (by omega), select_decide]
    by_cases hn : r.val < 1
    · rw [if_pos hn]
      have e := at_isTop T
      unfold isTop at e
      rw [e, select_decide]
      by_cases hb : b = 0
      · rw [if_pos hb, hZ (by omega)]; rfl
      · rw [if_neg hb, hR (by omega)]
        exact (T.xp hb _ k).trans (congrArg (fun n => ((D.X n k : ℝ) : EReal)) (by show b - 8 + (r.val + 8 - 1) % 8 = _; omega))
    · rw [if_neg hn, hR (by omega)]
      exact (T.x _ k).trans (congrArg (fun n => ((D.X n k : ℝ) : EReal)) (by show b + (r.val + 512 - 1) % 512 = _; omega))
  · refine (dif_neg h8).trans ((T.x _ k).trans (congrArg (fun n : ℝ => (n : EReal)) ?_))
    refine Eq.trans ?_ (hR (by omega)).symm
    exact congrArg (fun n => D.X n k) (by show b + (8 + (r.val - 8) + 512 - 1) % 512 = _; omega)

theorem at_hprev (r : Fin 512) (k : Fin 256) : hprev i B (ix2 r k) = ((D.hp (b + r) k : ℝ) : EReal) := by
  have h := T.base
  have hR : ¬ b + r.val < 1 → D.hp (b + r) k = D.h (b + r - 1) k := fun h => if_neg (by omega)
  have hZ : b + r.val < 1 → D.hp (b + r) k = 0 := fun h => if_pos (by omega)
  pointwise [hprev, k0_pay26, k0_pay9, k0_pay25]
  by_cases h8 : r.val < 8
  · refine (dif_pos h8).trans ?_
    rw [cmpi_slt r.val 1 (by omega) (by omega), select_decide]
    by_cases hn : r.val < 1
    · rw [if_pos hn]
      have e := at_isTop T
      skip
      rw [e, select_decide]
      by_cases hb : b = 0
      · rw [if_pos hb, hZ (by omega)]; rfl
      · rw [if_neg hb, hR (by omega)]
        exact (T.hp hb _ k).trans (congrArg (fun n => ((D.h n k : ℝ) : EReal)) (by show b - 8 + (r.val + 8 - 1) % 8 = _; omega))
    · rw [if_neg hn, hR (by omega)]
      exact (T.h _ k).trans (congrArg (fun n => ((D.h n k : ℝ) : EReal)) (by show b + (r.val + 512 - 1) % 512 = _; omega))
  · refine (dif_neg h8).trans ((T.h _ k).trans (congrArg (fun n : ℝ => (n : EReal)) ?_))
    refine Eq.trans ?_ (hR (by omega)).symm
    exact congrArg (fun n => D.h n k) (by show b + (8 + (r.val - 8) + 512 - 1) % 512 = _; omega)

theorem at_xc (r : Fin 512) (k : Fin 256) : xc i B (ix2 r k) = ((D.xc (b + r) k : ℝ) : EReal) := by
  pointwise [xc, k0_pay14, k0_pay13]
  simp only [at_sh3 T, at_sh2 T, at_sh1 T, T.x, T.w, T.cb]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_top (r : Fin 512) (k : Fin 256) : top i (ix2 r k) = BitVec.ofBool (decide (b + r = 0)) := by
  have e := at_isTop T
  pointwise [top, k0_pay15]
  rw [e, cmpi_eq_zero r (by omega)]
  by_cases h1 : r.val = 0 <;> by_cases h2 : b = 0 <;> simp [h1, h2, IntOp.andi]

theorem at_rg (r : Fin 512) (k : Fin 256) : rg i B (ix2 r k) = ((D.r (b + r) k : ℝ) : EReal) := by
  pointwise [rg, k0_pay16]
  rw [mul_sum_coe _ _ _ _ (fun x => at_xc T r x) (fun x => T.wa x k), T.ba, ← EReal.coe_add, sig_real']
  rfl

theorem at_ig (r : Fin 512) (k : Fin 256) : ig i B (ix2 r k) = ((D.ig (b + r) k : ℝ) : EReal) := by
  pointwise [ig, k0_pay18, k0_pay17]
  rw [mul_sum_coe _ _ _ _ (fun x => at_xc T r x) (fun x => T.wx x k), T.bx, ← EReal.coe_add, sig_real']
  rfl

theorem at_sp (k : Fin 256) : k0_pay19 B.lam (ix2 0 k) = ((D.sp k : ℝ) : EReal) := by
  pointwise [k0_pay19]
  rw [T.lam, zero_sub, zero_sub, ← EReal.coe_neg]
  have e := softplus_real (-D.lam k)
  rw [Ideal.log1p] at e
  exact e

theorem at_la (r : Fin 512) (k : Fin 256) : k0_pay20 (rg i B) B.lam (ix2 r k) = ((D.la (b + r) k : ℝ) : EReal) := by
  pointwise [k0_pay20]
  simp only [at_rg T, at_sp T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_dec (r : Fin 512) (k : Fin 256) : dec i B (ix2 r k) = ((D.a (b + r) k : ℝ) : EReal) := by
  pointwise [dec, k0_pay21]
  simp only [at_la T, Ideal.exp_coe]
  rfl

theorem at_sq (P : Decays D) (r : Fin 512) (k : Fin 256) : sq i B (ix2 r k) = ((D.sq (b + r) k : ℝ) : EReal) := by
  have h := T.base
  pointwise [sq, k0_pay22]
  simp only [at_la T, ofBits_two, ofBits_bound, ← EReal.coe_mul]
  rw [if_neg (by rw [not_lt]; exact EReal.coe_le_coe_iff.mpr (P ⟨b + r, by omega⟩ k)), Ideal.exp_coe, ← EReal.coe_one, ← EReal.coe_sub]
  rfl

theorem at_mlt (P : Decays D) (r : Fin 512) (k : Fin 256) : mlt i B (ix2 r k) = ((D.mu (b + r) k : ℝ) : EReal) := by
  pointwise [mlt, k0_pay24, k0_pay23]
  simp only [at_top T, select_decide, at_sq T P]
  rw [ofBits_eps, coe_max, sqrt_real _ (le_max_of_le_right eps_pos.le), ← EReal.coe_one, ite_real]
  rfl

theorem at_th (r : Fin 512) (k : Fin 256) : k0_pay27 B.y (ix2 r k) = ((th (D.Y (b + r) k) : ℝ) : EReal) := by
  pointwise [k0_pay27]
  rw [at_cubic, T.y]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rw [Ideal.tanh_coe]
  rfl

theorem at_gl (r : Fin 512) (k : Fin 256) : k0_pay28 B.y (ix2 r k) = ((gl (D.Y (b + r) k) : ℝ) : EReal) := by
  pointwise [k0_pay28]
  rw [at_th T, T.y]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_dyg (r : Fin 512) (k : Fin 256) : dyg B (ix2 r k) = ((D.dy (b + r) k : ℝ) : EReal) := by
  pointwise [dyg, k0_pay32, k0_pay25, k0_pay29, k0_pay30, k0_pay31]
  rw [at_th T, T.y, T.h, T.dm, at_cubic_grad]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  exact congrArg _ (by unfold Inputs.dy dgl; ring)

theorem at_dh (r : Fin 512) (k : Fin 256) : dh B (ix2 r k) = ((D.d (b + r) k : ℝ) : EReal) := by
  pointwise [dh, k0_pay33]
  rw [at_gl T, T.dm]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_adh (r : Fin 512) (k : Fin 256) : adh i B (ix2 r k) = ((D.a (b + r) k * D.d (b + r) k : ℝ) : EReal) := by
  pointwise [adh, k0_pay34]
  simp only [at_dec T, at_dh T, ← EReal.coe_mul]

omit T in
theorem at_place (r : Fin 512) (k : Fin 256) : k0_pay35 (ix2 r k) = BitVec.ofNat 32 (r.val % 8) := by
  pointwise [k0_pay35]
  revert r
  decide +kernel

/-- The factors of two rows, one at the last row of a tile. -/
theorem at_fac2 (r : Fin 512) (k : Fin 256) :
    k0_pay40 (dec i B) (k0_pay37 (dec i B)) (ix2 r k) = ((D.fac (min 2 (8 - r.val % 8)) (b + r) k : ℝ) : EReal) := by
  pointwise [k0_pay40, k0_pay37, k0_pay36]
  rw [at_place, cmpi_slt _ 7 (by omega) (by omega), select_decide]
  by_cases h : r.val % 8 < 7
  · rw [if_pos h, at_dec T, at_dec T, ← EReal.coe_mul]
    refine congrArg _ ?_
    rw [show min 2 (8 - r.val % 8) = 2 by omega]
    have e : (r.val + 512 - 511) % 512 = r.val + 1 := by omega
    simp only [Inputs.fac, mul_one, e, Nat.add_assoc]
  · rw [if_neg h, at_dec T, mul_one]
    rw [show min 2 (8 - r.val % 8) = 1 by omega]
    simp only [Inputs.fac, mul_one]

theorem at_fac4 (r : Fin 512) (k : Fin 256) :
    k0_pay42 (dec i B) k0_pay35 (k0_pay37 (dec i B)) (ix2 r k) = ((D.fac (min 4 (8 - r.val % 8)) (b + r) k : ℝ) : EReal) := by
  pointwise [k0_pay42, k0_pay41]
  rw [at_place, cmpi_slt _ 6 (by omega) (by omega), select_decide]
  by_cases h : r.val % 8 < 6
  · rw [if_pos h, at_fac2 T, at_fac2 T, ← EReal.coe_mul]
    refine congrArg _ ?_
    have e : (r.val + 512 - 510) % 512 = r.val + 2 := by omega
    simp only [e]
    rw [show min 4 (8 - r.val % 8) = 2 + min 2 (8 - (r.val + 2) % 8) by omega, D.fac_add, show min 2 (8 - r.val % 8) = 2 by omega, Nat.add_assoc]
  · rw [if_neg h, at_fac2 T, mul_one, show min 4 (8 - r.val % 8) = min 2 (8 - r.val % 8) by omega]

theorem at_ta (r : Fin 512) (k : Fin 256) : ta i B (ix2 r k) = ((D.fac (8 - r.val % 8) (b + r) k : ℝ) : EReal) := by
  pointwise [ta, k0_pay45, k0_pay43]
  rw [at_place, cmpi_slt _ 4 (by omega) (by omega), select_decide]
  by_cases h : r.val % 8 < 4
  · rw [if_pos h, at_fac4 T, at_fac4 T, ← EReal.coe_mul]
    refine congrArg _ ?_
    have e : (r.val + 512 - 508) % 512 = r.val + 4 := by omega
    simp only [e]
    rw [show 8 - r.val % 8 = 4 + min 4 (8 - (r.val + 4) % 8) by omega, D.fac_add, show min 4 (4 + min 4 (8 - (r.val + 4) % 8)) = 4 by omega, Nat.add_assoc]
  · rw [if_neg h, at_fac4 T, mul_one, show min 4 (8 - r.val % 8) = 8 - r.val % 8 by omega]

end Cert.KernelIdeal.Point

end
-- ==== Proof.RefValue.lean ====
/- The reference's values over the real numbers. -/
module

public import proofs.«01_k».proof.Proof.Gen.ReferenceIdeal.Run
public import proofs.«01_k».proof.Proof.Words

@[expose] public section

set_option maxRecDepth 16384

noncomputable section

namespace Cert.ReferenceIdeal.Value

open Idealize.ShloMosaic Cert.ReferenceIdeal Cert.ReferenceIdeal.Gen Cert.Mixer

/-- The reference's arguments hold the numbers `D`. -/
abbrev Holds (D : Inputs) (V0 : Valuation τ sig (Elt Ideal)) : Prop :=
  Given D (fun t j => V0 (Proc.devRef .tc main_arg0) (ix2 t j)) (fun t j => V0 (Proc.devRef .tc main_arg1) (ix2 t j))
    (fun j => V0 (Proc.devRef .tc main_arg2) (ix2 0 j)) (fun t j => V0 (Proc.devRef .tc main_arg3) (ix2 t j))
    (fun j => V0 (Proc.devRef .tc main_arg4) (ix2 0 j)) (fun t j => V0 (Proc.devRef .tc main_arg5) (ix2 t j))
    (fun j => V0 (Proc.devRef .tc main_arg6) (ix2 0 j)) (fun j => V0 (Proc.devRef .tc main_arg7) (ix2 0 j))
    (fun t j => V0 (Proc.devRef .tc main_arg8) (ix2 t j))

variable {D : Inputs} {V0 : Valuation τ sig (Elt Ideal)} (H : Holds D V0)
include H

omit H in
theorem at_constant (w : BitVec 32) : (id (constant S_ FTy.f32 w : FVec Ideal S_ .f32) ix0 : EReal) = Ideal.ofBits .f32 w := rfl

theorem at_v5 (t : Fin 8192) (k : Fin 256) : res_main_v5 V0 (ix2 t k) = ((D.sh 3 t k : ℝ) : EReal) := by
  pointwise [res_main_v5, res_main_v3]
  unfold Inputs.sh
  by_cases h : t.val < 3
  · rw [dif_pos (by omega), if_pos h]; rfl
  · rw [dif_neg (by omega), if_neg h]
    have e := H.x ⟨t.val - 3, by omega⟩ k
    exact e

theorem at_v11 (t : Fin 8192) (k : Fin 256) : res_main_v11 V0 (ix2 t k) = ((D.sh 2 t k : ℝ) : EReal) := by
  pointwise [res_main_v11, res_main_v3]
  unfold Inputs.sh
  by_cases h : t.val < 2
  · rw [dif_pos (by omega), if_pos h]; rfl
  · rw [dif_neg (by omega), if_neg h]
    have e := H.x ⟨t.val - 2, by omega⟩ k
    simp only [show 1 + ↑t - 3 = t.val - 2 by omega]
    exact e

theorem at_v18 (t : Fin 8192) (k : Fin 256) : res_main_v18 V0 (ix2 t k) = ((D.sh 1 t k : ℝ) : EReal) := by
  pointwise [res_main_v18, res_main_v3]
  unfold Inputs.sh
  by_cases h : t.val < 1
  · rw [dif_pos (by omega), if_pos h]; rfl
  · rw [dif_neg (by omega), if_neg h]
    have e := H.x ⟨t.val - 1, by omega⟩ k
    simp only [show 2 + ↑t - 3 = t.val - 1 by omega]
    exact e

theorem at_v25 (t : Fin 8192) (k : Fin 256) : res_main_v25 V0 (ix2 t k) = ((D.X t k : ℝ) : EReal) := by
  pointwise [res_main_v25, res_main_v3]
  exact H.x t k

theorem at_v8 (k : Fin 256) : res_main_v8 V0 (ix2 0 k) = ((D.W 0 k : ℝ) : EReal) := by
  pointwise [res_main_v8]
  exact H.w 0 k

theorem at_v14 (k : Fin 256) : res_main_v14 V0 (ix2 0 k) = ((D.W 1 k : ℝ) : EReal) := by
  pointwise [res_main_v14]
  exact H.w 1 k

theorem at_v21 (k : Fin 256) : res_main_v21 V0 (ix2 0 k) = ((D.W 2 k : ℝ) : EReal) := by
  pointwise [res_main_v21]
  exact H.w 2 k

theorem at_v28 (k : Fin 256) : res_main_v28 V0 (ix2 0 k) = ((D.W 3 k : ℝ) : EReal) := by
  pointwise [res_main_v28]
  exact H.w 3 k

theorem at_v33 (t : Fin 8192) (k : Fin 256) : res_main_v33 V0 (ix2 t k) = ((D.xc t k : ℝ) : EReal) := by
  pointwise [res_main_v33]
  rw [at_v5 H, at_v11 H, at_v18 H, at_v25 H, at_v8 H, at_v14 H, at_v21 H, at_v28 H, H.cb k]
  simp only [← EReal.coe_mul, ← EReal.coe_add, ← EReal.coe_neg, ← EReal.coe_sub, ← EReal.coe_one, ← EReal.coe_zero]
  rfl

theorem at_v42 (t : Fin 8192) (k : Fin 256) : res_main_v42 V0 (ix2 t k) = ((D.ig t k : ℝ) : EReal) := by
  pointwise [res_main_v42]
  rw [H.bx k, Finset.sum_congr rfl fun x _ => by rw [at_v33 H t x, H.wx x k, ← EReal.coe_mul], coe_sum, ← EReal.coe_add, sig_real]
  rfl

theorem at_v54 (t : Fin 8192) (k : Fin 256) : res_main_v54 V0 (ix2 t k) = ((D.r t k : ℝ) : EReal) := by
  pointwise [res_main_v54]
  rw [H.ba k, Finset.sum_congr rfl fun x _ => by rw [at_v33 H t x, H.wa x k, ← EReal.coe_mul], coe_sum, ← EReal.coe_add, sig_real]
  rfl

theorem at_v60 (k : Fin 256) : res_main_v60 V0 (ix2 0 k) = ((-D.lam k : ℝ) : EReal) := by
  pointwise [res_main_v60]
  rw [H.lam k, ← EReal.coe_neg]

theorem at_v61 (k : Fin 256) : res_main_v61_0 V0 (ix2 0 k) = ((D.sp k : ℝ) : EReal) := by
  pointwise [res_main_v61_0, res_main_call0_v3, res_main_call0_cst]
  rw [if_neg (by simp), at_v60 H]
  exact softplus_real _

theorem at_v59 (t : Fin 8192) (k : Fin 256) : res_main_v59 V0 (ix2 t k) = ((-8 * D.r t k : ℝ) : EReal) := by
  pointwise [res_main_v59]
  rw [at_v54 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v63 (t : Fin 8192) (k : Fin 256) : res_main_v63 V0 (ix2 t k) = ((D.la t k : ℝ) : EReal) := by
  pointwise [res_main_v63]
  rw [at_v59 H, at_v61 H, ← EReal.coe_mul]
  rfl

theorem at_v69 (t : Fin 8192) (k : Fin 256) : res_main_v69 V0 (ix2 t k) = ((2 * D.la t k : ℝ) : EReal) := by
  pointwise [res_main_v69]
  rw [at_v63 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v72 (t : Fin 8192) (k : Fin 256) : res_main_v72 V0 (ix2 t k) = ((D.sq t k : ℝ) : EReal) := by
  pointwise [res_main_v72]
  rw [at_v69 H, Ideal.exp_coe, ← EReal.coe_one, ← EReal.coe_sub, ← EReal.coe_neg]
  exact congrArg _ (by unfold Inputs.sq; ring)

theorem at_v84 (t : Fin 8192) (k : Fin 256) : res_main_v84 V0 (ix2 t k) = ((Real.sqrt (max (D.sq t k) eps) : ℝ) : EReal) := by
  pointwise [res_main_v84]
  rw [at_v72 H]
  simp only [ofBits_two, ofBits_three, ofBits_half, ofBits_neg_eight, ofBits_eps, ofBits_c0]
  rw [coe_max, sqrt_real _ (le_max_of_le_right eps_pos.le)]

omit H in
theorem at_first (t : Fin 8192) (k : Fin 256) :
    res_main_v87_1 V0 (ix2 t k) = BitVec.ofBool (decide (t.val = 0)) := by
  pointwise [res_main_v87_1]
  exact cmpi_eq_zero t t.isLt
omit H in
theorem at_before (t s : Fin 8192) (k : Fin 256) :
    res_main_v99_1 V0 (ix3 t s k) = BitVec.ofBool (decide (s.val ≤ t.val)) := by
  pointwise [res_main_v99_1, res_main_v97]
  exact cmpi_sge t s t.isLt s.isLt
omit H in
theorem at_before' (t s : Fin 8192) (k : Fin 256) :
    res_main_v106_1 V0 (ix3 t s k) = BitVec.ofBool (decide (s.val ≤ t.val)) := by
  pointwise [res_main_v106_1, res_main_v97]
  exact cmpi_sge t s t.isLt s.isLt

theorem at_v87 (t : Fin 8192) (k : Fin 256) : res_main_v87_0 V0 (ix2 t k) = ((D.mu t k : ℝ) : EReal) := by
  pointwise [res_main_v87_0]
  rw [at_first, select_decide, at_constant, at_v84 H, Ideal.ofBits_one_f32, ← EReal.coe_one, ite_real]
  rfl

theorem at_v88 (t : Fin 8192) (k : Fin 256) : res_main_v88 V0 (ix2 t k) = ((D.mu t k * D.ig t k : ℝ) : EReal) := by
  pointwise [res_main_v88]
  rw [at_v87 H, at_v42 H, ← EReal.coe_mul]

theorem at_v108 (t : Fin 8192) (k : Fin 256) : res_main_v108 V0 (ix3 0 t k) = ((D.u t k : ℝ) : EReal) := by
  pointwise [res_main_v108]
  rw [at_v88 H, at_v33 H, ← EReal.coe_mul]
  rfl

theorem at_v100 (t : Fin 8192) (k : Fin 256) : res_main_v100 V0 (ix2 t k) = ((D.L t k : ℝ) : EReal) := by
  pointwise [res_main_v100]
  rw [Finset.sum_congr rfl fun x _ => by
    rw [at_before, select_decide, at_constant, at_v63 H, Ideal.ofBits_zero_f32, ← EReal.coe_zero, ite_real], coe_sum]
  rfl

theorem at_v107 (t s : Fin 8192) (k : Fin 256) : res_main_v107 V0 (ix3 t s k) = ((if s.val ≤ t.val then D.E t s k else 0 : ℝ) : EReal) := by
  pointwise [res_main_v107]
  rw [at_before', select_decide, at_constant, at_v100 H, at_v100 H, ofBits_neg_inf, ← EReal.coe_sub]
  by_cases h : s.val ≤ t.val
  · rw [if_pos h, if_pos h, Ideal.exp_coe]; rfl
  · rw [if_neg h, if_neg h, Ideal.exp_bot]; rfl

theorem at_v111 (t : Fin 8192) (k : Fin 256) : res_main_v111 V0 (ix2 t k) = ((D.h t k : ℝ) : EReal) := by
  pointwise [res_main_v111]
  rw [Finset.sum_congr rfl fun x _ => by rw [at_v107 H, at_v108 H, ← EReal.coe_mul, ite_mul, zero_mul], coe_sum]
  rfl

theorem at_v1 (t : Fin 8192) (k : Fin 256) : res_main_v1 V0 (ix2 t k) = ((D.Y t k : ℝ) : EReal) := by
  pointwise [res_main_v1]
  exact H.y t k

theorem at_v112  : res_main_v112 V0 ix0 = ((8943 / 200000 : ℝ) : EReal) := by
  pointwise [res_main_v112]
  simp only [ofBits_44715, ofBits_million]
  rw [div_real _ _ (by norm_num)]
  exact congrArg _ (by norm_num)

theorem at_v123 (t : Fin 8192) (k : Fin 256) : res_main_v123 V0 (ix2 t k) = ((th (D.Y t k) : ℝ) : EReal) := by
  pointwise [res_main_v123]
  rw [at_v1 H, at_v112 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rw [Ideal.tanh_coe]
  exact congrArg _ (by unfold th; congr 1; ring)

theorem at_v132 (t : Fin 8192) (k : Fin 256) : res_main_v132 V0 (ix2 t k) = ((1 / 2 * (1 + th (D.Y t k)) : ℝ) : EReal) := by
  pointwise [res_main_v132]
  rw [at_v123 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v133 (t : Fin 8192) (k : Fin 256) : res_main_v133 V0 (ix2 t k) = ((gl (D.Y t k) : ℝ) : EReal) := by
  pointwise [res_main_v133]
  rw [at_v1 H, at_v132 H, ← EReal.coe_mul]
  exact congrArg _ (by unfold gl; ring)

theorem at_v135 (t : Fin 8192) (k : Fin 256) : res_main_v135 V0 (ix2 t k) = ((D.DM t k : ℝ) : EReal) := by
  pointwise [res_main_v135]
  exact H.dm t k

theorem at_v137 (t : Fin 8192) (k : Fin 256) : res_main_v137 V0 (ix2 t k) = ((D.DM t k * D.h t k : ℝ) : EReal) := by
  pointwise [res_main_v137]
  rw [at_v135 H, at_v111 H, ← EReal.coe_mul]

theorem at_v144 (t : Fin 8192) (k : Fin 256) : res_main_v144 V0 (ix2 t k) = ((c0 * (1 / 2 * (D.Y t k * (D.DM t k * D.h t k)) * ((1 + th (D.Y t k)) * (1 - th (D.Y t k)))) : ℝ) : EReal) := by
  pointwise [res_main_v144]
  rw [at_v1 H, at_v137 H, at_v123 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]

theorem at_v150 (t s : Fin 8192) (k : Fin 256) : res_main_v150 V0 (ix3 t s k) = ((D.d t k : ℝ) : EReal) := by
  pointwise [res_main_v150]
  rw [at_v133 H, at_v135 H, ← EReal.coe_mul]
  exact congrArg _ (by unfold Inputs.d; ring)

theorem at_v156 (t : Fin 8192) (k : Fin 256) : res_main_v156 V0 (ix2 t k) = ((D.G t k : ℝ) : EReal) := by
  pointwise [res_main_v156]
  rw [Fin.sum_univ_one, Finset.sum_congr rfl fun x _ => by rw [at_v107 H, at_v150 H, ← EReal.coe_mul, ite_mul, zero_mul], coe_sum]
  rfl

theorem at_v158 (t s : Fin 8192) (k : Fin 256) : res_main_v158 V0 (ix3 t s k) = ((D.V t s k : ℝ) : EReal) := by
  pointwise [res_main_v158]
  rw [at_before', select_decide, at_v150 H, at_v108 H, at_v107 H, ← EReal.coe_mul, ← EReal.coe_mul, ← EReal.coe_zero, ite_real]
  refine congrArg _ ?_
  unfold Inputs.V
  by_cases h : s.val ≤ t.val
  · rw [if_pos h, if_pos h, if_pos h]
  · rw [if_neg h, if_neg h]

theorem at_v171 (t : Fin 8192) (k : Fin 256) : res_main_v171 V0 (ix2 t k) = ((D.G t k * D.xc t k : ℝ) : EReal) := by
  pointwise [res_main_v171]
  rw [at_v156 H, at_v33 H, ← EReal.coe_mul]

/-- Above the floor's reach: where the gradient of the square root is taken. -/
abbrev Above (D : Inputs) : Prop := ∀ (t : Fin 8192) (k : Fin 256), eps < D.sq t k

variable (A : Above D)
include A

theorem at_v181 (t : Fin 8192) (k : Fin 256) : res_main_v181 V0 (ix2 t k) = ((D.dla t k : ℝ) : EReal) := by
  pointwise [res_main_v181]
  have e1 : ∀ x : Fin 8192, Scalar.select (res_main_v99_1 V0 (ix3 x t k))
      (∑ x_1 : Fin 1, ∑ x_2 : Fin 8192, @Neg.neg EReal _ (res_main_v158 V0 (ix3 x_2 x k)) + ∑ x_1 : Fin 1, @Finset.sum (Fin 8192) EReal _ Finset.univ fun x_2 => res_main_v158 V0 (ix3 x x_2 k)) 0
      = ((if t.val ≤ x.val then (∑ t' : Fin 8192, -D.V t' x k) + ∑ s : Fin 8192, D.V x s k else 0 : ℝ) : EReal) := by
    intro x
    have a1 : ∑ x_2 : Fin 8192, @Neg.neg EReal _ (res_main_v158 V0 (ix3 x_2 x k)) = ((∑ t' : Fin 8192, -D.V t' x k : ℝ) : EReal) := by
      rw [← coe_sum]; exact Finset.sum_congr rfl fun y _ => by rw [at_v158 H, ← EReal.coe_neg]
    have a2 : (@Finset.sum (Fin 8192) EReal _ Finset.univ fun x_2 => res_main_v158 V0 (ix3 x x_2 k)) = ((∑ s : Fin 8192, D.V x s k : ℝ) : EReal) := by
      rw [← coe_sum]; exact Finset.sum_congr rfl fun y _ => by rw [at_v158 H]
    rw [Fin.sum_univ_one, Fin.sum_univ_one, a1, a2, at_before, select_decide, ← EReal.coe_add, ← EReal.coe_zero, ite_real]
  have e2 : (if @LT.lt EReal _ (Ideal.ofBits FTy.f32 897988541#32) (res_main_v72 V0 (ix2 t k)) then (1 : EReal)
        else if @Eq EReal (res_main_v72 V0 (ix2 t k)) (Ideal.ofBits FTy.f32 897988541#32) then Ideal.ofBits FTy.f32 1056964608#32 else 0) = 1 := by
    rw [if_pos]
    rw [ofBits_eps, at_v72 H]
    exact EReal.coe_lt_coe_iff.mpr (A t k)
  have hr : 0 < Real.sqrt (max (D.sq t k) eps) := Real.sqrt_pos.mpr (lt_max_of_lt_right eps_pos)
  have ha : Real.exp (2 * D.la t k) = D.a t k * D.a t k := by
    unfold Inputs.a
    rw [← Real.exp_add, two_mul]
  rw [Fin.sum_univ_one, Finset.sum_congr rfl fun x _ => e1 x, coe_sum, D.gdec_eq t k t.isLt, e2, at_first, select_decide, at_v171 H, at_v42 H,
    at_v84 H, at_v69 H, ofBits_two, ofBits_half, div_real _ _ hr.ne', Ideal.exp_coe, ← EReal.coe_one, ← EReal.coe_zero]
  simp only [← EReal.coe_mul]
  rw [ite_real]
  simp only [← EReal.coe_mul, ← EReal.coe_add, ← EReal.coe_neg, ← EReal.coe_sub, ← EReal.coe_one, ← EReal.coe_zero]
  refine congrArg _ ?_
  rw [ha]
  unfold Inputs.dla Inputs.gsq Inputs.mu
  rw [if_pos (A t k)]
  by_cases h : t.val = 0
  · simp only [if_pos h]; ring
  · simp only [if_neg h]; ring

theorem at_v191 (t : Fin 8192) (k : Fin 256) : res_main_v191 V0 (ix2 t k) = ((D.dpa t k : ℝ) : EReal) := by
  pointwise [res_main_v191]
  rw [at_v181 H A, at_v61 H, at_v54 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  exact congrArg _ (by unfold Inputs.dpa; ring)

theorem at_v198 (t : Fin 8192) (k : Fin 256) : res_main_v198 V0 (ix2 t k) = ((D.dpx t k : ℝ) : EReal) := by
  pointwise [res_main_v198]
  rw [at_v87 H, at_v171 H, at_v42 H]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  exact congrArg _ (by unfold Inputs.dpx Inputs.gmx; ring)

theorem at_v204 (t : Fin 8192) (k : Fin 256) : res_main_v204 V0 (ix2 t k) = ((D.dxc t k : ℝ) : EReal) := by
  pointwise [res_main_v204]
  have a1 : ∑ x : Fin 256, @HMul.hMul EReal EReal EReal _ (res_main_v191 V0 (ix2 t x)) (V0 (Proc.tc.devRef main_arg3) (ix2 k x)) = ((∑ x : Fin 256, D.dpa t x * D.wa k x : ℝ) : EReal) := by
    rw [← coe_sum]; exact Finset.sum_congr rfl fun x _ => by rw [at_v191 H A t x, H.wa k x, ← EReal.coe_mul]
  have a2 : ∑ x : Fin 256, @HMul.hMul EReal EReal EReal _ (res_main_v198 V0 (ix2 t x)) (V0 (Proc.tc.devRef main_arg5) (ix2 k x)) = ((∑ x : Fin 256, D.dpx t x * D.wx k x : ℝ) : EReal) := by
    rw [← coe_sum]; exact Finset.sum_congr rfl fun x _ => by rw [at_v198 H A t x, H.wx k x, ← EReal.coe_mul]
  rw [at_v88 H, at_v156 H, a1, a2]
  simp only [← EReal.coe_mul, ← EReal.coe_add, ← EReal.coe_neg, ← EReal.coe_sub, ← EReal.coe_one, ← EReal.coe_zero]
  exact congrArg _ (by unfold Inputs.dxc Inputs.gmi; ring)

/-- The branch's gradient. -/
theorem at_dx (t : Fin 8192) (k : Fin 256) :
    truncf .bf16 (extractStridedSlice S8192x256 ![3, 0] (res_main_v248 V0) slices_S8195x256_S8192x256_3_0) bitsLt_bf16_f32 (ix2 t k)
      = ((D.dx t k : ℝ) : EReal) := by
  pointwise [res_main_v248]
  rw [at_v28 H, at_v21 H, at_v14 H, at_v8 H]
  have p1 : (∀ (a : Fin 2), (![2, 0] : Fin 2 → ℕ) a ≤ (ix2 (⟨3 + t.val, by omega⟩ : Fin 8195) k a).val ∧
      ((ix2 (⟨3 + t.val, by omega⟩ : Fin 8195) k a).val - (![2, 0] : Fin 2 → ℕ) a) % ((![0, 0] : Fin 2 → ℕ) a + 1) = 0 ∧
      ((ix2 (⟨3 + t.val, by omega⟩ : Fin 8195) k a).val - (![2, 0] : Fin 2 → ℕ) a) / ((![0, 0] : Fin 2 → ℕ) a + 1) < S8192x256.size a)
      ↔ t.val + 1 < 8192 := by
    constructor
    · intro h
      have h0 : (3 + t.val - 2) / (0 + 1) < 8192 := (h 0).2.2
      omega
    · intro h
      refine Fin.forall_fin_two.mpr ⟨?_, ?_⟩
      · show 2 ≤ 3 + t.val ∧ (3 + t.val - 2) % (0 + 1) = 0 ∧ (3 + t.val - 2) / (0 + 1) < 8192
        omega
      · show 0 ≤ k.val ∧ (k.val - 0) % (0 + 1) = 0 ∧ (k.val - 0) / (0 + 1) < 256
        have := k.isLt; omega
  have p2 : (∀ (a : Fin 2), (![1, 0] : Fin 2 → ℕ) a ≤ (ix2 (⟨3 + t.val, by omega⟩ : Fin 8195) k a).val ∧
      ((ix2 (⟨3 + t.val, by omega⟩ : Fin 8195) k a).val - (![1, 0] : Fin 2 → ℕ) a) % ((![0, 0] : Fin 2 → ℕ) a + 1) = 0 ∧
      ((ix2 (⟨3 + t.val, by omega⟩ : Fin 8195) k a).val - (![1, 0] : Fin 2 → ℕ) a) / ((![0, 0] : Fin 2 → ℕ) a + 1) < S8192x256.size a)
      ↔ t.val + 2 < 8192 := by
    constructor
    · intro h
      have h0 : (3 + t.val - 1) / (0 + 1) < 8192 := (h 0).2.2
      omega
    · intro h
      refine Fin.forall_fin_two.mpr ⟨?_, ?_⟩
      · show 1 ≤ 3 + t.val ∧ (3 + t.val - 1) % (0 + 1) = 0 ∧ (3 + t.val - 1) / (0 + 1) < 8192
        omega
      · show 0 ≤ k.val ∧ (k.val - 0) % (0 + 1) = 0 ∧ (k.val - 0) / (0 + 1) < 256
        have := k.isLt; omega
  have p3 : (∀ (a : Fin 2), (![0, 0] : Fin 2 → ℕ) a ≤ (ix2 (⟨3 + t.val, by omega⟩ : Fin 8195) k a).val ∧
      ((ix2 (⟨3 + t.val, by omega⟩ : Fin 8195) k a).val - (![0, 0] : Fin 2 → ℕ) a) % ((![0, 0] : Fin 2 → ℕ) a + 1) = 0 ∧
      ((ix2 (⟨3 + t.val, by omega⟩ : Fin 8195) k a).val - (![0, 0] : Fin 2 → ℕ) a) / ((![0, 0] : Fin 2 → ℕ) a + 1) < S8192x256.size a)
      ↔ t.val + 3 < 8192 := by
    constructor
    · intro h
      have h0 : (3 + t.val - 0) / (0 + 1) < 8192 := (h 0).2.2
      omega
    · intro h
      refine Fin.forall_fin_two.mpr ⟨?_, ?_⟩
      · show 0 ≤ 3 + t.val ∧ (3 + t.val - 0) % (0 + 1) = 0 ∧ (3 + t.val - 0) / (0 + 1) < 8192
        omega
      · show 0 ≤ k.val ∧ (k.val - 0) % (0 + 1) = 0 ∧ (k.val - 0) / (0 + 1) < 256
        have := k.isLt; omega
  have q : ∀ (p : Prop) [Decidable p] (n : ℕ) (hp : p ↔ t.val + n < 8192) (f : (h : p) → EReal) (w : ℝ)
      (hf : ∀ (h : p), f h = @HMul.hMul EReal EReal EReal _ (res_main_v204 V0 (ix2 ⟨t.val + n, hp.mp h⟩ k)) ((w : ℝ) : EReal)),
      (if h : p then f h else 0) = ((D.later n t k * w : ℝ) : EReal) := by
    intro p _ n hp f w hf
    unfold Inputs.later
    by_cases h : p
    · rw [dif_pos h, if_pos (hp.mp h), hf, at_v204 H A, ← EReal.coe_mul]
    · rw [dif_neg h, if_neg (fun h' => h (hp.mpr h')), zero_mul]; rfl
  have p0 : (∀ (a : Fin 2), (![3, 0] : Fin 2 → ℕ) a ≤ (ix2 (⟨3 + t.val, by omega⟩ : Fin 8195) k a).val ∧
      ((ix2 (⟨3 + t.val, by omega⟩ : Fin 8195) k a).val - (![3, 0] : Fin 2 → ℕ) a) % ((![0, 0] : Fin 2 → ℕ) a + 1) = 0 ∧
      ((ix2 (⟨3 + t.val, by omega⟩ : Fin 8195) k a).val - (![3, 0] : Fin 2 → ℕ) a) / ((![0, 0] : Fin 2 → ℕ) a + 1) < S8192x256.size a) := by
    refine Fin.forall_fin_two.mpr ⟨?_, ?_⟩
    · show 3 ≤ 3 + t.val ∧ (3 + t.val - 3) % (0 + 1) = 0 ∧ (3 + t.val - 3) / (0 + 1) < 8192
      have := t.isLt; omega
    · show 0 ≤ k.val ∧ (k.val - 0) % (0 + 1) = 0 ∧ (k.val - 0) / (0 + 1) < 256
      have := k.isLt; omega
  have e0 : @HMul.hMul EReal EReal EReal _ (res_main_v204 V0 (ix2 t k)) ((D.W 3 k : ℝ) : EReal) = ((D.dxc t k * D.W 3 k : ℝ) : EReal) := by
    rw [at_v204 H A, ← EReal.coe_mul]
  refine (congrArg₂ (fun a b : EReal => a + b) (congrArg₂ (fun a b : EReal => a + b) (congrArg₂ (fun a b : EReal => a + b)
    ((dif_pos p0).trans e0)
    (q _ 1 p1 _ (D.W 2 k) fun h => ?_)) (q _ 2 p2 _ (D.W 1 k) fun h => ?_)) (q _ 3 p3 _ (D.W 0 k) fun h => ?_)).trans ?_
  · simp only [show 3 + t.val - 2 = t.val + 1 by omega]
  · simp only [show 3 + t.val - 1 = t.val + 2 by omega]
  · simp only [show 3 + t.val = t.val + 3 by omega]
  simp only [← EReal.coe_mul, ← EReal.coe_add, ← EReal.coe_neg, ← EReal.coe_sub, ← EReal.coe_one, ← EReal.coe_zero]
  exact congrArg _ (by unfold Inputs.dx; ring)

/-- The gate's gradient. -/
theorem at_dy (t : Fin 8192) (k : Fin 256) :
    truncf .bf16 (addf (addf (mulf (res_main_v137 V0) (res_main_v132 V0)) (res_main_v144 V0)) (mulf (mulf (broadcastInDim S8192x256 ![] bcast_S_S8192x256 (res_main_v112 V0)) (res_main_v144 V0)) (mulf (broadcastInDim S8192x256 ![] bcast_S_S8192x256 (constant S_ .f32 0x40400000#32)) (mulf (res_main_v1 V0) (res_main_v1 V0))))) bitsLt_bf16_f32 (ix2 t k)
      = ((D.dy t k : ℝ) : EReal) := by
  pointwise
  rw [at_v137 H, at_v132 H, at_v144 H, at_v1 H, at_v112 H]
  simp only [ofBits_two, ofBits_three, ofBits_half, ofBits_neg_eight, ofBits_eps, ofBits_c0, ofBits_three, ← EReal.coe_mul, ← EReal.coe_add, ← EReal.coe_neg, ← EReal.coe_sub, ← EReal.coe_one, ← EReal.coe_zero]
  exact congrArg _ (by unfold Inputs.dy dgl; ring)

/-- The convolution bias's gradient. -/
theorem at_dcb (k : Fin 256) : (shapeCast _ (Host.reduceAdd (res_main_v204 V0) (constant S_ .f32 0x00000000#32) reducesTo_S8192x256_S256_d0 h_S_) shapeCasts_S256_S1x256 : FVec Ideal S1x256 .f32) (ix2 0 k) = ((∑ t : Fin 8192, D.dxc t k : ℝ) : EReal) := by
  pointwise
  rw [← coe_sum]
  exact Finset.sum_congr rfl fun t _ => at_v204 H A t k

/-- The recurrence gate's bias's gradient. -/
theorem at_dba (k : Fin 256) : (shapeCast _ (Host.reduceAdd (res_main_v191 V0) (constant S_ .f32 0x00000000#32) reducesTo_S8192x256_S256_d0 h_S_) shapeCasts_S256_S1x256 : FVec Ideal S1x256 .f32) (ix2 0 k) = ((∑ t : Fin 8192, D.dpa t k : ℝ) : EReal) := by
  pointwise
  rw [← coe_sum]
  exact Finset.sum_congr rfl fun t _ => at_v191 H A t k

/-- The input gate's bias's gradient. -/
theorem at_dbx (k : Fin 256) : (shapeCast _ (Host.reduceAdd (res_main_v198 V0) (constant S_ .f32 0x00000000#32) reducesTo_S8192x256_S256_d0 h_S_) shapeCasts_S256_S1x256 : FVec Ideal S1x256 .f32) (ix2 0 k) = ((∑ t : Fin 8192, D.dpx t k : ℝ) : EReal) := by
  pointwise
  rw [← coe_sum]
  exact Finset.sum_congr rfl fun t _ => at_v198 H A t k

/-- The recurrence gate's matrix's gradient. -/
theorem at_dwa (x k : Fin 256) : (transpose S256x256 [1, 0] (Host.dotGeneral (φ₁ := .f32) (φ₂ := .f32) dot_S8192x256_S8192x256_S256x256_0_0_1_1_n_n none (res_main_v191 V0) (res_main_v33 V0)) transposes_S256x256_S256x256_1_0 : FVec Ideal S256x256 .f32) (ix2 x k) = ((∑ t : Fin 8192, D.xc t x * D.dpa t k : ℝ) : EReal) := by
  pointwise
  rw [← coe_sum]
  exact Finset.sum_congr rfl fun t _ => by rw [at_v191 H A, at_v33 H, ← EReal.coe_mul, mul_comm]

/-- The input gate's matrix's gradient. -/
theorem at_dwx (x k : Fin 256) : (transpose S256x256 [1, 0] (Host.dotGeneral (φ₁ := .f32) (φ₂ := .f32) dot_S8192x256_S8192x256_S256x256_0_0_1_1_n_n none (res_main_v198 V0) (res_main_v33 V0)) transposes_S256x256_S256x256_1_0 : FVec Ideal S256x256 .f32) (ix2 x k) = ((∑ t : Fin 8192, D.xc t x * D.dpx t k : ℝ) : EReal) := by
  pointwise
  rw [← coe_sum]
  exact Finset.sum_congr rfl fun t _ => by rw [at_v198 H A, at_v33 H, ← EReal.coe_mul, mul_comm]

/-- The decay parameter's gradient. -/
theorem at_dlam (k : Fin 256) : (Host.negf (mulf (shapeCast _ (Host.reduceAdd (mulf (res_main_v59 V0) (res_main_v181 V0)) (constant S_ .f32 0x00000000#32) reducesTo_S8192x256_S256_d0 h_S_) shapeCasts_S256_S1x256) (Host.exp (subf (select (cmpf .oeq (res_main_v60 V0) (broadcastInDim S1x256 ![] bcast_S_S1x256 (constant S_ .f32 0x7F800000#32))) (broadcastInDim S1x256 ![] bcast_S_S1x256 (constant S_ .f32 0x00000000#32)) (res_main_v60 V0)) (select (cmpf .oeq (res_main_v61_0 V0) (broadcastInDim S1x256 ![] bcast_S_S1x256 (constant S_ .f32 0x7F800000#32))) (broadcastInDim S1x256 ![] bcast_S_S1x256 (constant S_ .f32 0x00000000#32)) (res_main_v61_0 V0))))) : FVec Ideal S1x256 .f32) (ix2 0 k)
    = ((-((∑ t : Fin 8192, D.dl t k) * Real.exp (-D.lam k - D.sp k)) : ℝ) : EReal) := by
  pointwise
  have e : ∀ x : ℝ, ¬ ((x : EReal) = Ideal.ofBits FTy.f32 2139095040#32) := fun x h => EReal.coe_ne_top x (h.trans ofBits_inf)
  have a : (@Finset.sum (Fin 8192) EReal _ Finset.univ fun x => @HMul.hMul EReal EReal EReal _ (res_main_v59 V0 (ix2 x k)) (res_main_v181 V0 (ix2 x k)))
      = ((∑ t : Fin 8192, D.dl t k : ℝ) : EReal) := by
    rw [← coe_sum]
    exact Finset.sum_congr rfl fun t _ => by
      rw [at_v59 H, at_v181 H A, ← EReal.coe_mul]
      exact congrArg _ (by unfold Inputs.dl; ring)
  rw [a, at_v60 H, at_v61 H, if_neg (e _), if_neg (e _), ← EReal.coe_sub, Ideal.exp_coe]
  simp only [← EReal.coe_mul, ← EReal.coe_add, ← EReal.coe_neg, ← EReal.coe_sub, ← EReal.coe_one, ← EReal.coe_zero]

/-- The convolution's weights' gradient. -/
theorem at_dw (j : Fin 4) (k : Fin 256) : (addf (addf (addf (pad S4x256 ![3, 0] ![0, 0] ![0, 0] (broadcastInDim S1x256 ![1] bcast_S256_S1x256_1 (Host.reduceAdd (shapeCast _ (Host.reduceAdd (mulf (res_main_v25 V0) (res_main_v204 V0)) (constant S_ .f32 0x00000000#32) reducesTo_S8192x256_S256_d0 h_S_) shapeCasts_S256_S1x256) (constant S_ .f32 0x00000000#32) reducesTo_S1x256_S256_d0 h_S_)) (constant S_ .f32 0x00000000#32) pads_S1x256_S4x256_300_000 h_S_) (pad S4x256 ![2, 0] ![1, 0] ![0, 0] (broadcastInDim S1x256 ![1] bcast_S256_S1x256_1 (Host.reduceAdd (shapeCast _ (Host.reduceAdd (mulf (res_main_v18 V0) (res_main_v204 V0)) (constant S_ .f32 0x00000000#32) reducesTo_S8192x256_S256_d0 h_S_) shapeCasts_S256_S1x256) (constant S_ .f32 0x00000000#32) reducesTo_S1x256_S256_d0 h_S_)) (constant S_ .f32 0x00000000#32) pads_S1x256_S4x256_210_000 h_S_)) (pad S4x256 ![1, 0] ![2, 0] ![0, 0] (broadcastInDim S1x256 ![1] bcast_S256_S1x256_1 (Host.reduceAdd (shapeCast _ (Host.reduceAdd (mulf (res_main_v11 V0) (res_main_v204 V0)) (constant S_ .f32 0x00000000#32) reducesTo_S8192x256_S256_d0 h_S_) shapeCasts_S256_S1x256) (constant S_ .f32 0x00000000#32) reducesTo_S1x256_S256_d0 h_S_)) (constant S_ .f32 0x00000000#32) pads_S1x256_S4x256_120_000 h_S_)) (pad S4x256 ![0, 0] ![3, 0] ![0, 0] (broadcastInDim S1x256 ![1] bcast_S256_S1x256_1 (Host.reduceAdd (shapeCast _ (Host.reduceAdd (mulf (res_main_v5 V0) (res_main_v204 V0)) (constant S_ .f32 0x00000000#32) reducesTo_S8192x256_S256_d0 h_S_) shapeCasts_S256_S1x256) (constant S_ .f32 0x00000000#32) reducesTo_S1x256_S256_d0 h_S_)) (constant S_ .f32 0x00000000#32) pads_S1x256_S4x256_030_000 h_S_) : FVec Ideal S4x256 .f32) (ix2 j k)
    = ((∑ t : Fin 8192, D.sh (3 - j) t k * D.dxc t k : ℝ) : EReal) := by
  pointwise
  have a : ∀ (s : ℕ) (v : Fin 8192 → EReal) (hv : ∀ t : Fin 8192, v t = ((D.sh s t k : ℝ) : EReal)),
      (∑ x : Fin 1, @Finset.sum (Fin 8192) EReal _ Finset.univ fun x => @HMul.hMul EReal EReal EReal _ (v x) (res_main_v204 V0 (ix2 x k)))
      = ((∑ t : Fin 8192, D.sh s t k * D.dxc t k : ℝ) : EReal) := by
    intro s v hv
    rw [Fin.sum_univ_one, ← coe_sum]
    exact Finset.sum_congr rfl fun t _ => by rw [hv, at_v204 H A, ← EReal.coe_mul]
  rw [a 0 (fun t => res_main_v25 V0 (ix2 t k)) (fun t => (at_v25 H t k).trans (congrArg _ (by unfold Inputs.sh; rw [if_neg (by omega)]; rfl))),
    a 1 (fun t => res_main_v18 V0 (ix2 t k)) (fun t => at_v18 H t k),
    a 2 (fun t => res_main_v11 V0 (ix2 t k)) (fun t => at_v11 H t k),
    a 3 (fun t => res_main_v5 V0 (ix2 t k)) (fun t => at_v5 H t k)]
  have z : ∀ x : EReal, 0 + x = x := zero_add
  have z' : ∀ x : EReal, x + 0 = x := add_zero
  fin_cases j
  · simp [z, z']
  · simp [z, z']
  · simp [z, z']
  · simp [z, z']

end Cert.ReferenceIdeal.Value

end
-- ==== Proof.Precond.lean ====
/- The precondition over the extended reals: finite arguments hold real numbers, and decay is bounded away from one. -/
module

public import proofs.«01_k».proof.Defs
public import proofs.«01_k».proof.Proof.HostValue
public import proofs.«01_k».proof.Proof.KerValue
public import proofs.«01_k».proof.Proof.RefValue

@[expose] public section

set_option maxRecDepth 16384

noncomputable section

namespace Cert.Mixer

open Idealize.ShloMosaic

/-- An extended real whose absolute value is below infinity is a real number. -/
theorem real_of_finite (x : EReal) (h : Ideal.cmp .olt (max x (-x)) (Ideal.ofBits .f32 0x7F800000#32) = 1#1) : x = (x.toReal : EReal) := by
  have h1 : max x (-x) < ⊤ := by
    rw [ofBits_inf] at h
    exact (Ideal.cmp_olt_eq_one _ _).mp h
  refine (EReal.coe_toReal (fun e => ?_) (fun e => ?_)).symm
  · rw [e] at h1; exact absurd h1 (by simp)
  · rw [e] at h1; exact absurd h1 (by simp)

/-- Where twice the logarithm of the decay is at most minus a hundredth, the squared scale is above its floor. -/
theorem above_of_decays (D : Inputs) (P : Decays D) : Cert.ReferenceIdeal.Value.Above D := fun t k => by
  have h := P t k
  have e : Real.exp (2 * D.la t k) ≤ Real.exp (-(10737418 / 2 ^ 30)) := Real.exp_le_exp.mpr h
  have g : Real.exp (-(10737418 / 2 ^ 30)) ≤ 1 / (1 + 10737418 / 2 ^ 30) := by
    rw [Real.exp_neg, ← one_div]
    exact one_div_le_one_div_of_le (by norm_num) (by have := Real.add_one_le_exp (10737418 / 2 ^ 30 : ℝ); linarith)
  unfold Inputs.sq
  have : eps < 1 - 1 / (1 + 10737418 / 2 ^ 30) := by unfold eps; norm_num
  linarith

end Cert.Mixer

namespace Cert.Proof

open Idealize.ShloMosaic Idealize.ShloMosaic.StableHlo Cert.Mixer

/-- The shapes that the precondition's operations ask for. -/
instance facts_pre : Cert.Pre_real_and_decaying.Facts where
  slices_S8192x3840_S8192x256_0_3072 := by decide
  bcast_S_S3x256 := by decide
  concatenates_S3x256_S8192x256_S8195x256_d0 := by decide
  slices_S8195x256_S8192x256_0_0 := by decide
  slices_S4x256_S1x256_0_0 := by decide
  shapeCasts_S1x256_S256 := by decide
  bcast_S256_S1x256_1 := by decide
  bcast_S1x256_S8192x256_0_1 := by decide
  slices_S8195x256_S8192x256_1_0 := by decide
  slices_S4x256_S1x256_1_0 := by decide
  slices_S8195x256_S8192x256_2_0 := by decide
  slices_S4x256_S1x256_2_0 := by decide
  slices_S8195x256_S8192x256_3_0 := by decide
  slices_S4x256_S1x256_3_0 := by decide
  bcast_S_S8192x3840 := by decide
  bcast_S_S4x256 := by decide
  bcast_S_S1x256 := by decide
  bcast_S_S256x256 := by decide
  bcast_S_S8192x1024 := by decide
  bcast_S_S8192x256 := by decide
  dot_S8192x256_S256x256_S8192x256_1_0_0_1_n_n_wf := by decide

open Cert.KernelIdeal in
/-- The precondition's arrays of ones say, of each element, that it is a real number, and of each row and channel that its
    decay is bounded away from one. -/
theorem holds_of_pre (m : (ℓ : Loc nD τ sig) → Buf (Elt Ideal) ℓ) (h : Cert.Pre_KernelIdeal_real_and_decaying m) (c : Dev nD) :
    ∃ D : Inputs, Hosted.Holds D (fun b => m (c, b)) ∧ Decays D := by
  obtain ⟨h0, h1, h2, h3, h4, h5, h6, h7, h8, h9⟩ := h c
  obtain ⟨D, H⟩ := exists_given (fun t j => m (c, Proc.devRef .tc main_arg0) (ix2 t j)) (fun t j => m (c, Proc.devRef .tc main_arg1) (ix2 t j))
    (fun j => m (c, Proc.devRef .tc main_arg2) (ix2 0 j)) (fun t j => m (c, Proc.devRef .tc main_arg3) (ix2 t j))
    (fun j => m (c, Proc.devRef .tc main_arg4) (ix2 0 j)) (fun t j => m (c, Proc.devRef .tc main_arg5) (ix2 t j))
    (fun j => m (c, Proc.devRef .tc main_arg6) (ix2 0 j)) (fun j => m (c, Proc.devRef .tc main_arg7) (ix2 0 j))
    (fun t j => m (c, Proc.devRef .tc main_arg8) (ix2 t j))
    (fun t j => real_of_finite _ (congrFun h0 (ix2 t j))) (fun t j => real_of_finite _ (congrFun h1 (ix2 t j)))
    (fun j => real_of_finite _ (congrFun h2 (ix2 0 j))) (fun t j => real_of_finite _ (congrFun h3 (ix2 t j)))
    (fun j => real_of_finite _ (congrFun h4 (ix2 0 j))) (fun t j => real_of_finite _ (congrFun h5 (ix2 t j)))
    (fun j => real_of_finite _ (congrFun h6 (ix2 0 j))) (fun j => real_of_finite _ (congrFun h7 (ix2 0 j)))
    (fun t j => real_of_finite _ (congrFun h8 (ix2 t j)))
  refine ⟨D, H, fun t k => ?_⟩
  have e : Ideal.cmp .ole (Ideal.ofBits .f32 0x40000000#32 * Hosted.v55 (F := Ideal) (fun b => m (c, b)) (ix2 t k) : EReal) (Ideal.ofBits .f32 0xBC23D70A#32) = 1#1 := congrFun h9 (ix2 t k)
  rw [Hosted.at_v55 H, ofBits_two, ofBits_bound, ← EReal.coe_mul] at e
  exact EReal.coe_le_coe_iff.mp ((Ideal.cmp_ole_eq_one _ _).mp e)

end Cert.Proof

end
-- ==== Proof.KerGrad.lean ====
/- The values over the real numbers of the gradients that one grid point computes. -/
module

public import proofs.«01_k».proof.Proof.KerValue

@[expose] public section

set_option maxRecDepth 16384

noncomputable section

namespace Cert.KernelIdeal.Point

open Idealize.ShloMosaic Cert.KernelIdeal Cert.KernelIdeal.Gen Cert.Mixer

section Parts

variable {F : FTy → Type} [FloatOps F] [Named F]

/-- The offsets of the affine maps of two rows. -/
def tg2 (i : grid0.Coords) (B : Blocks F) : FVec F S512x256 .f32 :=
  addf (adh i B) (mulf (dec i B) (select k0_pay36 (k0_pay38 (dec i B) (k0_pay28 B.y) B.dm) (k0_pay39 (F := F))))

/-- The offsets of the affine maps of four rows. -/
def tg4 (i : grid0.Coords) (B : Blocks F) : FVec F S512x256 .f32 :=
  addf (tg2 i B) (mulf (k0_pay40 (dec i B) (k0_pay37 (dec i B)))
    (select (k0_pay41 k0_pay35) (dynamicRotate 0 510#32 none (tg2 i B) rotates_S512x256_d0) (broadcast S512x256 (Scalar.ofBits .f32 0x00000000#32))))

theorem tg_eq (i : grid0.Coords) (B : Blocks F) :
    tg i B = addf (tg4 i B) (mulf (k0_pay42 (dec i B) k0_pay35 (k0_pay37 (dec i B)))
      (select (k0_pay43 k0_pay35) (dynamicRotate 0 508#32 none (tg4 i B) rotates_S512x256_d0) (broadcast S512x256 (Scalar.ofBits .f32 0x00000000#32)))) := rfl

theorem grad_eq (i : grid0.Coords) (B : Blocks F) (c : Vec F S1x256 .f32) :
    grad i B c = addf (dh B) (select (cmpi .eq k0_pay35 (broadcast S512x256 7#32)) (cin i B c)
      (dynamicRotate 0 511#32 none (addf (mulf (ta i B) (cin i B c)) (tg i B)) rotates_S512x256_d0)) := rfl

/-- The rows three later, taken from the block after past the end. -/
def later3 (i : grid0.Coords) (v : FVec F S512x256 .f32) (n : Vec F S8x256 .f32) : FVec F S512x256 .f32 :=
  concatenate S512x256 0 [⟨S504x256, extractStridedSlice S504x256 ![0, 0] (dynamicRotate 0 509#32 none v rotates_S512x256_d0) slices_S512x256_o0_0_S504x256⟩,
    ⟨S8x256, select (cmpi .sge (iota .tc S8x256 32 [0] iota_S8x256_d0_w32) (broadcast S8x256 5#32))
      (dynamicRotate 0 5#32 none (Scalar.select (Scalar.cmpi .eq (BitVec.ofNat 32 (i 0).val) 0#32) (broadcast S8x256 (Scalar.ofBits .f32 0x00000000#32)) n : FVec F S8x256 .f32) rotates_S8x256_d0)
      (extractStridedSlice S8x256 ![504, 0] (dynamicRotate 0 509#32 none v rotates_S512x256_d0) slices_S512x256_o504_0_S8x256)⟩] concatenates_S504x256_S8x256_S512x256_d0

/-- The rows two later, taken from the block after past the end. -/
def later2 (i : grid0.Coords) (v : FVec F S512x256 .f32) (n : Vec F S8x256 .f32) : FVec F S512x256 .f32 :=
  concatenate S512x256 0 [⟨S504x256, extractStridedSlice S504x256 ![0, 0] (dynamicRotate 0 510#32 none v rotates_S512x256_d0) slices_S512x256_o0_0_S504x256⟩,
    ⟨S8x256, select (cmpi .sge (iota .tc S8x256 32 [0] iota_S8x256_d0_w32) (broadcast S8x256 6#32))
      (dynamicRotate 0 6#32 none (Scalar.select (Scalar.cmpi .eq (BitVec.ofNat 32 (i 0).val) 0#32) (broadcast S8x256 (Scalar.ofBits .f32 0x00000000#32)) n : FVec F S8x256 .f32) rotates_S8x256_d0)
      (extractStridedSlice S8x256 ![504, 0] (dynamicRotate 0 510#32 none v rotates_S512x256_d0) slices_S512x256_o504_0_S8x256)⟩] concatenates_S504x256_S8x256_S512x256_d0

/-- The rows one later, taken from the block after past the end. -/
def later1 (i : grid0.Coords) (v : FVec F S512x256 .f32) (n : Vec F S8x256 .f32) : FVec F S512x256 .f32 :=
  concatenate S512x256 0 [⟨S504x256, extractStridedSlice S504x256 ![0, 0] (dynamicRotate 0 511#32 none v rotates_S512x256_d0) slices_S512x256_o0_0_S504x256⟩,
    ⟨S8x256, select (cmpi .sge (iota .tc S8x256 32 [0] iota_S8x256_d0_w32) (broadcast S8x256 7#32))
      (dynamicRotate 0 7#32 none (Scalar.select (Scalar.cmpi .eq (BitVec.ofNat 32 (i 0).val) 0#32) (broadcast S8x256 (Scalar.ofBits .f32 0x00000000#32)) n : FVec F S8x256 .f32) rotates_S8x256_d0)
      (extractStridedSlice S8x256 ![504, 0] (dynamicRotate 0 511#32 none v rotates_S512x256_d0) slices_S512x256_o504_0_S8x256)⟩] concatenates_S504x256_S8x256_S512x256_d0

theorem dx_eq (i : grid0.Coords) (B : Blocks F) (c : Vec F S1x256 .f32) (n : Vec F S8x256 .f32) :
    dx i B c n = k0_pay70 B.w (dxc i B c) (addf (addf (addf (broadcast S512x256 (Scalar.ofBits .f32 0x00000000#32))
      (mulf (later3 i (dxc i B c) n) (broadcastTo S512x256 (extractStridedSlice S1x256 ![0, 0] B.w slices_S4x256_o0_0_S1x256) broadcasts_S1x256_S512x256)))
      (mulf (later2 i (dxc i B c) n) (broadcastTo S512x256 (extractStridedSlice S1x256 ![1, 0] B.w slices_S4x256_o1_0_S1x256) broadcasts_S1x256_S512x256)))
      (mulf (later1 i (dxc i B c) n) (broadcastTo S512x256 (extractStridedSlice S1x256 ![2, 0] B.w slices_S4x256_o2_0_S1x256) broadcasts_S1x256_S512x256))) := rfl

end Parts

theorem at_pay49 (c : Vec Ideal S1x256 .f32) (a g : Vec Ideal S8x256 .f32) (k : Fin 256) :
    k0_pay49 c a g (ix2 0 k) = @HAdd.hAdd EReal EReal EReal _ (@HMul.hMul EReal EReal EReal _ (a (ix2 0 k)) (c (ix2 0 k))) (g (ix2 0 k)) := by
  pointwise [k0_pay49]

theorem at_tileOf (j : Fin k0_t1_loop.trips) (v : Vec Ideal S512x256 .f32) (k : Fin 256) (n : Fin 512) (hn : n.val = 504 - 8 * j.val) :
    tileOf j v (ix2 0 k) = v (ix2 n k) := by
  unfold tileOf
  have e := k0_off1_eq j
  refine congrArg v (funext fun a => Fin.ext ?_)
  match a with
  | ⟨0, _⟩ =>
    show k0_off1 j 0 + 1 * 0 = n.val
    rw [e, hn]; rfl
  | ⟨1, _⟩ =>
    show k0_off1 j 1 + 1 * k.val = k.val
    rw [e]; show 0 + 1 * k.val = k.val; omega

theorem at_recv (g a : Vec Ideal S512x256 .f32) (c : Vec Ideal S1x256 .f32) (r : Fin 512) (k : Fin 256) :
    recv g a c (ix2 r k) = carry g a c (63 - r.val / 8) (ix2 0 k) := by
  unfold recv
  refine congrArg (carry g a c (63 - r.val / 8)) (funext fun a => ?_)
  match a with
  | ⟨0, _⟩ => rfl
  | ⟨1, _⟩ => rfl

theorem cmpi_last (r : Fin 512) : IntOp.cmpi .eq (BitVec.ofNat 32 (r.val % 8)) 7#32 = BitVec.ofBool (decide (r.val % 8 = 7)) := by
  revert r; decide +kernel

variable {D : Inputs} {i : grid0.Coords} {b : ℕ} {B : Blocks Ideal} (T : Tile D i b B)
include T

theorem at_tg2 (r : Fin 512) (k : Fin 256) :
    tg2 i B (ix2 r k) = ((D.run (min 2 (8 - r.val % 8)) (b + r) k 0 : ℝ) : EReal) := by
  pointwise [tg2, k0_pay38, k0_pay39, k0_pay36]
  rw [at_place, cmpi_slt _ 7 (by omega) (by omega), select_decide]
  simp only [at_adh T, at_dec T]
  by_cases h : r.val % 8 < 7
  · rw [if_pos h, ← EReal.coe_mul, ← EReal.coe_add]
    refine congrArg _ ?_
    rw [show min 2 (8 - r.val % 8) = 2 by omega]
    have e : (r.val + 512 - 511) % 512 = r.val + 1 := by omega
    simp only [Inputs.run, mul_zero, add_zero, e, Nat.add_assoc]
  · rw [if_neg h, add_zero]
    rw [show min 2 (8 - r.val % 8) = 1 by omega]
    simp only [Inputs.run, mul_zero, add_zero]

theorem at_tg4 (r : Fin 512) (k : Fin 256) :
    tg4 i B (ix2 r k) = ((D.run (min 4 (8 - r.val % 8)) (b + r) k 0 : ℝ) : EReal) := by
  pointwise [tg4, k0_pay41]
  rw [at_place, cmpi_slt _ 6 (by omega) (by omega), select_decide]
  simp only [at_tg2 T, at_fac2 T]
  by_cases h : r.val % 8 < 6
  · rw [if_pos h, ← EReal.coe_mul, ← EReal.coe_add]
    refine congrArg _ ?_
    have e : (r.val + 512 - 510) % 512 = r.val + 2 := by omega
    simp only [e]
    rw [show min 4 (8 - r.val % 8) = 2 + min 2 (8 - (r.val + 2) % 8) by omega, D.run_join, show min 2 (8 - r.val % 8) = 2 by omega, Nat.add_assoc]
  · rw [if_neg h, add_zero, show min 4 (8 - r.val % 8) = min 2 (8 - r.val % 8) by omega]

theorem at_tg (r : Fin 512) (k : Fin 256) : tg i B (ix2 r k) = ((D.run (8 - r.val % 8) (b + r) k 0 : ℝ) : EReal) := by
  rw [tg_eq]
  pointwise [k0_pay43]
  rw [at_place, cmpi_slt _ 4 (by omega) (by omega), select_decide]
  simp only [at_tg4 T, at_fac4 T]
  by_cases h : r.val % 8 < 4
  · rw [if_pos h, ← EReal.coe_mul, ← EReal.coe_add]
    refine congrArg _ ?_
    have e : (r.val + 512 - 508) % 512 = r.val + 4 := by omega
    simp only [e]
    rw [show 8 - r.val % 8 = 4 + min 4 (8 - (r.val + 4) % 8) by omega, D.run_join, show min 4 (4 + min 4 (8 - (r.val + 4) % 8)) = 4 by omega, Nat.add_assoc]
  · rw [if_neg h, add_zero, show min 4 (8 - r.val % 8) = 8 - r.val % 8 by omega]

theorem at_gS (r : Fin 512) (k : Fin 256) : gS i B (ix2 r k) = ((D.run (8 - r.val % 8) (b + r) k 0 : ℝ) : EReal) := by
  unfold gS k0_pay47
  rw [shapeCast_self]
  exact at_tg T r k

theorem at_aS (r : Fin 512) (k : Fin 256) : aS i B (ix2 r k) = ((D.fac (8 - r.val % 8) (b + r) k : ℝ) : EReal) := by
  unfold aS k0_pay46
  rw [shapeCast_self]
  exact at_ta T r k

variable {c : Vec Ideal S1x256 .f32} (hc : ∀ k : Fin 256, c (ix2 0 k) = ((D.C (b + 512) k : ℝ) : EReal))
include hc

theorem at_carry (j : ℕ) (hj : j ≤ 64) (k : Fin 256) :
    carry (gS i B) (aS i B) c j (ix2 0 k) = ((D.C (b + 512 - 8 * j) k : ℝ) : EReal) := by
  have hb := T.base
  induction j with
  | zero => exact hc k
  | succ j ih =>
    have hj' : j < k0_t1_loop.trips := by rw [trips_eq]; omega
    rw [carry_succ (gS i B) (aS i B) c ⟨j, hj'⟩, at_pay49, ih (by omega),
      at_tileOf ⟨j, hj'⟩ _ k ⟨504 - 8 * j, by omega⟩ rfl, at_tileOf ⟨j, hj'⟩ _ k ⟨504 - 8 * j, by omega⟩ rfl,
      at_aS T, at_gS T, ← EReal.coe_mul, ← EReal.coe_add]
    refine congrArg _ ?_
    have e1 : 8 - (504 - 8 * j) % 8 = 8 := by omega
    have e2 := D.run_C 8 (b + (504 - 8 * j)) k (by omega)
    rw [D.run_affine] at e2
    simp only [e1]
    rw [show b + 512 - 8 * (j + 1) = b + (504 - 8 * j) by omega, ← e2, show b + (504 - 8 * j) + 8 = b + 512 - 8 * j by omega]
    exact add_comm _ _

theorem at_cin (r : Fin 512) (k : Fin 256) : cin i B c (ix2 r k) = ((D.C (b + 8 * (r.val / 8) + 8) k : ℝ) : EReal) := by
  unfold cin
  rw [at_recv, at_carry T hc _ (by omega)]
  rw [show b + 512 - 8 * (63 - r.val / 8) = b + 8 * (r.val / 8) + 8 by omega]

theorem at_cout (k : Fin 256) : cout i B c (ix2 0 k) = ((D.C b k : ℝ) : EReal) := by
  unfold cout k0_pay50
  rw [shapeCast_self, trips_eq, at_carry T hc 64 (le_refl _)]
  rfl

theorem at_grad (r : Fin 512) (k : Fin 256) : grad i B c (ix2 r k) = ((D.G (b + r) k : ℝ) : EReal) := by
  have hb := T.base
  rw [grad_eq]
  pointwise []
  rw [at_place, cmpi_last, select_decide]
  simp only [at_dh T, at_tg T, at_ta T, at_cin T hc]
  rw [D.G_step _ _ (by omega), EReal.coe_add]
  refine congrArg _ ?_
  by_cases h : r.val % 8 = 7
  · rw [if_pos h, show b + 8 * (r.val / 8) + 8 = b + r.val + 1 by omega]
  · rw [if_neg h, ← EReal.coe_mul, ← EReal.coe_add]
    refine congrArg _ ?_
    have e : (r.val + 512 - 511) % 512 = r.val + 1 := by omega
    simp only [e]
    have e2 := D.run_C (8 - (r.val + 1) % 8) (b + r.val + 1) k (by omega)
    rw [D.run_affine] at e2
    rw [← e2, show b + (r.val + 1) = b + r.val + 1 by omega, show b + 8 * ((r.val + 1) / 8) + 8 = b + r.val + 1 + (8 - (r.val + 1) % 8) by omega]
    exact add_comm _ _

variable (P : Decays D)
include P

theorem at_gmx (r : Fin 512) (k : Fin 256) : gmx i B c (ix2 r k) = ((D.gmx (b + r) k : ℝ) : EReal) := by
  pointwise [gmx, k0_pay52]
  simp only [at_grad T hc, at_mlt T P, at_xc T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_gmi (r : Fin 512) (k : Fin 256) : gmi i B c (ix2 r k) = ((D.gmi (b + r) k : ℝ) : EReal) := by
  pointwise [gmi, k0_pay53]
  simp only [at_grad T hc, at_mlt T P, at_ig T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_gsq (r : Fin 512) (k : Fin 256) : gsq i B c (ix2 r k) = ((D.gsq (b + r) k : ℝ) : EReal) := by
  pointwise [gsq, k0_pay54]
  simp only [at_top T, select_decide, at_grad T hc, at_mlt T P, at_ig T, at_xc T, at_sq T P]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rw [ite_real, div_real _ _ (mu_pos D _ _).ne']
  simp only [EReal.coe_lt_coe_iff]
  rw [ite_real]
  refine congrArg _ ?_
  unfold Inputs.gsq
  by_cases h0 : b + r.val = 0
  · simp only [if_pos h0, zero_mul]
  · simp only [if_neg h0]

theorem at_gdec (r : Fin 512) (k : Fin 256) : gdec i B c (ix2 r k) = ((D.gdec (b + r) k : ℝ) : EReal) := by
  pointwise [gdec, k0_pay55]
  simp only [at_grad T hc, at_hprev T, at_dec T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_dpa (r : Fin 512) (k : Fin 256) : dpa i B c (ix2 r k) = ((D.dpa (b + r) k : ℝ) : EReal) := by
  pointwise [dpa, k0_pay58, k0_pay56]
  simp only [at_gdec T hc P, at_gsq T hc P, at_dec T, at_sp T, at_rg T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_dpx (r : Fin 512) (k : Fin 256) : dpx i B c (ix2 r k) = ((D.dpx (b + r) k : ℝ) : EReal) := by
  pointwise [dpx, k0_pay59]
  simp only [at_gmx T hc P, at_ig T]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_dxc (r : Fin 512) (k : Fin 256) : dxc i B c (ix2 r k) = ((D.dxc (b + r) k : ℝ) : EReal) := by
  pointwise [dxc, k0_pay68, part, k0_pay65, k0_pay66, k0_pay67]
  rw [mul_sum_coe _ _ _ _ (fun x => at_dpa T hc P r x) (fun x => T.wa k x),
    mul_sum_coe _ _ _ _ (fun x => at_dpx T hc P r x) (fun x => T.wx k x), at_gmi T hc P]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_nout (r : Fin 8) (k : Fin 256) : nout i B c (ix2 r k) = ((D.dxc (b + r) k : ℝ) : EReal) := by
  pointwise [nout, k0_pay71]
  exact at_dxc T hc P _ k

omit T hc P in
/-- Sums over the rows, added to what was there. -/
theorem add_rows {f : Fin 512 → EReal} {f' : Fin 512 → ℝ} {o : EReal} {s : ℝ} (ho : o = (s : EReal)) (hf : ∀ r, f r = (f' r : EReal)) :
    o + ∑ r, f r = ((s + ∑ r, f' r : ℝ) : EReal) := by
  rw [ho, EReal.coe_add, ← coe_sum]
  exact congrArg _ (Finset.sum_congr rfl fun r _ => hf r)

theorem at_dba (o : Vec Ideal S1x256 .f32) (s : ℝ) (k : Fin 256) (ho : o (ix2 0 k) = (s : EReal)) :
    dba i B c o (ix2 0 k) = ((s + ∑ r : Fin 512, D.dpa (b + r) k : ℝ) : EReal) := by
  pointwise [dba, k0_pay61, k0_pay60]
  exact add_rows ho fun r => at_dpa T hc P r k

theorem at_dbx (o : Vec Ideal S1x256 .f32) (s : ℝ) (k : Fin 256) (ho : o (ix2 0 k) = (s : EReal)) :
    dbx i B c o (ix2 0 k) = ((s + ∑ r : Fin 512, D.dpx (b + r) k : ℝ) : EReal) := by
  pointwise [dbx, k0_pay62]
  exact add_rows ho fun r => at_dpx T hc P r k

theorem at_dcb (o : Vec Ideal S1x256 .f32) (s : ℝ) (k : Fin 256) (ho : o (ix2 0 k) = (s : EReal)) :
    dcb i B c o (ix2 0 k) = ((s + ∑ r : Fin 512, D.dxc (b + r) k : ℝ) : EReal) := by
  pointwise [dcb, k0_pay72]
  exact add_rows ho fun r => at_dxc T hc P r k

theorem at_dwa (o : Vec Ideal S256x256 .f32) (s : ℝ) (x k : Fin 256) (ho : o (ix2 x k) = (s : EReal)) :
    dwa i B c o (ix2 x k) = ((s + ∑ r : Fin 512, D.xc (b + r) x * D.dpa (b + r) k : ℝ) : EReal) := by
  pointwise [dwa, k0_pay63]
  exact add_rows ho fun r => by rw [at_xc T, at_dpa T hc P, ← EReal.coe_mul]

theorem at_dwx (o : Vec Ideal S256x256 .f32) (s : ℝ) (x k : Fin 256) (ho : o (ix2 x k) = (s : EReal)) :
    dwx i B c o (ix2 x k) = ((s + ∑ r : Fin 512, D.xc (b + r) x * D.dpx (b + r) k : ℝ) : EReal) := by
  pointwise [dwx, k0_pay64]
  exact add_rows ho fun r => by rw [at_xc T, at_dpx T hc P, ← EReal.coe_mul]

theorem at_dw (o : Vec Ideal S4x256 .f32) (s : ℝ) (j : Fin 4) (k : Fin 256) (ho : o (ix2 j k) = (s : EReal)) :
    dw i B c o (ix2 j k) = ((s + ∑ r : Fin 512, D.sh (3 - j) (b + r) k * D.dxc (b + r) k : ℝ) : EReal) := by
  match j, ho with
  | ⟨0, _⟩, ho =>
    pointwise [dw, k0_pay73]
    exact add_rows ho fun r => by simp only [at_sh3 T, at_dxc T hc P, ← EReal.coe_mul]
  | ⟨1, _⟩, ho =>
    pointwise [dw, k0_pay73]
    exact add_rows ho fun r => by simp only [at_sh2 T, at_dxc T hc P, ← EReal.coe_mul]
  | ⟨2, _⟩, ho =>
    pointwise [dw, k0_pay73]
    exact add_rows ho fun r => by simp only [at_sh1 T, at_dxc T hc P, ← EReal.coe_mul]
  | ⟨3, _⟩, ho =>
    pointwise [dw, k0_pay73]
    exact add_rows ho fun r => by simp only [T.x, at_dxc T hc P, ← EReal.coe_mul]; rfl

theorem at_dlam (o : Vec Ideal S1x256 .f32) (s : ℝ) (k : Fin 256) (ho : o (ix2 0 k) = (s : EReal)) :
    dlam i B c o (ix2 0 k) = ((s + (∑ r : Fin 512, D.dl (b + r) k) * (-Mixer.sig (-D.lam k)) : ℝ) : EReal) := by
  pointwise [dlam, k0_pay57, k0_pay56]
  have e : ∀ r : Fin 512, ((D.dl (b + r) k : ℝ) : EReal) = ((D.gdec (b + r) k : ℝ) - 2 * (D.a (b + r) k) * (D.a (b + r) k) * (D.gsq (b + r) k) : ℝ) * ((-8 : ℝ) : EReal) * ((D.r (b + r) k : ℝ) : EReal) := fun r => by
    rw [← EReal.coe_mul, ← EReal.coe_mul]; rfl
  simp only [at_gdec T hc P, at_gsq T hc P, at_dec T, at_rg T, T.lam, ho, zero_sub]
  rw [← EReal.coe_neg, sig_real]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rw [coe_sum]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  rfl

theorem at_later3 {n : Vec Ideal S8x256 .f32} (hn : (i 0).val ≠ 0 → ∀ (r : Fin 8) (k : Fin 256), n (ix2 r k) = ((D.dxc (b + 512 + r) k : ℝ) : EReal))
    (r : Fin 512) (k : Fin 256) : later3 i (dxc i B c) n (ix2 r k) = ((D.later 3 (b + r) k : ℝ) : EReal) := by
  have hb := T.base
  have hi : (i 0).val < 16 := (i 0).isLt
  have hR : b + r.val + 3 < 8192 → D.later 3 (b + r) k = D.dxc (b + r + 3) k := fun h => if_pos h
  have hZ : ¬ b + r.val + 3 < 8192 → D.later 3 (b + r) k = 0 := fun h => if_neg h
  pointwise [later3]
  by_cases h8 : r.val < 504
  · refine (dif_pos h8).trans ((at_dxc T hc P _ k).trans (congrArg (fun n : ℝ => (n : EReal)) ?_))
    refine Eq.trans ?_ (hR (by omega)).symm
    exact congrArg (fun n => D.dxc n k) (by show b + (r.val + 512 - 509) % 512 = _; omega)
  · refine (dif_neg h8).trans ?_
    rw [cmpi_sge (r.val - 504) 5 (by omega) (by omega), select_decide]
    by_cases hs : 5 ≤ r.val - 504
    · rw [if_pos hs]
      have e : Scalar.cmpi .eq (BitVec.ofNat 32 (i 0).val) 0#32 = BitVec.ofBool (decide ((i 0).val = 0)) := cmpi_eq_zero _ (by omega)
      rw [e, select_decide]
      by_cases h0 : (i 0).val = 0
      · rw [if_pos h0, hZ (by omega)]; rfl
      · rw [if_neg h0, hR (by omega)]
        exact (hn h0 _ k).trans (congrArg (fun n => ((D.dxc n k : ℝ) : EReal)) (by show b + 512 + (r.val - 504 + 8 - 5) % 8 = _; omega))
    · rw [if_neg hs, hR (by omega)]
      exact (at_dxc T hc P _ k).trans (congrArg (fun n => ((D.dxc n k : ℝ) : EReal)) (by show b + (504 + (r.val - 504) + 512 - 509) % 512 = _; omega))

theorem at_later2 {n : Vec Ideal S8x256 .f32} (hn : (i 0).val ≠ 0 → ∀ (r : Fin 8) (k : Fin 256), n (ix2 r k) = ((D.dxc (b + 512 + r) k : ℝ) : EReal))
    (r : Fin 512) (k : Fin 256) : later2 i (dxc i B c) n (ix2 r k) = ((D.later 2 (b + r) k : ℝ) : EReal) := by
  have hb := T.base
  have hi : (i 0).val < 16 := (i 0).isLt
  have hR : b + r.val + 2 < 8192 → D.later 2 (b + r) k = D.dxc (b + r + 2) k := fun h => if_pos h
  have hZ : ¬ b + r.val + 2 < 8192 → D.later 2 (b + r) k = 0 := fun h => if_neg h
  pointwise [later2]
  by_cases h8 : r.val < 504
  · refine (dif_pos h8).trans ((at_dxc T hc P _ k).trans (congrArg (fun n : ℝ => (n : EReal)) ?_))
    refine Eq.trans ?_ (hR (by omega)).symm
    exact congrArg (fun n => D.dxc n k) (by show b + (r.val + 512 - 510) % 512 = _; omega)
  · refine (dif_neg h8).trans ?_
    rw [cmpi_sge (r.val - 504) 6 (by omega) (by omega), select_decide]
    by_cases hs : 6 ≤ r.val - 504
    · rw [if_pos hs]
      have e : Scalar.cmpi .eq (BitVec.ofNat 32 (i 0).val) 0#32 = BitVec.ofBool (decide ((i 0).val = 0)) := cmpi_eq_zero _ (by omega)
      rw [e, select_decide]
      by_cases h0 : (i 0).val = 0
      · rw [if_pos h0, hZ (by omega)]; rfl
      · rw [if_neg h0, hR (by omega)]
        exact (hn h0 _ k).trans (congrArg (fun n => ((D.dxc n k : ℝ) : EReal)) (by show b + 512 + (r.val - 504 + 8 - 6) % 8 = _; omega))
    · rw [if_neg hs, hR (by omega)]
      exact (at_dxc T hc P _ k).trans (congrArg (fun n => ((D.dxc n k : ℝ) : EReal)) (by show b + (504 + (r.val - 504) + 512 - 510) % 512 = _; omega))

theorem at_later1 {n : Vec Ideal S8x256 .f32} (hn : (i 0).val ≠ 0 → ∀ (r : Fin 8) (k : Fin 256), n (ix2 r k) = ((D.dxc (b + 512 + r) k : ℝ) : EReal))
    (r : Fin 512) (k : Fin 256) : later1 i (dxc i B c) n (ix2 r k) = ((D.later 1 (b + r) k : ℝ) : EReal) := by
  have hb := T.base
  have hi : (i 0).val < 16 := (i 0).isLt
  have hR : b + r.val + 1 < 8192 → D.later 1 (b + r) k = D.dxc (b + r + 1) k := fun h => if_pos h
  have hZ : ¬ b + r.val + 1 < 8192 → D.later 1 (b + r) k = 0 := fun h => if_neg h
  pointwise [later1]
  by_cases h8 : r.val < 504
  · refine (dif_pos h8).trans ((at_dxc T hc P _ k).trans (congrArg (fun n : ℝ => (n : EReal)) ?_))
    refine Eq.trans ?_ (hR (by omega)).symm
    exact congrArg (fun n => D.dxc n k) (by show b + (r.val + 512 - 511) % 512 = _; omega)
  · refine (dif_neg h8).trans ?_
    rw [cmpi_sge (r.val - 504) 7 (by omega) (by omega), select_decide]
    by_cases hs : 7 ≤ r.val - 504
    · rw [if_pos hs]
      have e : Scalar.cmpi .eq (BitVec.ofNat 32 (i 0).val) 0#32 = BitVec.ofBool (decide ((i 0).val = 0)) := cmpi_eq_zero _ (by omega)
      rw [e, select_decide]
      by_cases h0 : (i 0).val = 0
      · rw [if_pos h0, hZ (by omega)]; rfl
      · rw [if_neg h0, hR (by omega)]
        exact (hn h0 _ k).trans (congrArg (fun n => ((D.dxc n k : ℝ) : EReal)) (by show b + 512 + (r.val - 504 + 8 - 7) % 8 = _; omega))
    · rw [if_neg hs, hR (by omega)]
      exact (at_dxc T hc P _ k).trans (congrArg (fun n => ((D.dxc n k : ℝ) : EReal)) (by show b + (504 + (r.val - 504) + 512 - 511) % 512 = _; omega))

theorem at_dx {n : Vec Ideal S8x256 .f32} (hn : (i 0).val ≠ 0 → ∀ (r : Fin 8) (k : Fin 256), n (ix2 r k) = ((D.dxc (b + 512 + r) k : ℝ) : EReal))
    (r : Fin 512) (k : Fin 256) : dx i B c n (ix2 r k) = ((D.dx (b + r) k : ℝ) : EReal) := by
  rw [dx_eq]
  pointwise [k0_pay70]
  simp only [at_later3 T hc P hn, at_later2 T hc P hn, at_later1 T hc P hn, at_dxc T hc P, T.w]
  simp only [ofBits_two, ofBits_three, ofBits_half, ofBits_neg_eight, ofBits_eps, ofBits_c0, ← EReal.coe_mul, ← EReal.coe_add, ← EReal.coe_neg, ← EReal.coe_sub, ← EReal.coe_one, ← EReal.coe_zero]
  exact congrArg _ (by unfold Inputs.dx; ring_nf; rfl)

end Cert.KernelIdeal.Point

end
-- ==== Proof.KerSweep.lean ====
/- The sweep of the kernel over the real numbers: what the blocks hold, what is carried from point to point, and the
   arrays after the last point. -/
module

public import proofs.«01_k».proof.Proof.KerGrad
public import proofs.«01_k».proof.Proof.HostValue
public import proofs.«01_k».proof.Proof.Sweep
public import Idealize.ShloMosaic.Lib.Pipeline.ValueKit

@[expose] public section

set_option maxRecDepth 16384

noncomputable section

namespace Cert.Mixer

/-- A sum over the rows from `e` on, the first 512 of them apart. -/
theorem sum_rows (f : ℕ → ℝ) (e : ℕ) (h : e + 512 ≤ 8192) :
    (∑ t ∈ Finset.Ico (e + 512) 8192, f t) + ∑ r : Fin 512, f (e + r) = ∑ t ∈ Finset.Ico e 8192, f t := by
  rw [← Finset.sum_Ico_consecutive f (show e ≤ e + 512 by omega) h, add_comm, Finset.sum_Ico_eq_sum_range f e, Nat.add_sub_cancel_left,
    Finset.sum_range]

theorem sum_all (f : ℕ → ℝ) : ∑ t ∈ Finset.Ico 0 8192, f t = ∑ t : Fin 8192, f t := by
  rw [← Finset.range_eq_Ico, Finset.sum_range]

/-- The derivative of the softplus is the logistic function. -/
theorem exp_softplus (D : Inputs) (k : ℕ) : Real.exp (-D.lam k - D.sp k) = sig (-D.lam k) := by
  unfold Inputs.sp sig
  generalize -D.lam k = x
  have h : (0 : ℝ) < 1 + Real.exp (-|x|) := by positivity
  have h2 : (0 : ℝ) < 1 + Real.exp (-x) := by positivity
  rw [show x - (max x 0 + Real.log (1 + Real.exp (-|x|))) = (x - max x 0) - Real.log (1 + Real.exp (-|x|)) by ring,
    Real.exp_sub, Real.exp_log h]
  rcases le_total 0 x with hx | hx
  · rw [max_eq_left hx, abs_of_nonneg hx, sub_self, Real.exp_zero]
  · rw [max_eq_right hx, abs_of_nonpos hx, sub_zero, neg_neg, div_eq_div_iff (by positivity) h2.ne', mul_add, mul_one, ← Real.exp_add, add_neg_cancel, Real.exp_zero]
    ring

end Cert.Mixer

namespace Cert.KernelIdeal.Point

open Idealize.ShloMosaic Idealize.ShloMosaic.TcCoe Cert.KernelIdeal Cert.KernelIdeal.Gen Cert.Mixer
open Idealize.ShloMosaic.Pipeline (Dat Cfg Window)

/-- Which blocks of their arrays the windows over rows read and write: the last rows first. -/
theorem idx_rows : ∀ t : Fin cfg0.N, win0_0.index t = ![15 - t.val, 12] ∧ win0_1.index t = ![64 * (15 - t.val) - 1, 12] ∧ win0_2.index t = ![15 - t.val, 13]
    ∧ win0_10.index t = ![15 - t.val, 0] ∧ win0_11.index t = ![64 * (15 - t.val) - 1, 0] ∧ win0_12.index t = ![15 - t.val, 3]
    ∧ win0_13.index t = ![15 - t.val, 0] ∧ win0_14.index t = ![15 - t.val, 0] :=
  (by decide +kernel : ∀ t : Fin grid0.N, _)

/-- The windows over the weights hold them whole. -/
theorem idx_whole : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

theorem t_lt (t : Fin cfg0.N) : t.val < 16 := lt_of_lt_of_eq t.isLt N_0

variable (m : (ℓ : Loc nD τ sig) → Buf (Elt Ideal) ℓ) (c : Dev nD)

theorem block_x (t : Fin cfg0.N) (r : Fin 512) (k : Fin 256) (n : Fin 8192) (hn : n.val = 7680 - 512 * t.val + r.val) :
    (blocks m c t).x (ix2 r k) = V m c main_arg0 (ix2 n ⟨3072 + k, by omega⟩) := by
  have e := (idx_rows t).1
  have ht := t_lt t
  rw [← blocks_0]
  blk_simp [iblk, e]
  refine congrArg _ ?_
  blk_ext [e]

theorem block_xp (t : Fin cfg0.N) (h15 : t.val ≠ 15) (r : Fin 8) (k : Fin 256) (n : Fin 8192) (hn : n.val = 7680 - 512 * t.val - 8 + r.val) :
    (blocks m c t).xp (ix2 r k) = V m c main_arg0 (ix2 n ⟨3072 + k, by omega⟩) := by
  have e := (idx_rows t).2.1
  have ht := t_lt t
  rw [← blocks_1]
  blk_simp [iblk, e]
  refine congrArg _ ?_
  blk_ext [e]

theorem block_y (t : Fin cfg0.N) (r : Fin 512) (k : Fin 256) (n : Fin 8192) (hn : n.val = 7680 - 512 * t.val + r.val) :
    (blocks m c t).y (ix2 r k) = V m c main_arg0 (ix2 n ⟨3328 + k, by omega⟩) := by
  have e := (idx_rows t).2.2.1
  have ht := t_lt t
  rw [← blocks_2]
  blk_simp [iblk, e]
  refine congrArg _ ?_
  blk_ext [e]

theorem block_h (t : Fin cfg0.N) (r : Fin 512) (k : Fin 256) (n : Fin 8192) (hn : n.val = 7680 - 512 * t.val + r.val) :
    (blocks m c t).h (ix2 r k) = V m c main_v91 (ix2 n k) := by
  have e := (idx_rows t).2.2.2.1
  have ht := t_lt t
  rw [← blocks_10]
  blk_simp [iblk, e]
  refine congrArg _ ?_
  blk_ext [e]

theorem block_hp (t : Fin cfg0.N) (h15 : t.val ≠ 15) (r : Fin 8) (k : Fin 256) (n : Fin 8192) (hn : n.val = 7680 - 512 * t.val - 8 + r.val) :
    (blocks m c t).hp (ix2 r k) = V m c main_v91 (ix2 n k) := by
  have e := (idx_rows t).2.2.2.2.1
  have ht := t_lt t
  rw [← blocks_11]
  blk_simp [iblk, e]
  refine congrArg _ ?_
  blk_ext [e]

theorem block_dm (t : Fin cfg0.N) (r : Fin 512) (k : Fin 256) (n : Fin 8192) (hn : n.val = 7680 - 512 * t.val + r.val) :
    (blocks m c t).dm (ix2 r k) = V m c main_arg8 (ix2 n ⟨768 + k, by omega⟩) := by
  have e := (idx_rows t).2.2.2.2.2.1
  have ht := t_lt t
  rw [← blocks_12]
  blk_simp [iblk, e]
  refine congrArg _ ?_
  blk_ext [e]

theorem block_w (t : Fin cfg0.N) (r : Fin 4) (k : Fin 256) : (blocks m c t).w (ix2 r k) = V m c main_arg1 (ix2 r k) := by
  have e := (idx_whole t).1
  rw [← blocks_3]
  blk_simp [iblk, e]
  refine congrArg _ ?_
  blk_ext [e]

theorem block_cb (t : Fin cfg0.N) (r : Fin 1) (k : Fin 256) : (blocks m c t).cb (ix2 r k) = V m c main_arg2 (ix2 r k) := by
  have e := (idx_whole t).2.1
  rw [← blocks_4]
  blk_simp [iblk, e]
  refine congrArg _ ?_
  blk_ext [e]

theorem block_wa (t : Fin cfg0.N) (r : Fin 256) (k : Fin 256) : (blocks m c t).wa (ix2 r k) = V m c main_arg3 (ix2 r k) := by
  have e := (idx_whole t).2.2.1
  rw [← blocks_5]
  blk_simp [iblk, e]
  refine congrArg _ ?_
  blk_ext [e]

theorem block_ba (t : Fin cfg0.N) (r : Fin 1) (k : Fin 256) : (blocks m c t).ba (ix2 r k) = V m c main_arg4 (ix2 r k) := by
  have e := (idx_whole t).2.2.2.1
  rw [← blocks_6]
  blk_simp [iblk, e]
  refine congrArg _ ?_
  blk_ext [e]

theorem block_wx (t : Fin cfg0.N) (r : Fin 256) (k : Fin 256) : (blocks m c t).wx (ix2 r k) = V m c main_arg5 (ix2 r k) := by
  have e := (idx_whole t).2.2.2.2.1
  rw [← blocks_7]
  blk_simp [iblk, e]
  refine congrArg _ ?_
  blk_ext [e]

theorem block_bx (t : Fin cfg0.N) (r : Fin 1) (k : Fin 256) : (blocks m c t).bx (ix2 r k) = V m c main_arg6 (ix2 r k) := by
  have e := (idx_whole t).2.2.2.2.2.1
  rw [← blocks_8]
  blk_simp [iblk, e]
  refine congrArg _ ?_
  blk_ext [e]

theorem block_lam (t : Fin cfg0.N) (r : Fin 1) (k : Fin 256) : (blocks m c t).lam (ix2 r k) = V m c main_arg7 (ix2 r k) := by
  have e := (idx_whole t).2.2.2.2.2.2
  rw [← blocks_9]
  blk_simp [iblk, e]
  refine congrArg _ ?_
  blk_ext [e]

variable {m c} {D : Inputs} (H : Hosted.Holds D (fun b => m (c, b)))
include H

/-- The blocks of point `t` hold the rows from `7680 - 512 t` on. -/
theorem tile (t : Fin cfg0.N) : Tile D (grid0.coords t) (7680 - 512 * t.val) (blocks m c t) := by
  have ht := t_lt t
  constructor
  · rw [coords_zero]; omega
  · intro r k; rw [block_x m c t r k ⟨7680 - 512 * t.val + r.val, by omega⟩ rfl, V_main_arg0]; exact H.x _ k
  · intro h0 r k; rw [block_xp m c t (by omega) r k ⟨7680 - 512 * t.val - 8 + r.val, by omega⟩ rfl, V_main_arg0]; exact H.x _ k
  · intro r k; rw [block_y m c t r k ⟨7680 - 512 * t.val + r.val, by omega⟩ rfl, V_main_arg0]; exact H.y _ k
  · intro j k; rw [block_w, V_main_arg1]; exact H.w j k
  · intro k; rw [block_cb, V_main_arg2]; exact H.cb k
  · intro x k; rw [block_wa, V_main_arg3]; exact H.wa x k
  · intro k; rw [block_ba, V_main_arg4]; exact H.ba k
  · intro x k; rw [block_wx, V_main_arg5]; exact H.wx x k
  · intro k; rw [block_bx, V_main_arg6]; exact H.bx k
  · intro k; rw [block_lam, V_main_arg7]; exact H.lam k
  · intro r k; rw [block_h m c t r k ⟨7680 - 512 * t.val + r.val, by omega⟩ rfl, Hosted.launched]; exact Hosted.at_v91 H _ k
  · intro h0 r k; rw [block_hp m c t (by omega) r k ⟨7680 - 512 * t.val - 8 + r.val, by omega⟩ rfl, Hosted.launched]; exact Hosted.at_v91 H _ k
  · intro r k; rw [block_dm m c t r k ⟨7680 - 512 * t.val + r.val, by omega⟩ rfl, V_main_arg8]; exact H.dm _ k

omit H in
/-- What is carried when the rows from `e` on are done. -/
structure Done (D : Inputs) (e : ℕ) (s : Carried Ideal) : Prop where
  c : ∀ k : Fin 256, s.c (ix2 0 k) = ((D.C e k : ℝ) : EReal)
  n : e ≠ 8192 → ∀ (r : Fin 8) (k : Fin 256), s.n (ix2 r k) = ((D.dxc (e + r) k : ℝ) : EReal)
  dw : ∀ (j : Fin 4) (k : Fin 256), s.dw (ix2 j k) = ((∑ t ∈ Finset.Ico e 8192, D.sh (3 - j) t k * D.dxc t k : ℝ) : EReal)
  dcb : ∀ k : Fin 256, s.dcb (ix2 0 k) = ((∑ t ∈ Finset.Ico e 8192, D.dxc t k : ℝ) : EReal)
  dwa : ∀ x k : Fin 256, s.dwa (ix2 x k) = ((∑ t ∈ Finset.Ico e 8192, D.xc t x * D.dpa t k : ℝ) : EReal)
  dba : ∀ k : Fin 256, s.dba (ix2 0 k) = ((∑ t ∈ Finset.Ico e 8192, D.dpa t k : ℝ) : EReal)
  dwx : ∀ x k : Fin 256, s.dwx (ix2 x k) = ((∑ t ∈ Finset.Ico e 8192, D.xc t x * D.dpx t k : ℝ) : EReal)
  dbx : ∀ k : Fin 256, s.dbx (ix2 0 k) = ((∑ t ∈ Finset.Ico e 8192, D.dpx t k : ℝ) : EReal)
  dlam : ∀ k : Fin 256, s.dlam (ix2 0 k) = (((∑ t ∈ Finset.Ico e 8192, D.dl t k) * (-Mixer.sig (-D.lam k)) : ℝ) : EReal)

omit H in
/-- Before the first point nothing is done. -/
theorem done_zero (D : Inputs) : Done D 8192 (Carried.zero (F := Ideal)) := by
  constructor
  · intro k; rw [D.C_end]; pointwise [Carried.zero, k0_pay1]; rfl
  · intro h; exact absurd rfl h
  · intro j k; rw [Finset.Ico_self, Finset.sum_empty]; pointwise [Carried.zero, k0_pay2]; rfl
  · intro k; rw [Finset.Ico_self, Finset.sum_empty]; pointwise [Carried.zero, k0_pay3]; rfl
  · intro x k; rw [Finset.Ico_self, Finset.sum_empty]; pointwise [Carried.zero, k0_pay4]; rfl
  · intro k; rw [Finset.Ico_self, Finset.sum_empty]; pointwise [Carried.zero, k0_pay5]; rfl
  · intro x k; rw [Finset.Ico_self, Finset.sum_empty]; pointwise [Carried.zero, k0_pay6]; rfl
  · intro k; rw [Finset.Ico_self, Finset.sum_empty]; pointwise [Carried.zero, k0_pay7]; rfl
  · intro k; rw [Finset.Ico_self, Finset.sum_empty, zero_mul]; pointwise [Carried.zero, k0_pay8]; rfl

omit H in
/-- A point adds its rows. -/
theorem done_next {i : grid0.Coords} {b : ℕ} {B : Blocks Ideal} (T : Tile D i b B) (P : Decays D) {s : Carried Ideal} (h : Done D (b + 512) s) :
    Done D b (Carried.next i B s) := by
  have hb := T.base
  have hs : b + 512 ≤ 8192 := by omega
  have hc := h.c
  constructor
  · intro k; exact at_cout T hc k
  · intro _ r k; exact at_nout T hc P r k
  · intro j k; rw [← sum_rows _ b hs]; exact at_dw T hc P _ _ j k (h.dw j k)
  · intro k; rw [← sum_rows _ b hs]; exact at_dcb T hc P _ _ k (h.dcb k)
  · intro x k; rw [← sum_rows _ b hs]; exact at_dwa T hc P _ _ x k (h.dwa x k)
  · intro k; rw [← sum_rows _ b hs]; exact at_dba T hc P _ _ k (h.dba k)
  · intro x k; rw [← sum_rows _ b hs]; exact at_dwx T hc P _ _ x k (h.dwx x k)
  · intro k; rw [← sum_rows _ b hs]; exact at_dbx T hc P _ _ k (h.dbx k)
  · intro k; rw [← sum_rows _ b hs, add_mul]; exact at_dlam T hc P _ _ k (h.dlam k)

variable (P : Decays D)
include P

/-- Before point `n` the last `512 n` rows are done. -/
theorem done_carried (n : ℕ) (hn : n ≤ cfg0.N) : Done D (8192 - 512 * n) (carried m c n hn) := by
  induction n with
  | zero => exact done_zero D
  | succ n ih =>
    have ht := t_lt ⟨n, hn⟩
    have e : 8192 - 512 * (n + 1) = 7680 - 512 * n := by omega
    rw [e, carried]
    refine done_next (tile H ⟨n, hn⟩) P ?_
    have e2 : 7680 - 512 * n + 512 = 8192 - 512 * n := by simp only at ht; omega
    simp only
    rw [e2]
    exact ih (Nat.le_of_lt hn)

theorem done_leave (t : Fin cfg0.N) : Done D (7680 - 512 * t.val) (leave m c t) := by
  have ht := t_lt t
  refine done_next (tile H t) P ?_
  rw [show 7680 - 512 * t.val + 512 = 8192 - 512 * t.val by omega]
  exact done_carried H P t.val (Nat.le_of_lt t.isLt)

theorem enter_c (t : Fin cfg0.N) (k : Fin 256) : (enter m c t).c (ix2 0 k) = ((D.C (7680 - 512 * t.val + 512) k : ℝ) : EReal) := by
  have ht := t_lt t
  rw [show 7680 - 512 * t.val + 512 = 8192 - 512 * t.val by omega]
  exact (done_carried H P t.val (Nat.le_of_lt t.isLt)).c k

/-- The branch's gradient after the last point. -/
theorem final_dx : (dats m 0 c).arrAt 13 cfg0.N = fun j => ((D.dx (j 0).val (j 1).val : ℝ) : EReal) := by
  refine (dats m 0 c).arrAt_eq_of_covers 13 _ (by decide +kernel) fun t hf y => ?_
  have e := (idx_rows t).2.2.2.2.2.2.1
  have ht := t_lt t
  blk_simp [e]
  rw [after_13, show (15 - t.val) * 512 = 7680 - 512 * t.val by omega]
  have hy : y = ix2 (⟨(y 0).val, (y 0).isLt⟩ : Fin 512) (⟨(y 1).val, (y 1).isLt⟩ : Fin 256) := by
    funext a; match a with | ⟨0, _⟩ => rfl | ⟨1, _⟩ => rfl
  refine (congrArg _ hy).trans ?_
  refine at_dx (tile H t) (enter_c H P t) P ?_ _ _
  intro h0 r k
  rw [coords_zero] at h0
  rw [show 7680 - 512 * t.val + 512 = 8192 - 512 * t.val by omega]
  exact (done_carried H P t.val (Nat.le_of_lt t.isLt)).n (by omega) r k

omit P in
/-- The gate's gradient after the last point. -/
theorem final_dy : (dats m 0 c).arrAt 14 cfg0.N = fun j => ((D.dy (j 0).val (j 1).val : ℝ) : EReal) := by
  refine (dats m 0 c).arrAt_eq_of_covers 14 _ (by decide +kernel) fun t hf y => ?_
  have e := (idx_rows t).2.2.2.2.2.2.2
  have ht := t_lt t
  blk_simp [e]
  rw [after_14, show (15 - t.val) * 512 = 7680 - 512 * t.val by omega]
  have hy : y = ix2 (⟨(y 0).val, (y 0).isLt⟩ : Fin 512) (⟨(y 1).val, (y 1).isLt⟩ : Fin 256) := by
    funext a; match a with | ⟨0, _⟩ => rfl | ⟨1, _⟩ => rfl
  exact (congrArg _ hy).trans (at_dyg (tile H t) _ _)

theorem final_dw : (dats m 0 c).arrAt 15 cfg0.N = fun j => ((∑ t : Fin 8192, D.sh (3 - (j 0).val) t (j 1).val * D.dxc t (j 1).val : ℝ) : EReal) := by
  refine (dats m 0 c).arrAt_eq_of_after_last 15 t0_15 (by decide +kernel) _ fun j => ?_
  blk_simp
  have h : Done D 0 (leave m c t0_15) := done_leave H P t0_15
  have hj : j = ix2 (⟨(j 0).val, (j 0).isLt⟩ : Fin 4) (⟨(j 1).val, (j 1).isLt⟩ : Fin 256) := by
    funext a; match a with | ⟨0, _⟩ => rfl | ⟨1, _⟩ => rfl
  rw [after_15]
  exact (congrArg _ hj).trans ((h.dw _ _).trans (congrArg (fun x : ℝ => (x : EReal)) (sum_all _)))

theorem final_dcb : (dats m 0 c).arrAt 16 cfg0.N = fun j => ((∑ t : Fin 8192, D.dxc t (j 1).val : ℝ) : EReal) := by
  refine (dats m 0 c).arrAt_eq_of_after_last 16 t0_15 (by decide +kernel) _ fun j => ?_
  blk_simp
  have h : Done D 0 (leave m c t0_15) := done_leave H P t0_15
  have hj : j = ix2 (0 : Fin 1) (⟨(j 1).val, (j 1).isLt⟩ : Fin 256) := by
    have h0 : (j 0).val < 1 := (j 0).isLt
    funext a; match a with | ⟨0, _⟩ => exact Fin.ext (by show (j 0).val = 0; omega) | ⟨1, _⟩ => rfl
  rw [after_16]
  exact (congrArg _ hj).trans ((h.dcb _).trans (congrArg (fun x : ℝ => (x : EReal)) (sum_all _)))

theorem final_dwa : (dats m 0 c).arrAt 17 cfg0.N = fun j => ((∑ t : Fin 8192, D.xc t (j 0).val * D.dpa t (j 1).val : ℝ) : EReal) := by
  refine (dats m 0 c).arrAt_eq_of_after_last 17 t0_15 (by decide +kernel) _ fun j => ?_
  blk_simp
  have h : Done D 0 (leave m c t0_15) := done_leave H P t0_15
  have hj : j = ix2 (⟨(j 0).val, (j 0).isLt⟩ : Fin 256) (⟨(j 1).val, (j 1).isLt⟩ : Fin 256) := by
    funext a; match a with | ⟨0, _⟩ => rfl | ⟨1, _⟩ => rfl
  rw [after_17]
  exact (congrArg _ hj).trans ((h.dwa _ _).trans (congrArg (fun x : ℝ => (x : EReal)) (sum_all _)))

theorem final_dba : (dats m 0 c).arrAt 18 cfg0.N = fun j => ((∑ t : Fin 8192, D.dpa t (j 1).val : ℝ) : EReal) := by
  refine (dats m 0 c).arrAt_eq_of_after_last 18 t0_15 (by decide +kernel) _ fun j => ?_
  blk_simp
  have h : Done D 0 (leave m c t0_15) := done_leave H P t0_15
  have hj : j = ix2 (0 : Fin 1) (⟨(j 1).val, (j 1).isLt⟩ : Fin 256) := by
    have h0 : (j 0).val < 1 := (j 0).isLt
    funext a; match a with | ⟨0, _⟩ => exact Fin.ext (by show (j 0).val = 0; omega) | ⟨1, _⟩ => rfl
  rw [after_18]
  exact (congrArg _ hj).trans ((h.dba _).trans (congrArg (fun x : ℝ => (x : EReal)) (sum_all _)))

theorem final_dwx : (dats m 0 c).arrAt 19 cfg0.N = fun j => ((∑ t : Fin 8192, D.xc t (j 0).val * D.dpx t (j 1).val : ℝ) : EReal) := by
  refine (dats m 0 c).arrAt_eq_of_after_last 19 t0_15 (by decide +kernel) _ fun j => ?_
  blk_simp
  have h : Done D 0 (leave m c t0_15) := done_leave H P t0_15
  have hj : j = ix2 (⟨(j 0).val, (j 0).isLt⟩ : Fin 256) (⟨(j 1).val, (j 1).isLt⟩ : Fin 256) := by
    funext a; match a with | ⟨0, _⟩ => rfl | ⟨1, _⟩ => rfl
  rw [after_19]
  exact (congrArg _ hj).trans ((h.dwx _ _).trans (congrArg (fun x : ℝ => (x : EReal)) (sum_all _)))

theorem final_dbx : (dats m 0 c).arrAt 20 cfg0.N = fun j => ((∑ t : Fin 8192, D.dpx t (j 1).val : ℝ) : EReal) := by
  refine (dats m 0 c).arrAt_eq_of_after_last 20 t0_15 (by decide +kernel) _ fun j => ?_
  blk_simp
  have h : Done D 0 (leave m c t0_15) := done_leave H P t0_15
  have hj : j = ix2 (0 : Fin 1) (⟨(j 1).val, (j 1).isLt⟩ : Fin 256) := by
    have h0 : (j 0).val < 1 := (j 0).isLt
    funext a; match a with | ⟨0, _⟩ => exact Fin.ext (by show (j 0).val = 0; omega) | ⟨1, _⟩ => rfl
  rw [after_20]
  exact (congrArg _ hj).trans ((h.dbx _).trans (congrArg (fun x : ℝ => (x : EReal)) (sum_all _)))

theorem final_dlam : (dats m 0 c).arrAt 21 cfg0.N = fun j => ((-((∑ t : Fin 8192, D.dl t (j 1).val) * Real.exp (-D.lam (j 1).val - D.sp (j 1).val)) : ℝ) : EReal) := by
  refine (dats m 0 c).arrAt_eq_of_after_last 21 t0_15 (by decide +kernel) _ fun j => ?_
  blk_simp
  have h : Done D 0 (leave m c t0_15) := done_leave H P t0_15
  have hj : j = ix2 (0 : Fin 1) (⟨(j 1).val, (j 1).isLt⟩ : Fin 256) := by
    have h0 : (j 0).val < 1 := (j 0).isLt
    funext a; match a with | ⟨0, _⟩ => exact Fin.ext (by show (j 0).val = 0; omega) | ⟨1, _⟩ => rfl
  rw [after_21]
  exact (congrArg _ hj).trans ((h.dlam _).trans (congrArg (fun x : ℝ => (x : EReal)) (by rw [sum_all, exp_softplus, mul_neg])))

end Cert.KernelIdeal.Point

end
-- ==== Proof.Algebraic.lean ====
/- The kernel computes, over the real numbers, the gradients that the reference takes. -/
module

public import proofs.«01_k».proof.Proof.Precond
public import proofs.«01_k».proof.Proof.KerSweep
public import proofs.«01_k».proof.Proof.Frames

@[expose] public section

set_option maxRecDepth 16384

noncomputable section

namespace Cert.Mixer

open Idealize.ShloMosaic

/-- The branch's input's gradient. -/
def Inputs.out0 (D : Inputs) : FVec Ideal Cert.KernelIdeal.S8192x256 .bf16 := fun j => ((D.dx (j 0).val (j 1).val : ℝ) : EReal)

/-- The gate's input's gradient. -/
def Inputs.out1 (D : Inputs) : FVec Ideal Cert.KernelIdeal.S8192x256 .bf16 := fun j => ((D.dy (j 0).val (j 1).val : ℝ) : EReal)

/-- The convolution's weights' gradient. -/
def Inputs.out2 (D : Inputs) : FVec Ideal Cert.KernelIdeal.S4x256 .f32 := fun j => ((∑ t : Fin 8192, D.sh (3 - (j 0).val) t (j 1).val * D.dxc t (j 1).val : ℝ) : EReal)

/-- The convolution's bias's gradient. -/
def Inputs.out3 (D : Inputs) : FVec Ideal Cert.KernelIdeal.S1x256 .f32 := fun j => ((∑ t : Fin 8192, D.dxc t (j 1).val : ℝ) : EReal)

/-- The recurrence gate's matrix's gradient. -/
def Inputs.out4 (D : Inputs) : FVec Ideal Cert.KernelIdeal.S256x256 .f32 := fun j => ((∑ t : Fin 8192, D.xc t (j 0).val * D.dpa t (j 1).val : ℝ) : EReal)

/-- The recurrence gate's bias's gradient. -/
def Inputs.out5 (D : Inputs) : FVec Ideal Cert.KernelIdeal.S1x256 .f32 := fun j => ((∑ t : Fin 8192, D.dpa t (j 1).val : ℝ) : EReal)

/-- The input gate's matrix's gradient. -/
def Inputs.out6 (D : Inputs) : FVec Ideal Cert.KernelIdeal.S256x256 .f32 := fun j => ((∑ t : Fin 8192, D.xc t (j 0).val * D.dpx t (j 1).val : ℝ) : EReal)

/-- The input gate's bias's gradient. -/
def Inputs.out7 (D : Inputs) : FVec Ideal Cert.KernelIdeal.S1x256 .f32 := fun j => ((∑ t : Fin 8192, D.dpx t (j 1).val : ℝ) : EReal)

/-- The decay parameter's gradient. -/
def Inputs.out8 (D : Inputs) : FVec Ideal Cert.KernelIdeal.S1x256 .f32 := fun j => ((-((∑ t : Fin 8192, D.dl t (j 1).val) * Real.exp (-D.lam (j 1).val - D.sp (j 1).val)) : ℝ) : EReal)

/-- An array of one row is told by that row. -/
theorem ext_row {f g : Cert.ReferenceIdeal.S1x256.Idx → EReal} (h : ∀ k : Fin 256, f (ix2 0 k) = g (ix2 0 k)) : f = g := by
  funext j
  have e : j = ix2 0 (j 1) := (eq_ix2 j).trans (congrArg (fun x : Fin 1 => (ix2 x (j 1) : Cert.ReferenceIdeal.S1x256.Idx)) (Subsingleton.elim (α := Fin 1) _ _))
  rw [e]
  exact h _

end Cert.Mixer

namespace Cert.Proof

open Idealize.ShloMosaic Idealize.ShloMosaic.StableHlo Idealize.SL.Sem Cert.Mixer

section
open Cert.KernelIdeal Cert.KernelIdeal.Gen Cert.KernelIdeal.Point

/-- What the kernel leaves in its nine results. -/
theorem kernel_run (m : (ℓ : Loc nD τ sig) → Buf (Elt Ideal) ℓ) (ρ : Dev nD → PrngReg) (D : Dev nD → Inputs)
    (H : ∀ c, Hosted.Holds (D c) (fun b => m (c, b))) (P : ∀ c, Decays (D c)) :
    θ_run (defs (F := Ideal)) (onTc (τ := τ) (main (F := Ideal))) ⟨m, fun _ => 0, ρ⟩ (fun r => ∀ c : Dev nD,
      r.2.mem ((c.tc : Thread nD τ).loc main_v92_0) = (D c).out0
      ∧ r.2.mem ((c.tc : Thread nD τ).loc main_v92_1) = (D c).out1
      ∧ r.2.mem ((c.tc : Thread nD τ).loc main_v92_2) = (D c).out2
      ∧ r.2.mem ((c.tc : Thread nD τ).loc main_v92_3) = (D c).out3
      ∧ r.2.mem ((c.tc : Thread nD τ).loc main_v92_4) = (D c).out4
      ∧ r.2.mem ((c.tc : Thread nD τ).loc main_v92_5) = (D c).out5
      ∧ r.2.mem ((c.tc : Thread nD τ).loc main_v92_6) = (D c).out6
      ∧ r.2.mem ((c.tc : Thread nD τ).loc main_v92_7) = (D c).out7
      ∧ r.2.mem ((c.tc : Thread nD τ).loc main_v92_8) = (D c).out8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h.1.1 c).1 13 |>.trans (final_dx (H c) (P c)),
      (h.1.1 c).1 14 |>.trans (final_dy (H c)),
      (h.1.1 c).1 15 |>.trans (final_dw (H c) (P c)),
      (h.1.1 c).1 16 |>.trans (final_dcb (H c) (P c)),
      (h.1.1 c).1 17 |>.trans (final_dwa (H c) (P c)),
      (h.1.1 c).1 18 |>.trans (final_dba (H c) (P c)),
      (h.1.1 c).1 19 |>.trans (final_dwx (H c) (P c)),
      (h.1.1 c).1 20 |>.trans (final_dbx (H c) (P c)),
      (h.1.1 c).1 21 |>.trans (final_dlam (H c) (P c)),
      h.2.1 c⟩)
    (θ_run_and (run_program m ρ) (frame_any m ρ))

end

section
open Cert.ReferenceIdeal Cert.ReferenceIdeal.Gen Cert.ReferenceIdeal.Value

/-- What the reference leaves in its nine results. -/
theorem reference_run (m : (ℓ : Loc nD τ sig) → Buf (Elt Ideal) ℓ) (ρ : Dev nD → PrngReg) (D : Dev nD → Inputs)
    (H : ∀ c, Holds (D c) (launchContents m c)) (A : ∀ c, Above (D c)) :
    θ_run (defs (F := Ideal)) (onTc (τ := τ) (main (F := Ideal))) ⟨m, fun _ => 0, ρ⟩ (fun r => ∀ c : Dev nD,
      r.2.mem ((c.tc : Thread nD τ).loc main_v251) = (D c).out0
      ∧ r.2.mem ((c.tc : Thread nD τ).loc main_v252) = (D c).out1
      ∧ r.2.mem ((c.tc : Thread nD τ).loc main_v246) = (D c).out2
      ∧ r.2.mem ((c.tc : Thread nD τ).loc main_v206) = (D c).out3
      ∧ r.2.mem ((c.tc : Thread nD τ).loc main_v195) = (D c).out4
      ∧ r.2.mem ((c.tc : Thread nD τ).loc main_v193) = (D c).out5
      ∧ r.2.mem ((c.tc : Thread nD τ).loc main_v202) = (D c).out6
      ∧ r.2.mem ((c.tc : Thread nD τ).loc main_v200) = (D c).out7
      ∧ r.2.mem ((c.tc : Thread nD τ).loc main_v188) = (D c).out8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c => by
    obtain ⟨h0, h1, h2, h3, h4, h5, h6, h7, h8, h9⟩ := h c
    refine ⟨h0.trans ?_, h1.trans ?_, h2.trans ?_, h3.trans ?_, h4.trans ?_, h5.trans ?_, h6.trans ?_, h7.trans ?_, h8.trans ?_, h9⟩
    · funext j
      rw [eq_ix2 j]
      exact at_dx (H c) (A c) (j 0) (j 1)
    · funext j
      rw [eq_ix2 j]
      exact at_dy (H c) (A c) (j 0) (j 1)
    · funext j
      rw [eq_ix2 j]
      exact at_dw (H c) (A c) (j 0) (j 1)
    · exact ext_row fun k => at_dcb (H c) (A c) k
    · funext j
      rw [eq_ix2 j]
      exact at_dwa (H c) (A c) (j 0) (j 1)
    · exact ext_row fun k => at_dba (H c) (A c) k
    · funext j
      rw [eq_ix2 j]
      exact at_dwx (H c) (A c) (j 0) (j 1)
    · exact ext_row fun k => at_dbx (H c) (A c) k
    · exact ext_row fun k => at_dlam (H c) (A c) k
  ) (run (F := Ideal) m ρ)

end

/-- From any arguments that the precondition allows, the kernel's nine results are, number for number over the reals,
    the gradients that the reference's pullback gives. -/
theorem algebraic : Cert.algebraic_KernelIdeal_ReferenceIdeal_pre_real_and_decaying := fun m ρ m' ρ' hp ha => by
  choose D hD using holds_of_pre m hp
  have H : ∀ c, Cert.ReferenceIdeal.Value.Holds (D c) (launchContents m' c) := fun c => by
    obtain ⟨e0, e1, e2, e3, e4, e5, e6, e7, e8⟩ := ha c
    have h := (hD c).1
    exact {
      x := fun t k => (congrFun e0 _).trans (h.x t k)
      y := fun t k => (congrFun e0 _).trans (h.y t k)
      w := fun j k => (congrFun e1 _).trans (h.w j k)
      cb := fun k => (congrFun e2 _).trans (h.cb k)
      wa := fun x k => (congrFun e3 _).trans (h.wa x k)
      ba := fun k => (congrFun e4 _).trans (h.ba k)
      wx := fun x k => (congrFun e5 _).trans (h.wx x k)
      bx := fun k => (congrFun e6 _).trans (h.bx k)
      lam := fun k => (congrFun e7 _).trans (h.lam k)
      dm := fun t k => (congrFun e8 _).trans (h.dm t k) }
  exact ⟨fun c => (D c).out0, fun c => (D c).out1, fun c => (D c).out2, fun c => (D c).out3, fun c => (D c).out4, fun c => (D c).out5, fun c => (D c).out6, fun c => (D c).out7, fun c => (D c).out8,
    kernel_run m ρ D (fun c => (hD c).1) (fun c => (hD c).2),
    reference_run m' ρ' D H (fun c => above_of_decays _ (hD c).2)⟩

/-- The kernel's frame, where the precondition holds. -/
theorem frame_ideal_pre : Cert.quiescent_KernelIdeal_pre_real_and_decaying := fun m ρ _ => frame_ideal m ρ trivial

/-- The reference's frame, where the precondition holds. -/
theorem frame_reference_pre : Cert.quiescent_ReferenceIdeal_pre_real_and_decaying := fun m ρ _ => frame_reference m ρ trivial

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.FeedForward
public import proofs.«01_k».proof.Proof.Dh2
public import proofs.«01_k».proof.Proof.Dact
public import proofs.«01_k».proof.Proof.DwUp
public import proofs.«01_k».proof.Proof.DwDown
public import proofs.«01_k».proof.Proof.Up
public import proofs.«01_k».proof.Proof.Down
public import proofs.«01_k».proof.Proof.Algebraic

@[expose] public section

noncomputable section

namespace Cert.Proof

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, facts_pre,
    frame_kernel, frame_ideal, frame_ideal_pre, frame_reference, frame_reference_pre,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    preserves, algebraic,
    preserves2, Cert.Dh2.algebraic,
    preserves3, Cert.Dact.algebraic,
    preserves4, Cert.DwUp.algebraic,
    preserves5, Cert.DwDown.algebraic,
    preserves6, Cert.Up.algebraic,
    preserves7, Cert.Down.algebraic⟩

end Cert.Proof

end
